-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_segments [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments [hPre_sorted_segments : Cert.Pre_sorted_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sorted_segments [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_segments m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_segments [hReferenceIdeal : Cert.ReferenceIdeal.Facts] [hPre_sorted_segments : Cert.Pre_sorted_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sorted_segments [hKernelIdeal : Cert.KernelIdeal.Facts] [hReferenceIdeal : Cert.ReferenceIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v352) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_segments : Cert.Pre_sorted_segments.Facts),
    quiescent_Kernel (hKernel := hKernel)
    ∧ quiescent_KernelIdeal (hKernelIdeal := hKernelIdeal)
    ∧ quiescent_KernelIdeal_pre_sorted_segments (hKernelIdeal := hKernelIdeal) (hPre_sorted_segments := hPre_sorted_segments)
    ∧ quiescent_ReferenceIdeal (hReferenceIdeal := hReferenceIdeal)
    ∧ quiescent_ReferenceIdeal_pre_sorted_segments (hReferenceIdeal := hReferenceIdeal) (hPre_sorted_segments := hPre_sorted_segments)
    ∧ preserves_Kernel_KernelIdeal
    ∧ algebraic_KernelIdeal_ReferenceIdeal_pre_sorted_segments (hKernelIdeal := hKernelIdeal) (hReferenceIdeal := hReferenceIdeal) (hPre_sorted_segments := hPre_sorted_segments)
-- ==== Pre_sorted_segments.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S1x100000 : Shape := ⟨2, ![1, 100000]⟩
abbrev S512x1 : Shape := ⟨2, ![512, 1]⟩
abbrev S512x100000 : Shape := ⟨2, ![512, 100000]⟩
abbrev S_ : Shape := ⟨0, ![]⟩
abbrev S1x512 : Shape := ⟨2, ![1, 512]⟩
abbrev S512x512 : Shape := ⟨2, ![512, 512]⟩
abbrev S99999 : Shape := ⟨1, ![99999]⟩

class Facts : Prop where
  bcast_S100000_S1x100000_1 : S100000.BroadcastsInDim S1x100000 (![1] : Fin 1 → Fin S1x100000.rank)
  bcast_S512_S512x1_0 : S512.BroadcastsInDim S512x1 (![0] : Fin 1 → Fin S512x1.rank)
  bcast_S1x100000_S512x100000_0_1 : S1x100000.BroadcastsInDim S512x100000 (![0, 1] : Fin 2 → Fin S512x100000.rank)
  bcast_S512x1_S512x100000_0_1 : S512x1.BroadcastsInDim S512x100000 (![0, 1] : Fin 2 → Fin S512x100000.rank)
  natLt_1_32 : 1 < 32
  reducesTo_S512x100000_S512_d1 : S512x100000.ReducesTo [1] S512
  h_S_ : 0 < S_.numel
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x1_S512x512_0_1 : S512x1.BroadcastsInDim S512x512 (![0, 1] : Fin 2 → Fin S512x512.rank)
  bcast_S_S512x1 : S_.BroadcastsInDim S512x1 (![] : Fin 0 → Fin S512x1.rank)
  bcast_S_S512 : S_.BroadcastsInDim S512 (![] : Fin 0 → Fin S512.rank)
  reducesTo_S512x512_S512_d1 : S512x512.ReducesTo [1] S512
  bcast_S_S100000 : S_.BroadcastsInDim S100000 (![] : Fin 0 → Fin S100000.rank)
  slices_S100000_S99999_0 : S100000.Slices ![0] S99999
  slices_S100000_S99999_1 : S100000.Slices ![1] S99999

variable [Facts]

def fn_part1 {F : FTy → Type} [FloatOps F] (main_arg1 : IVec S100000 32) (main_v7 : IVec S512 32) (main_v20 : IVec S512x512 1) (main_c_1 : IVec S_ 32) : IVec S100000 1 × IVec S99999 1 × IVec S512 1 :=
  let main_v21 : IVec S512 32 := broadcastInDim S512 ![] bcast_S_S512 main_c_1
  let main_v22 : IVec S512 1 := cmpi .eq main_v7 main_v21
  let main_v23 : IVec S1x512 1 := broadcastInDim S1x512 ![1] bcast_S512_S1x512_1 main_v22
  let main_v24 : IVec S512x512 1 := broadcastInDim S512x512 ![0, 1] bcast_S1x512_S512x512_0_1 main_v23
  let main_v25 : IVec S512x512 1 := andi main_v20 main_v24
  let main_v26 : IVec S512x512 32 := (extui 32 · natLt_1_32) main_v25
  let main_c_2 : IVec S_ 32 := constantI S_ 32 0#32
  let main_v27 : IVec S512 32 := (fun x v => Host.reduce IntOp.addi x v reducesTo_S512x512_S512_d1 h_S_) main_v26 main_c_2
  let main_c_3 : IVec S_ 32 := constantI S_ 32 0#32
  let main_v28 : IVec S100000 32 := broadcastInDim S100000 ![] bcast_S_S100000 main_c_3
  let main_v29 : IVec S100000 1 := cmpi .sge main_arg1 main_v28
  let main_c_4 : IVec S_ 32 := constantI S_ 32 512#32
  let main_v30 : IVec S100000 32 := broadcastInDim S100000 ![] bcast_S_S100000 main_c_4
  let main_v31 : IVec S100000 1 := cmpi .slt main_arg1 main_v30
  let main_v32 : IVec S100000 1 := andi main_v29 main_v31
  let main_v33 : IVec S99999 32 := (extractStridedSlice S99999 ![0] · slices_S100000_S99999_0) main_arg1
  let main_v34 : IVec S99999 32 := (extractStridedSlice S99999 ![1] · slices_S100000_S99999_1) main_arg1
  let main_v35 : IVec S99999 1 := cmpi .sle main_v33 main_v34
  let main_c_5 : IVec S_ 32 := constantI S_ 32 9#32
  let main_v36 : IVec S512 32 := broadcastInDim S512 ![] bcast_S_S512 main_c_5
  let main_v37 : IVec S512 1 := cmpi .sle main_v27 main_v36
  (main_v32, main_v35, main_v37)

def fn {F : FTy → Type} [FloatOps F] (main_arg0 : FVec F S100000x128 .f32) (main_arg1 : IVec S100000 32) (main_arg2 : FVec F S512x256 .f32) (main_arg3 : FVec F S512x128 .f32) (main_arg4 : FVec F S512 .f32) (main_arg5 : FVec F S512 .f32) : IVec S100000 1 × IVec S99999 1 × IVec S512 1 :=
  let main_v0 : IVec S512 32 := iotaInDim S512 32 0
  let main_v1 : IVec S1x100000 32 := broadcastInDim S1x100000 ![1] bcast_S100000_S1x100000_1 main_arg1
  let main_v2 : IVec S512x1 32 := broadcastInDim S512x1 ![0] bcast_S512_S512x1_0 main_v0
  let main_v3 : IVec S512x100000 32 := broadcastInDim S512x100000 ![0, 1] bcast_S1x100000_S512x100000_0_1 main_v1
  let main_v4 : IVec S512x100000 32 := broadcastInDim S512x100000 ![0, 1] bcast_S512x1_S512x100000_0_1 main_v2
  let main_v5 : IVec S512x100000 1 := cmpi .eq main_v3 main_v4
  let main_v6 : IVec S512x100000 32 := (extui 32 · natLt_1_32) main_v5
  let main_c : IVec S_ 32 := constantI S_ 32 0#32
  let main_v7 : IVec S512 32 := (fun x v => Host.reduce IntOp.addi x v reducesTo_S512x100000_S512_d1 h_S_) main_v6 main_c
  let main_v8 : IVec S1x512 32 := broadcastInDim S1x512 ![1] bcast_S512_S1x512_1 main_v0
  let main_v9 : IVec S512x1 32 := broadcastInDim S512x1 ![0] bcast_S512_S512x1_0 main_v0
  let main_v10 : IVec S512x512 32 := broadcastInDim S512x512 ![0, 1] bcast_S1x512_S512x512_0_1 main_v8
  let main_v11 : IVec S512x512 32 := broadcastInDim S512x512 ![0, 1] bcast_S512x1_S512x512_0_1 main_v9
  let main_v12 : IVec S512x512 1 := cmpi .sge main_v10 main_v11
  let main_v13 : IVec S1x512 32 := broadcastInDim S1x512 ![1] bcast_S512_S1x512_1 main_v0
  let main_v14 : IVec S512x1 32 := broadcastInDim S512x1 ![0] bcast_S512_S512x1_0 main_v0
  let main_c_0 : IVec S_ 32 := constantI S_ 32 72#32
  let main_v15 : IVec S512x1 32 := broadcastInDim S512x1 ![] bcast_S_S512x1 main_c_0
  let main_v16 : IVec S512x1 32 := addi main_v14 main_v15
  let main_v17 : IVec S512x512 32 := broadcastInDim S512x512 ![0, 1] bcast_S1x512_S512x512_0_1 main_v13
  let main_v18 : IVec S512x512 32 := broadcastInDim S512x512 ![0, 1] bcast_S512x1_S512x512_0_1 main_v16
  let main_v19 : IVec S512x512 1 := cmpi .slt main_v17 main_v18
  let main_v20 : IVec S512x512 1 := andi main_v12 main_v19
  let main_c_1 : IVec S_ 32 := constantI S_ 32 0#32
  fn_part1 (F := F) main_arg1 main_v7 main_v20 main_c_1
-- ==== Kernel.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S513 : Shape := ⟨1, ![513]⟩
abbrev S1x100000 : Shape := ⟨2, ![1, 100000]⟩
abbrev S513x1 : Shape := ⟨2, ![513, 1]⟩
abbrev S513x100000 : Shape := ⟨2, ![513, 100000]⟩
abbrev S_ : Shape := ⟨0, ![]⟩
abbrev S1 : Shape := ⟨1, ![1]⟩
abbrev S3648 : Shape := ⟨1, ![3648]⟩
abbrev S512x1 : Shape := ⟨2, ![512, 1]⟩
abbrev S1x3648 : Shape := ⟨2, ![1, 3648]⟩
abbrev S512x3648 : Shape := ⟨2, ![512, 3648]⟩
abbrev S116736 : Shape := ⟨1, ![116736]⟩
abbrev S3648x1 : Shape := ⟨2, ![3648, 1]⟩
abbrev S3648x32 : Shape := ⟨2, ![3648, 32]⟩
abbrev S57 : Shape := ⟨1, ![57]⟩
abbrev S32x38x96 : Shape := ⟨3, ![32, 38, 96]⟩
abbrev S116736x128 : Shape := ⟨2, ![116736, 128]⟩
abbrev S38x96 : Shape := ⟨2, ![38, 96]⟩
abbrev S96x128 : Shape := ⟨2, ![96, 128]⟩
abbrev S1x38x96 : Shape := ⟨3, ![1, 38, 96]⟩
abbrev S1x96 : Shape := ⟨2, ![1, 96]⟩
abbrev S96 : Shape := ⟨1, ![96]⟩
abbrev S57x1x2048 : Shape := ⟨3, ![57, 1, 2048]⟩
abbrev S1x512 : Shape := ⟨2, ![1, 512]⟩
abbrev S2048x128 : Shape := ⟨2, ![2048, 128]⟩
abbrev S1x1x2048 : Shape := ⟨3, ![1, 1, 2048]⟩
abbrev S592x128 : Shape := ⟨2, ![592, 128]⟩
abbrev S592x1 : Shape := ⟨2, ![592, 1]⟩
abbrev S512x512 : Shape := ⟨2, ![512, 512]⟩
abbrev S1x2048 : Shape := ⟨2, ![1, 2048]⟩
abbrev S80x2048 : Shape := ⟨2, ![80, 2048]⟩
abbrev S80x128 : Shape := ⟨2, ![80, 128]⟩
abbrev S80x1 : Shape := ⟨2, ![80, 1]⟩
abbrev S80 : Shape := ⟨1, ![80]⟩
abbrev S2048 : Shape := ⟨1, ![2048]⟩

abbrev nBuf : Table → Nat
  | .hbm => 147
  | .local .tc .vmem => 14
  | .local .tc .smem => 1
  | .local .scVector .vmem => 3
  | _ => 0

abbrev hbmTy0_0 (i : Nat) : BufTy := match i % 128 with
  | 0 => ⟨S100000x128, .f32⟩
  | 1 => ⟨S100000, .i32⟩
  | 2 => ⟨S512x256, .f32⟩
  | 3 => ⟨S512x128, .f32⟩
  | 4 => ⟨S512, .f32⟩
  | 5 => ⟨S512, .f32⟩
  | 6 => ⟨S513, .i32⟩
  | 7 => ⟨S1x100000, .i32⟩
  | 8 => ⟨S513x1, .i32⟩
  | 9 => ⟨S513x100000, .i32⟩
  | 10 => ⟨S513x100000, .i32⟩
  | 11 => ⟨S513x100000, .i1⟩
  | 12 => ⟨S513x100000, .i32⟩
  | 13 => ⟨S_, .i32⟩
  | 14 => ⟨S513, .i32⟩
  | 15 => ⟨S512, .i32⟩
  | 16 => ⟨S512, .i32⟩
  | 17 => ⟨S512, .i32⟩
  | 18 => ⟨S_, .i32⟩
  | 19 => ⟨S512, .i32⟩
  | 20 => ⟨S512, .i32⟩
  | 21 => ⟨S_, .i32⟩
  | 22 => ⟨S512, .i32⟩
  | 23 => ⟨S512, .i32⟩
  | 24 => ⟨S_, .i32⟩
  | 25 => ⟨S_, .i32⟩
  | 26 => ⟨S512, .i32⟩
  | 27 => ⟨S512, .i32⟩
  | 28 => ⟨S512, .i32⟩
  | 29 => ⟨S_, .i32⟩
  | 30 => ⟨S512, .i32⟩
  | 31 => ⟨S512, .i1⟩
  | 32 => ⟨S512, .i32⟩
  | 33 => ⟨S512, .i32⟩
  | 34 => ⟨S_, .i32⟩
  | 35 => ⟨S512, .i32⟩
  | 36 => ⟨S512, .i1⟩
  | 37 => ⟨S512, .i1⟩
  | 38 => ⟨S_, .i32⟩
  | 39 => ⟨S512, .i32⟩
  | 40 => ⟨S512, .i32⟩
  | 41 => ⟨S512, .i32⟩
  | 42 => ⟨S_, .i32⟩
  | 43 => ⟨S512, .i32⟩
  | 44 => ⟨S512, .i32⟩
  | 45 => ⟨S_, .i32⟩
  | 46 => ⟨S1, .i32⟩
  | 47 => ⟨S_, .i32⟩
  | 48 => ⟨S_, .i32⟩
  | 49 => ⟨S512, .i32⟩
  | 50 => ⟨S513, .i32⟩
  | 51 => ⟨S512, .i32⟩
  | 52 => ⟨S512, .i32⟩
  | 53 => ⟨S512, .i32⟩
  | 54 => ⟨S512, .i32⟩
  | 55 => ⟨S512, .i32⟩
  | 56 => ⟨S3648, .i32⟩
  | 57 => ⟨S_, .i32⟩
  | 58 => ⟨S3648, .i32⟩
  | 59 => ⟨S3648, .i32⟩
  | 60 => ⟨S512, .i32⟩
  | 61 => ⟨S512x1, .i32⟩
  | 62 => ⟨S1x3648, .i32⟩
  | 63 => ⟨S512x3648, .i32⟩
  | 64 => ⟨S512x3648, .i32⟩
  | 65 => ⟨S512x3648, .i1⟩
  | 66 => ⟨S512x1, .i32⟩
  | 67 => ⟨S_, .i32⟩
  | 68 => ⟨S_, .i32⟩
  | 69 => ⟨S512x3648, .i32⟩
  | 70 => ⟨S512x3648, .i32⟩
  | 71 => ⟨S512x3648, .i32⟩
  | 72 => ⟨S_, .i32⟩
  | 73 => ⟨S3648, .i32⟩
  | 74 => ⟨S512x1, .i32⟩
  | 75 => ⟨S_, .i32⟩
  | 76 => ⟨S_, .i32⟩
  | 77 => ⟨S512x3648, .i32⟩
  | 78 => ⟨S512x3648, .i32⟩
  | 79 => ⟨S512x3648, .i32⟩
  | 80 => ⟨S_, .i32⟩
  | 81 => ⟨S3648, .i32⟩
  | 82 => ⟨S512, .i32⟩
  | 83 => ⟨S512x1, .i32⟩
  | 84 => ⟨S1x3648, .i32⟩
  | 85 => ⟨S512x3648, .i32⟩
  | 86 => ⟨S512x3648, .i32⟩
  | 87 => ⟨S512x3648, .i1⟩
  | 88 => ⟨S512x3648, .i32⟩
  | 89 => ⟨S_, .i32⟩
  | 90 => ⟨S3648, .i32⟩
  | 91 => ⟨S116736, .i32⟩
  | 92 => ⟨S3648x1, .i32⟩
  | 93 => ⟨S3648x32, .i32⟩
  | 94 => ⟨S116736, .i32⟩
  | 95 => ⟨S116736, .i1⟩
  | 96 => ⟨S3648x1, .i32⟩
  | 97 => ⟨S3648x32, .i32⟩
  | 98 => ⟨S116736, .i32⟩
  | 99 => ⟨S116736, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S116736, .i32⟩
  | 107 => ⟨S116736, .i32⟩
  | 108 => ⟨S_, .i32⟩
  | 109 => ⟨S116736, .i32⟩
  | 110 => ⟨S116736, .i1⟩
  | 111 => ⟨S_, .i32⟩
  | 112 => ⟨S116736, .i32⟩
  | 113 => ⟨S116736, .i1⟩
  | 114 => ⟨S_, .i32⟩
  | 115 => ⟨S_, .i1⟩
  | 116 => ⟨S116736, .i1⟩
  | 117 => ⟨S116736, .i1⟩
  | 118 => ⟨S116736, .i1⟩
  | 119 => ⟨S116736, .i32⟩
  | 120 => ⟨S116736, .i32⟩
  | 121 => ⟨S116736, .i32⟩
  | 122 => ⟨S116736, .i32⟩
  | 123 => ⟨S_, .i32⟩
  | 124 => ⟨S_, .i32⟩
  | 125 => ⟨S_, .i32⟩
  | 126 => ⟨S116736, .i32⟩
  | 127 => ⟨S116736, .i32⟩
  | _ => ⟨S100000x128, .f32⟩

abbrev hbmTy0_1 (i : Nat) : BufTy := match i % 128 with
  | 0 => ⟨S_, .i32⟩
  | 1 => ⟨S116736, .i32⟩
  | 2 => ⟨S116736, .i32⟩
  | 3 => ⟨S3648x1, .i32⟩
  | 4 => ⟨S3648x32, .i32⟩
  | 5 => ⟨S116736, .i32⟩
  | 6 => ⟨S_, .i32⟩
  | 7 => ⟨S_, .i32⟩
  | 8 => ⟨S116736, .i32⟩
  | 9 => ⟨S116736, .i32⟩
  | 10 => ⟨S57, .i32⟩
  | 11 => ⟨S_, .i32⟩
  | 12 => ⟨S57, .i32⟩
  | 13 => ⟨S32x38x96, .i32⟩
  | 14 => ⟨S116736x128, .f32⟩
  | 15 => ⟨S57x1x2048, .i32⟩
  | 16 => ⟨S512, .f32⟩
  | 17 => ⟨S1x512, .f32⟩
  | 18 => ⟨S512x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (nBuf tb) → BufTy
  | .hbm, ⟨i, _⟩ => hbmTy i
  | .local .tc .vmem, ⟨0, _⟩ => ⟨S2048x128, .f32⟩
  | .local .tc .vmem, ⟨1, _⟩ => ⟨S2048x128, .f32⟩
  | .local .tc .vmem, ⟨2, _⟩ => ⟨S1x1x2048, .i32⟩
  | .local .tc .vmem, ⟨3, _⟩ => ⟨S1x1x2048, .i32⟩
  | .local .tc .vmem, ⟨4, _⟩ => ⟨S512x256, .f32⟩
  | .local .tc .vmem, ⟨5, _⟩ => ⟨S512x128, .f32⟩
  | .local .tc .vmem, ⟨6, _⟩ => ⟨S1x512, .f32⟩
  | .local .tc .vmem, ⟨7, _⟩ => ⟨S512x256, .f32⟩
  | .local .tc .vmem, ⟨8, _⟩ => ⟨S512x256, .f32⟩
  | .local .tc .vmem, ⟨9, _⟩ => ⟨S592x128, .f32⟩
  | .local .tc .vmem, ⟨10, _⟩ => ⟨S512x128, .f32⟩
  | .local .tc .vmem, ⟨11, _⟩ => ⟨S592x1, .f32⟩
  | .local .tc .vmem, ⟨12, _⟩ => ⟨S592x1, .f32⟩
  | .local .tc .vmem, ⟨13, _⟩ => ⟨S592x128, .f32⟩
  | .local .tc .smem, ⟨0, _⟩ => ⟨S57, .i32⟩
  | .local .scVector .vmem, ⟨0, _⟩ => ⟨S38x96, .i32⟩
  | .local .scVector .vmem, ⟨1, _⟩ => ⟨S96x128, .f32⟩
  | .local .scVector .vmem, ⟨2, _⟩ => ⟨S96x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v15 : Ref sig .tc := ⟨.hbm, 41, rfl⟩
abbrev main_c_3 : Ref sig .tc := ⟨.hbm, 42, rfl⟩
abbrev main_v16 : Ref sig .tc := ⟨.hbm, 43, rfl⟩
abbrev main_v17 : Ref sig .tc := ⟨.hbm, 44, rfl⟩
abbrev main_c_4 : Ref sig .tc := ⟨.hbm, 45, rfl⟩
abbrev main_v18 : Ref sig .tc := ⟨.hbm, 46, rfl⟩
abbrev main_call1_call0_c : Ref sig .tc := ⟨.hbm, 47, rfl⟩
abbrev main_call1_call0_v0 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_c_5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_6 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v36 : Ref sig .tc := ⟨.hbm, 71, rfl⟩
abbrev main_c_7 : Ref sig .tc := ⟨.hbm, 72, rfl⟩
abbrev main_v37 : Ref sig .tc := ⟨.hbm, 73, rfl⟩
abbrev main_v38 : Ref sig .tc := ⟨.hbm, 74, rfl⟩
abbrev main_c_8 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v39 : Ref sig .tc := ⟨.hbm, 79, rfl⟩
abbrev main_c_9 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_c_10 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_c_11 : Ref sig .tc := ⟨.hbm, 100, rfl⟩
abbrev main_call4_v0 : Ref sig .tc := ⟨.hbm, 101, rfl⟩
abbrev main_call4_c : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_c_1 : Ref sig .tc := ⟨.hbm, 108, rfl⟩
abbrev main_call4_v5 : Ref sig .tc := ⟨.hbm, 109, rfl⟩
abbrev main_call4_v6 : Ref sig .tc := ⟨.hbm, 110, rfl⟩
abbrev main_call4_c_2 : Ref sig .tc := ⟨.hbm, 111, rfl⟩
abbrev main_call4_v7 : Ref sig .tc := ⟨.hbm, 112, rfl⟩
abbrev main_call4_v8 : Ref sig .tc := ⟨.hbm, 113, rfl⟩
abbrev main_call4_c_3 : Ref sig .tc := ⟨.hbm, 114, rfl⟩
abbrev main_call4_v9 : Ref sig .tc := ⟨.hbm, 115, rfl⟩
abbrev main_call4_v10 : Ref sig .tc := ⟨.hbm, 116, rfl⟩
abbrev main_call4_v11 : Ref sig .tc := ⟨.hbm, 117, rfl⟩
abbrev main_call4_v12 : Ref sig .tc := ⟨.hbm, 118, rfl⟩
abbrev main_call4_v13 : Ref sig .tc := ⟨.hbm, 119, rfl⟩
abbrev main_call4_v14 : Ref sig .tc := ⟨.hbm, 120, rfl⟩
abbrev main_v58 : Ref sig .tc := ⟨.hbm, 121, rfl⟩
abbrev main_v59 : Ref sig .tc := ⟨.hbm, 122, rfl⟩
abbrev main_c_12 : Ref sig .tc := ⟨.hbm, 123, rfl⟩
abbrev main_c_13 : Ref sig .tc := ⟨.hbm, 124, rfl⟩
abbrev main_call6_v0 : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_c_14 : Ref sig .tc := ⟨.hbm, 134, rfl⟩
abbrev main_call7_v0 : Ref sig .tc := ⟨.hbm, 135, rfl⟩
abbrev main_call7_v1 : Ref sig .tc := ⟨.hbm, 136, rfl⟩
abbrev main_v64 : Ref sig .tc := ⟨.hbm, 137, rfl⟩
abbrev main_v65 : Ref sig .tc := ⟨.hbm, 138, rfl⟩
abbrev main_c_15 : Ref sig .tc := ⟨.hbm, 139, rfl⟩
abbrev main_v66 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v67 : Ref sig .tc := ⟨.smem, 0, rfl⟩
abbrev main_arg0_scv : Ref sig .scVector := ⟨.hbm, 0, rfl⟩
abbrev main_v68_scv : Ref sig .scVector := ⟨.hbm, 141, rfl⟩
abbrev main_v69_scv : Ref sig .scVector := ⟨.hbm, 142, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_scratch0 : Ref sig .tc := ⟨.vmem, 8, rfl⟩
abbrev cc1_scratch1 : Ref sig .tc := ⟨.vmem, 9, rfl⟩
abbrev cc1_scratch2 : Ref sig .tc := ⟨.vmem, 10, rfl⟩
abbrev cc1_scratch3 : Ref sig .tc := ⟨.vmem, 11, rfl⟩
abbrev cc1_scratch4 : Ref sig .tc := ⟨.vmem, 12, rfl⟩
abbrev cc1_scratch5 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  ![v1.toNat, 0, 0]
@[reducible] def k0_t1_loop : Scf.Loop 32 :=
  let c0_i32_0 : BitVec 32 := 0#32
  let c19_i32 : BitVec 32 := 19#32
  let v3 : BitVec 32 := Scalar.addi c0_i32_0 c19_i32
  let c1_i32 : BitVec 32 := 1#32
  ⟨c0_i32_0, v3, c1_i32⟩
def k0_off2 (k0_t1 : Fin k0_t1_loop.trips) : Fin 2 → Nat :=
  let c2_i32_2 : BitVec 32 := 2#32
  let c0_i32_0 : BitVec 32 := 0#32
  let c1_i32 : BitVec 32 := 1#32
  let arg10 : BitVec 32 := Scf.iv c0_i32_0 c1_i32 k0_t1
  let v5 : BitVec 32 := Scalar.muli c2_i32_2 arg10
  let c0_i32_5 : BitVec 32 := 0#32
  ![v5.toNat, 0]
def k0_off3 (k0_t1 : Fin k0_t1_loop.trips) : Fin 2 → Nat :=
  let c2_i32_3 : BitVec 32 := 2#32
  let c0_i32_0 : BitVec 32 := 0#32
  let c1_i32 : BitVec 32 := 1#32
  let arg10 : BitVec 32 := Scf.iv c0_i32_0 c1_i32 k0_t1
  let v6 : BitVec 32 := Scalar.muli c2_i32_3 arg10
  let c1_i32_4 : BitVec 32 := 1#32
  let v7 : BitVec 32 := Scalar.addi v6 c1_i32_4
  let c0_i32_8 : BitVec 32 := 0#32
  ![v7.toNat, 0]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3648_i32 : BitVec 32 := 3648#32
  let v2 : BitVec 32 := Scalar.muli v1 c3648_i32
  let c2_i32_2 : BitVec 32 := 2#32
  let c0_i32_0 : BitVec 32 := 0#32
  let c1_i32 : BitVec 32 := 1#32
  let arg10 : BitVec 32 := Scf.iv c0_i32_0 c1_i32 k0_t1
  let v5 : BitVec 32 := Scalar.muli c2_i32_2 arg10
  let c96_i32 : BitVec 32 := 96#32
  let v17 : BitVec 32 := Scalar.muli v5 c96_i32
  let v18 : BitVec 32 := Scalar.addi v2 v17
  let c0_i32_19_r1 : BitVec 32 := 0#32
  ![v18.toNat, 0]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3648_i32 : BitVec 32 := 3648#32
  let v2 : BitVec 32 := Scalar.muli v1 c3648_i32
  let c2_i32_3 : BitVec 32 := 2#32
  let c0_i32_0 : BitVec 32 := 0#32
  let c1_i32 : BitVec 32 := 1#32
  let arg10 : BitVec 32 := Scf.iv c0_i32_0 c1_i32 k0_t1
  let v6 : BitVec 32 := Scalar.muli c2_i32_3 arg10
  let c1_i32_4 : BitVec 32 := 1#32
  let v7 : BitVec 32 := Scalar.addi v6 c1_i32_4
  let c96_i32_17 : BitVec 32 := 96#32
  let v22 : BitVec 32 := Scalar.muli v7 c96_i32_17
  let v23 : BitVec 32 := Scalar.addi v2 v22
  let c0_i32_19_r2 : BitVec 32 := 0#32
  ![v23.toNat, 0]
abbrev grid1 : Pipeline.Grid := ⟨2, ![4, 57], ![false, false]⟩

abbrev pre1 : Pipeline.Prefetch sig := ⟨1, ![main_v67.idx], fun | 0 => main_v67.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg1 : BitVec 32 := BitVec.ofNat 32 (i 1).val
  let v8 : Index := Scalar.indexCast arg1
  ![v8.toNat]
def k1_mult1 (v9 : BitVec 32) : BitVec 32 :=
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c8_i32 : BitVec 32 := 8#32
  let c0_i32_6 : BitVec 32 := 0#32
  let v16 : BitVec 1 := Scalar.cmpi .sgt c8_i32 c0_i32_6
  let v17 : BitVec 32 := Scalar.extui v16
  let c0_i32_7 : BitVec 32 := 0#32
  let v18 : BitVec 1 := Scalar.cmpi .slt c8_i32 c0_i32_7
  let v19 : BitVec 32 := Scalar.extui v18
  let v20 : BitVec 32 := Scalar.subi v17 v19
  let v21 : BitVec 1 := Scalar.cmpi .ne v15 v20
  let v22 : BitVec 32 := Scalar.remsi v9 c8_i32
  let c0_i32_8 : BitVec 32 := 0#32
  let v23 : BitVec 1 := Scalar.cmpi .ne v22 c0_i32_8
  let v24 : BitVec 1 := Scalar.andi v21 v23
  let v10 : BitVec 32 := Scalar.divsi v9 c8_i32
  let c1_i32 : BitVec 32 := 1#32
  let v25 : BitVec 32 := Scalar.subi v10 c1_i32
  let v26 : BitVec 32 := Scalar.select v24 v25 v10
  let c8_i32_9 : BitVec 32 := 8#32
  let v27 : BitVec 32 := Scalar.muli v26 c8_i32_9
  v27

def k1_off2 (v9 : BitVec 32) : Fin 2 → Nat :=
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c8_i32 : BitVec 32 := 8#32
  let c0_i32_6 : BitVec 32 := 0#32
  let v16 : BitVec 1 := Scalar.cmpi .sgt c8_i32 c0_i32_6
  let v17 : BitVec 32 := Scalar.extui v16
  let c0_i32_7 : BitVec 32 := 0#32
  let v18 : BitVec 1 := Scalar.cmpi .slt c8_i32 c0_i32_7
  let v19 : BitVec 32 := Scalar.extui v18
  let v20 : BitVec 32 := Scalar.subi v17 v19
  let v21 : BitVec 1 := Scalar.cmpi .ne v15 v20
  let v22 : BitVec 32 := Scalar.remsi v9 c8_i32
  let c0_i32_8 : BitVec 32 := 0#32
  let v23 : BitVec 1 := Scalar.cmpi .ne v22 c0_i32_8
  let v24 : BitVec 1 := Scalar.andi v21 v23
  let v10 : BitVec 32 := Scalar.divsi v9 c8_i32
  let c1_i32 : BitVec 32 := 1#32
  let v25 : BitVec 32 := Scalar.subi v10 c1_i32
  let v26 : BitVec 32 := Scalar.select v24 v25 v10
  let c8_i32_9 : BitVec 32 := 8#32
  let v27 : BitVec 32 := Scalar.muli v26 c8_i32_9
  let v28 : BitVec 32 := v27
  let v38 : Index := Scalar.indexCast v28
  let c0_14 : Index := 0#32
  ![v38.toNat, 0]
def k1_off3 (v9 : BitVec 32) : Fin 2 → Nat :=
  let c0_i32_4 : BitVec 32 := 0#32
  let v11 : BitVec 1 := Scalar.cmpi .sgt v9 c0_i32_4
  let v12 : BitVec 32 := Scalar.extui v11
  let c0_i32_5 : BitVec 32 := 0#32
  let v13 : BitVec 1 := Scalar.cmpi .slt v9 c0_i32_5
  let v14 : BitVec 32 := Scalar.extui v13
  let v15 : BitVec 32 := Scalar.subi v12 v14
  let c8_i32 : BitVec 32 := 8#32
  let c0_i32_6 : BitVec 32 := 0#32
  let v16 : BitVec 1 := Scalar.cmpi .sgt c8_i32 c0_i32_6
  let v17 : BitVec 32 := Scalar.extui v16
  let c0_i32_7 : BitVec 32 := 0#32
  let v18 : BitVec 1 := Scalar.cmpi .slt c8_i32 c0_i32_7
  let v19 : BitVec 32 := Scalar.extui v18
  let v20 : BitVec 32 := Scalar.subi v17 v19
  let v21 : BitVec 1 := Scalar.cmpi .ne v15 v20
  let v22 : BitVec 32 := Scalar.remsi v9 c8_i32
  let c0_i32_8 : BitVec 32 := 0#32
  let v23 : BitVec 1 := Scalar.cmpi .ne v22 c0_i32_8
  let v24 : BitVec 1 := Scalar.andi v21 v23
  let v10 : BitVec 32 := Scalar.divsi v9 c8_i32
  let c1_i32 : BitVec 32 := 1#32
  let v25 : BitVec 32 := Scalar.subi v10 c1_i32
  let v26 : BitVec 32 := Scalar.select v24 v25 v10
  let c8_i32_9 : BitVec 32 := 8#32
  let v27 : BitVec 32 := Scalar.muli v26 c8_i32_9
  let v28 : BitVec 32 := v27
  let v43 : Index := Scalar.indexCast v28
  let c0_17 : Index := 0#32
  ![v43.toNat, 0]

def k1_chk1 (v9 : BitVec 32) : Prop :=
  (8 ∣ (k1_mult1 v9).toNat) ∧
  (∀ a, (k1_off2 v9) a + S80x128.size a ≤ S592x128.size a) ∧
  (∀ a, (k1_off3 v9) a + S80x1.size a ≤ S592x1.size a)
theorem k1_mult1_dvd : ∀ (v9 : BitVec 32) (k1_hw1 : k1_chk1 v9), 8 ∣ (k1_mult1 v9).toNat := fun v9 k1_hw1 => k1_hw1.1
theorem k1_off2_inb : ∀ (v9 : BitVec 32) (k1_hw1 : k1_chk1 v9), ∀ a, (k1_off2 v9) a + S80x128.size a ≤ S592x128.size a := fun v9 k1_hw1 => k1_hw1.2.1
theorem k1_off3_inb : ∀ (v9 : BitVec 32) (k1_hw1 : k1_chk1 v9), ∀ a, (k1_off3 v9) a + S80x1.size a ≤ S592x1.size a := fun v9 k1_hw1 => k1_hw1.2.2

def k1_cond4 (i : grid1.Coords) : BitVec 1 :=
  let arg0 : BitVec 32 := BitVec.ofNat 32 (i 0).val
  let c3_i32 : BitVec 32 := 3#32
  let v92 : BitVec 1 := Scalar.cmpi .eq arg0 c3_i32
  let arg1 : BitVec 32 := BitVec.ofNat 32 (i 1).val
  let c56_i32_32 : BitVec 32 := 56#32
  let v93 : BitVec 1 := Scalar.cmpi .eq arg1 c56_i32_32
  let v94 : BitVec 1 := Scalar.andi v92 v93
  let v95 : BitVec 32 := Scalar.extui v94
  let c0_i32_33 : BitVec 32 := 0#32
  let v96 : BitVec 1 := Scalar.cmpi .ne v95 c0_i32_33
  v96

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S_ : Shape := ⟨0, ![]⟩
abbrev S1x100000 : Shape := ⟨2, ![1, 100000]⟩
abbrev S512x1 : Shape := ⟨2, ![512, 1]⟩
abbrev S512x100000 : Shape := ⟨2, ![512, 100000]⟩
abbrev S256x512 : Shape := ⟨2, ![256, 512]⟩
abbrev S512x512 : Shape := ⟨2, ![512, 512]⟩
abbrev S128x512 : Shape := ⟨2, ![128, 512]⟩
abbrev S1x512 : Shape := ⟨2, ![1, 512]⟩
abbrev S100000x1 : Shape := ⟨2, ![100000, 1]⟩

abbrev nBuf : Space → Nat
  | .hbm => 462
  | .vmem => 0
  | .smem => 0
  | _ => 0

abbrev hbmTy0_0 (i : Nat) : BufTy := match i % 128 with
  | 0 => ⟨S100000x128, .f32⟩
  | 1 => ⟨S100000, .i32⟩
  | 2 => ⟨S512x256, .f32⟩
  | 3 => ⟨S512x128, .f32⟩
  | 4 => ⟨S512, .f32⟩
  | 5 => ⟨S512, .f32⟩
  | 6 => ⟨S_, .f32⟩
  | 7 => ⟨S512x128, .f32⟩
  | 8 => ⟨S_, .f32⟩
  | 9 => ⟨S512x128, .f32⟩
  | 10 => ⟨S_, .f32⟩
  | 11 => ⟨S512x256, .f32⟩
  | 12 => ⟨S1x100000, .i32⟩
  | 13 => ⟨S512, .i32⟩
  | 14 => ⟨S512x1, .i32⟩
  | 15 => ⟨S512x100000, .i32⟩
  | 16 => ⟨S512x100000, .i32⟩
  | 17 => ⟨S512x100000, .i1⟩
  | 18 => ⟨S256x512, .f32⟩
  | 19 => ⟨S512x512, .f32⟩
  | 20 => ⟨S128x512, .f32⟩
  | 21 => ⟨S512x512, .f32⟩
  | 22 => ⟨S512x512, .f32⟩
  | 23 => ⟨S1x512, .f32⟩
  | 24 => ⟨S512x512, .f32⟩
  | 25 => ⟨S512x512, .f32⟩
  | 26 => ⟨S1x512, .f32⟩
  | 27 => ⟨S512x512, .f32⟩
  | 28 => ⟨S512x512, .f32⟩
  | 29 => ⟨S512x128, .f32⟩
  | 30 => ⟨S512x128, .f32⟩
  | 31 => ⟨S512x128, .f32⟩
  | 32 => ⟨S512x128, .f32⟩
  | 33 => ⟨S512x128, .f32⟩
  | 34 => ⟨S512x128, .f32⟩
  | 35 => ⟨S_, .f32⟩
  | 36 => ⟨S512x128, .f32⟩
  | 37 => ⟨S512x128, .f32⟩
  | 38 => ⟨S_, .f32⟩
  | 39 => ⟨S512x128, .f32⟩
  | 40 => ⟨S512x128, .f32⟩
  | 41 => ⟨S512x128, .f32⟩
  | 42 => ⟨S512x128, .f32⟩
  | 43 => ⟨S_, .f32⟩
  | 44 => ⟨S512x128, .f32⟩
  | 45 => ⟨S512x128, .f32⟩
  | 46 => ⟨S_, .f32⟩
  | 47 => ⟨S512x128, .f32⟩
  | 48 => ⟨S512x128, .f32⟩
  | 49 => ⟨S512x128, .f32⟩
  | 50 => ⟨S512x128, .f32⟩
  | 51 => ⟨S512x128, .f32⟩
  | 52 => ⟨S_, .f32⟩
  | 53 => ⟨S512x128, .f32⟩
  | 54 => ⟨S512x128, .f32⟩
  | 55 => ⟨S_, .f32⟩
  | 56 => ⟨S512x128, .f32⟩
  | 57 => ⟨S512x128, .f32⟩
  | 58 => ⟨S512x128, .f32⟩
  | 59 => ⟨S512x128, .f32⟩
  | 60 => ⟨S512x128, .f32⟩
  | 61 => ⟨S512x128, .f32⟩
  | 62 => ⟨S512x128, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000x128, .f32⟩
  | 72 => ⟨S100000x128, .f32⟩
  | 73 => ⟨S_, .f32⟩
  | 74 => ⟨S100000, .f32⟩
  | 75 => ⟨S100000x1, .f32⟩
  | 76 => ⟨S100000, .f32⟩
  | 77 => ⟨S1x100000, .f32⟩
  | 78 => ⟨S_, .f32⟩
  | 79 => ⟨S_, .f32⟩
  | 80 => ⟨S512x100000, .f32⟩
  | 81 => ⟨S512x100000, .f32⟩
  | 82 => ⟨S512x100000, .f32⟩
  | 83 => ⟨S_, .f32⟩
  | 84 => ⟨S512, .f32⟩
  | 85 => ⟨S512x1, .f32⟩
  | 86 => ⟨S512x1, .f32⟩
  | 87 => ⟨S_, .f32⟩
  | 88 => ⟨S512x1, .f32⟩
  | 89 => ⟨S512x1, .i1⟩
  | 90 => ⟨S_, .f32⟩
  | 91 => ⟨S_, .f32⟩
  | 92 => ⟨S512x1, .f32⟩
  | 93 => ⟨S512x1, .f32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S100000x1, .f32⟩
  | 103 => ⟨S100000x1, .f32⟩
  | 104 => ⟨S100000x1, .f32⟩
  | 105 => ⟨S_, .f32⟩
  | 106 => ⟨S512x1, .f32⟩
  | 107 => ⟨S100000x1, .i32⟩
  | 108 => ⟨S512x1, .f32⟩
  | 109 => ⟨S_, .f32⟩
  | 110 => ⟨S512x1, .f32⟩
  | 111 => ⟨S512x1, .f32⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S100000x1, .i32⟩
  | 120 => ⟨S100000x1, .f32⟩
  | 121 => ⟨S100000x1, .f32⟩
  | 122 => ⟨S100000x128, .f32⟩
  | 123 => ⟨S100000x128, .f32⟩
  | 124 => ⟨S_, .f32⟩
  | 125 => ⟨S512x128, .f32⟩
  | 126 => ⟨S100000x1, .i32⟩
  | 127 => ⟨S512x128, .f32⟩
  | _ => ⟨S100000x128, .f32⟩

abbrev hbmTy0_1 (i : Nat) : BufTy := match i % 128 with
  | 0 => ⟨S512x256, .f32⟩
  | 1 => ⟨S256x512, .f32⟩
  | 2 => ⟨S512x512, .f32⟩
  | 3 => ⟨S128x512, .f32⟩
  | 4 => ⟨S512x512, .f32⟩
  | 5 => ⟨S512x512, .f32⟩
  | 6 => ⟨S1x512, .f32⟩
  | 7 => ⟨S512x512, .f32⟩
  | 8 => ⟨S512x512, .f32⟩
  | 9 => ⟨S1x512, .f32⟩
  | 10 => ⟨S512x512, .f32⟩
  | 11 => ⟨S512x512, .f32⟩
  | 12 => ⟨S512x128, .f32⟩
  | 13 => ⟨S512x128, .f32⟩
  | 14 => ⟨S512x128, .f32⟩
  | 15 => ⟨S512x128, .f32⟩
  | 16 => ⟨S512x128, .f32⟩
  | 17 => ⟨S512x128, .f32⟩
  | 18 => ⟨S_, .f32⟩
  | 19 => ⟨S512x128, .f32⟩
  | 20 => ⟨S512x128, .f32⟩
  | 21 => ⟨S_, .f32⟩
  | 22 => ⟨S512x128, .f32⟩
  | 23 => ⟨S512x128, .f32⟩
  | 24 => ⟨S512x128, .f32⟩
  | 25 => ⟨S512x128, .f32⟩
  | 26 => ⟨S_, .f32⟩
  | 27 => ⟨S512x128, .f32⟩
  | 28 => ⟨S512x128, .f32⟩
  | 29 => ⟨S_, .f32⟩
  | 30 => ⟨S512x128, .f32⟩
  | 31 => ⟨S512x128, .f32⟩
  | 32 => ⟨S512x128, .f32⟩
  | 33 => ⟨S512x128, .f32⟩
  | 34 => ⟨S512x128, .f32⟩
  | 35 => ⟨S_, .f32⟩
  | 36 => ⟨S512x128, .f32⟩
  | 37 => ⟨S512x128, .f32⟩
  | 38 => ⟨S_, .f32⟩
  | 39 => ⟨S512x128, .f32⟩
  | 40 => ⟨S512x128, .f32⟩
  | 41 => ⟨S512x128, .f32⟩
  | 42 => ⟨S512x128, .f32⟩
  | 43 => ⟨S512x128, .f32⟩
  | 44 => ⟨S512x128, .f32⟩
  | 45 => ⟨S512x128, .f32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S100000x1, .i32⟩
  | 54 => ⟨S100000x128, .f32⟩
  | 55 => ⟨S100000x128, .f32⟩
  | 56 => ⟨S_, .f32⟩
  | 57 => ⟨S100000, .f32⟩
  | 58 => ⟨S100000x1, .f32⟩
  | 59 => ⟨S100000, .f32⟩
  | 60 => ⟨S1x100000, .f32⟩
  | 61 => ⟨S_, .f32⟩
  | 62 => ⟨S_, .f32⟩
  | 63 => ⟨S512x100000, .f32⟩
  | 64 => ⟨S512x100000, .f32⟩
  | 65 => ⟨S512x100000, .f32⟩
  | 66 => ⟨S_, .f32⟩
  | 67 => ⟨S512, .f32⟩
  | 68 => ⟨S512x1, .f32⟩
  | 69 => ⟨S512x1, .f32⟩
  | 70 => ⟨S_, .f32⟩
  | 71 => ⟨S512x1, .f32⟩
  | 72 => ⟨S512x1, .i1⟩
  | 73 => ⟨S_, .f32⟩
  | 74 => ⟨S_, .f32⟩
  | 75 => ⟨S512x1, .f32⟩
  | 76 => ⟨S512x1, .f32⟩
  | 77 => ⟨S_, .i32⟩
  | 78 => ⟨S100000, .i32⟩
  | 79 => ⟨S100000, .i1⟩
  | 80 => ⟨S_, .i32⟩
  | 81 => ⟨S100000, .i32⟩
  | 82 => ⟨S100000, .i32⟩
  | 83 => ⟨S100000, .i32⟩
  | 84 => ⟨S100000x1, .i32⟩
  | 85 => ⟨S100000x1, .f32⟩
  | 86 => ⟨S100000x1, .f32⟩
  | 87 => ⟨S100000x1, .f32⟩
  | 88 => ⟨S_, .f32⟩
  | 89 => ⟨S512x1, .f32⟩
  | 90 => ⟨S100000x1, .i32⟩
  | 91 => ⟨S512x1, .f32⟩
  | 92 => ⟨S_, .f32⟩
  | 93 => ⟨S512x1, .f32⟩
  | 94 => ⟨S512x1, .f32⟩
  | 95 => ⟨S_, .i32⟩
  | 96 => ⟨S100000, .i32⟩
  | 97 => ⟨S100000, .i1⟩
  | 98 => ⟨S_, .i32⟩
  | 99 => ⟨S100000, .i32⟩
  | 100 => ⟨S100000, .i32⟩
  | 101 => ⟨S100000, .i32⟩
  | 102 => ⟨S100000x1, .i32⟩
  | 103 => ⟨S100000x1, .f32⟩
  | 104 => ⟨S100000x1, .f32⟩
  | 105 => ⟨S100000x128, .f32⟩
  | 106 => ⟨S100000x128, .f32⟩
  | 107 => ⟨S_, .f32⟩
  | 108 => ⟨S512x128, .f32⟩
  | 109 => ⟨S100000x1, .i32⟩
  | 110 => ⟨S512x128, .f32⟩
  | 111 => ⟨S512x256, .f32⟩
  | 112 => ⟨S256x512, .f32⟩
  | 113 => ⟨S512x512, .f32⟩
  | 114 => ⟨S128x512, .f32⟩
  | 115 => ⟨S512x512, .f32⟩
  | 116 => ⟨S512x512, .f32⟩
  | 117 => ⟨S1x512, .f32⟩
  | 118 => ⟨S512x512, .f32⟩
  | 119 => ⟨S512x512, .f32⟩
  | 120 => ⟨S1x512, .f32⟩
  | 121 => ⟨S512x512, .f32⟩
  | 122 => ⟨S512x512, .f32⟩
  | 123 => ⟨S512x128, .f32⟩
  | 124 => ⟨S512x128, .f32⟩
  | 125 => ⟨S512x128, .f32⟩
  | 126 => ⟨S512x128, .f32⟩
  | 127 => ⟨S512x128, .f32⟩
  | _ => ⟨S100000x128, .f32⟩

abbrev hbmTy0_2 (i : Nat) : BufTy := match i % 128 with
  | 0 => ⟨S512x128, .f32⟩
  | 1 => ⟨S_, .f32⟩
  | 2 => ⟨S512x128, .f32⟩
  | 3 => ⟨S512x128, .f32⟩
  | 4 => ⟨S_, .f32⟩
  | 5 => ⟨S512x128, .f32⟩
  | 6 => ⟨S512x128, .f32⟩
  | 7 => ⟨S512x128, .f32⟩
  | 8 => ⟨S512x128, .f32⟩
  | 9 => ⟨S_, .f32⟩
  | 10 => ⟨S512x128, .f32⟩
  | 11 => ⟨S512x128, .f32⟩
  | 12 => ⟨S_, .f32⟩
  | 13 => ⟨S512x128, .f32⟩
  | 14 => ⟨S512x128, .f32⟩
  | 15 => ⟨S512x128, .f32⟩
  | 16 => ⟨S512x128, .f32⟩
  | 17 => ⟨S512x128, .f32⟩
  | 18 => ⟨S_, .f32⟩
  | 19 => ⟨S512x128, .f32⟩
  | 20 => ⟨S512x128, .f32⟩
  | 21 => ⟨S_, .f32⟩
  | 22 => ⟨S512x128, .f32⟩
  | 23 => ⟨S512x128, .f32⟩
  | 24 => ⟨S512x128, .f32⟩
  | 25 => ⟨S512x128, .f32⟩
  | 26 => ⟨S512x128, .f32⟩
  | 27 => ⟨S512x128, .f32⟩
  | 28 => ⟨S512x128, .f32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S100000x128, .f32⟩
  | 38 => ⟨S100000x128, .f32⟩
  | 39 => ⟨S_, .f32⟩
  | 40 => ⟨S100000, .f32⟩
  | 41 => ⟨S100000x1, .f32⟩
  | 42 => ⟨S100000, .f32⟩
  | 43 => ⟨S1x100000, .f32⟩
  | 44 => ⟨S_, .f32⟩
  | 45 => ⟨S_, .f32⟩
  | 46 => ⟨S512x100000, .f32⟩
  | 47 => ⟨S512x100000, .f32⟩
  | 48 => ⟨S512x100000, .f32⟩
  | 49 => ⟨S_, .f32⟩
  | 50 => ⟨S512, .f32⟩
  | 51 => ⟨S512x1, .f32⟩
  | 52 => ⟨S512x1, .f32⟩
  | 53 => ⟨S_, .f32⟩
  | 54 => ⟨S512x1, .f32⟩
  | 55 => ⟨S512x1, .i1⟩
  | 56 => ⟨S_, .f32⟩
  | 57 => ⟨S_, .f32⟩
  | 58 => ⟨S512x1, .f32⟩
  | 59 => ⟨S512x1, .f32⟩
  | 60 => ⟨S_, .i32⟩
  | 61 => ⟨S100000, .i32⟩
  | 62 => ⟨S100000, .i1⟩
  | 63 => ⟨S_, .i32⟩
  | 64 => ⟨S100000, .i32⟩
  | 65 => ⟨S100000, .i32⟩
  | 66 => ⟨S100000, .i32⟩
  | 67 => ⟨S100000x1, .i32⟩
  | 68 => ⟨S100000x1, .f32⟩
  | 69 => ⟨S100000x1, .f32⟩
  | 70 => ⟨S100000x1, .f32⟩
  | 71 => ⟨S_, .f32⟩
  | 72 => ⟨S512x1, .f32⟩
  | 73 => ⟨S100000x1, .i32⟩
  | 74 => ⟨S512x1, .f32⟩
  | 75 => ⟨S_, .f32⟩
  | 76 => ⟨S512x1, .f32⟩
  | 77 => ⟨S512x1, .f32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S100000x1, .i32⟩
  | 86 => ⟨S100000x1, .f32⟩
  | 87 => ⟨S100000x1, .f32⟩
  | 88 => ⟨S100000x128, .f32⟩
  | 89 => ⟨S100000x128, .f32⟩
  | 90 => ⟨S_, .f32⟩
  | 91 => ⟨S512x128, .f32⟩
  | 92 => ⟨S100000x1, .i32⟩
  | 93 => ⟨S512x128, .f32⟩
  | 94 => ⟨S512x256, .f32⟩
  | 95 => ⟨S256x512, .f32⟩
  | 96 => ⟨S512x512, .f32⟩
  | 97 => ⟨S128x512, .f32⟩
  | 98 => ⟨S512x512, .f32⟩
  | 99 => ⟨S512x512, .f32⟩
  | 100 => ⟨S1x512, .f32⟩
  | 101 => ⟨S512x512, .f32⟩
  | 102 => ⟨S512x512, .f32⟩
  | 103 => ⟨S1x512, .f32⟩
  | 104 => ⟨S512x512, .f32⟩
  | 105 => ⟨S512x512, .f32⟩
  | 106 => ⟨S512x128, .f32⟩
  | 107 => ⟨S512x128, .f32⟩
  | 108 => ⟨S512x128, .f32⟩
  | 109 => ⟨S512x128, .f32⟩
  | 110 => ⟨S512x128, .f32⟩
  | 111 => ⟨S512x128, .f32⟩
  | 112 => ⟨S_, .f32⟩
  | 113 => ⟨S512x128, .f32⟩
  | 114 => ⟨S512x128, .f32⟩
  | 115 => ⟨S_, .f32⟩
  | 116 => ⟨S512x128, .f32⟩
  | 117 => ⟨S512x128, .f32⟩
  | 118 => ⟨S512x128, .f32⟩
  | 119 => ⟨S512x128, .f32⟩
  | 120 => ⟨S_, .f32⟩
  | 121 => ⟨S512x128, .f32⟩
  | 122 => ⟨S512x128, .f32⟩
  | 123 => ⟨S_, .f32⟩
  | 124 => ⟨S512x128, .f32⟩
  | 125 => ⟨S512x128, .f32⟩
  | 126 => ⟨S512x128, .f32⟩
  | 127 => ⟨S512x128, .f32⟩
  | _ => ⟨S100000x128, .f32⟩

abbrev hbmTy0_3 (i : Nat) : BufTy := match i % 128 with
  | 0 => ⟨S512x128, .f32⟩
  | 1 => ⟨S_, .f32⟩
  | 2 => ⟨S512x128, .f32⟩
  | 3 => ⟨S512x128, .f32⟩
  | 4 => ⟨S_, .f32⟩
  | 5 => ⟨S512x128, .f32⟩
  | 6 => ⟨S512x128, .f32⟩
  | 7 => ⟨S512x128, .f32⟩
  | 8 => ⟨S512x128, .f32⟩
  | 9 => ⟨S512x128, .f32⟩
  | 10 => ⟨S512x128, .f32⟩
  | 11 => ⟨S512x128, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000x128, .f32⟩
  | 21 => ⟨S100000x128, .f32⟩
  | 22 => ⟨S_, .f32⟩
  | 23 => ⟨S100000, .f32⟩
  | 24 => ⟨S100000x1, .f32⟩
  | 25 => ⟨S100000, .f32⟩
  | 26 => ⟨S1x100000, .f32⟩
  | 27 => ⟨S_, .f32⟩
  | 28 => ⟨S_, .f32⟩
  | 29 => ⟨S512x100000, .f32⟩
  | 30 => ⟨S512x100000, .f32⟩
  | 31 => ⟨S512x100000, .f32⟩
  | 32 => ⟨S_, .f32⟩
  | 33 => ⟨S512, .f32⟩
  | 34 => ⟨S512x1, .f32⟩
  | 35 => ⟨S512x1, .f32⟩
  | 36 => ⟨S_, .f32⟩
  | 37 => ⟨S512x1, .f32⟩
  | 38 => ⟨S512x1, .i1⟩
  | 39 => ⟨S_, .f32⟩
  | 40 => ⟨S_, .f32⟩
  | 41 => ⟨S512x1, .f32⟩
  | 42 => ⟨S512x1, .f32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000x1, .f32⟩
  | 52 => ⟨S100000x1, .f32⟩
  | 53 => ⟨S100000x1, .f32⟩
  | 54 => ⟨S_, .f32⟩
  | 55 => ⟨S512x1, .f32⟩
  | 56 => ⟨S100000x1, .i32⟩
  | 57 => ⟨S512x1, .f32⟩
  | 58 => ⟨S_, .f32⟩
  | 59 => ⟨S512x1, .f32⟩
  | 60 => ⟨S512x1, .f32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000x1, .f32⟩
  | 70 => ⟨S100000x1, .f32⟩
  | 71 => ⟨S100000x128, .f32⟩
  | 72 => ⟨S100000x128, .f32⟩
  | 73 => ⟨S_, .f32⟩
  | 74 => ⟨S512x128, .f32⟩
  | 75 => ⟨S100000x1, .i32⟩
  | 76 => ⟨S512x128, .f32⟩
  | 77 => ⟨S512x256, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c : Ref sig .tc := ⟨.hbm, 63, rfl⟩
abbrev main_v48 : Ref sig .tc := ⟨.hbm, 64, rfl⟩
abbrev main_v49 : Ref sig .tc := ⟨.hbm, 65, rfl⟩
abbrev main_c_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_call1_v0 : Ref sig .tc := ⟨.hbm, 91, rfl⟩
abbrev main_call1_v1 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_16 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_c_18 : Ref sig .tc := ⟨.hbm, 112, rfl⟩
abbrev main_v81 : Ref sig .tc := ⟨.hbm, 113, rfl⟩
abbrev main_v82 : Ref sig .tc := ⟨.hbm, 114, rfl⟩
abbrev main_c_19 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_20 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_21 : Ref sig .tc := ⟨.hbm, 146, rfl⟩
abbrev main_v112 : Ref sig .tc := ⟨.hbm, 147, rfl⟩
abbrev main_v113 : Ref sig .tc := ⟨.hbm, 148, rfl⟩
abbrev main_cst_22 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_23 : Ref sig .tc := ⟨.hbm, 154, rfl⟩
abbrev main_v118 : Ref sig .tc := ⟨.hbm, 155, rfl⟩
abbrev main_v119 : Ref sig .tc := ⟨.hbm, 156, rfl⟩
abbrev main_cst_24 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_25 : Ref sig .tc := ⟨.hbm, 163, rfl⟩
abbrev main_v125 : Ref sig .tc := ⟨.hbm, 164, rfl⟩
abbrev main_v126 : Ref sig .tc := ⟨.hbm, 165, rfl⟩
abbrev main_cst_26 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_c_27 : Ref sig .tc := ⟨.hbm, 174, rfl⟩
abbrev main_v134 : Ref sig .tc := ⟨.hbm, 175, rfl⟩
abbrev main_v135 : Ref sig .tc := ⟨.hbm, 176, rfl⟩
abbrev main_c_28 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_29 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_30 : Ref sig .tc := ⟨.hbm, 189, rfl⟩
abbrev main_call2_v0 : Ref sig .tc := ⟨.hbm, 190, rfl⟩
abbrev main_call2_v1 : Ref sig .tc := ⟨.hbm, 191, rfl⟩
abbrev main_call2_v2 : Ref sig .tc := ⟨.hbm, 192, rfl⟩
abbrev main_v146 : Ref sig .tc := ⟨.hbm, 193, rfl⟩
abbrev main_cst_31 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_32 : Ref sig .tc := ⟨.hbm, 198, rfl⟩
abbrev main_v150 : Ref sig .tc := ⟨.hbm, 199, rfl⟩
abbrev main_v151 : Ref sig .tc := ⟨.hbm, 200, rfl⟩
abbrev main_cst_33 : Ref sig .tc := ⟨.hbm, 201, rfl⟩
abbrev main_call3_v0 : Ref sig .tc := ⟨.hbm, 202, rfl⟩
abbrev main_call3_v1 : Ref sig .tc := ⟨.hbm, 203, rfl⟩
abbrev main_v152 : Ref sig .tc := ⟨.hbm, 204, rfl⟩
abbrev main_c_34 : Ref sig .tc := ⟨.hbm, 205, rfl⟩
abbrev main_v153 : Ref sig .tc := ⟨.hbm, 206, rfl⟩
abbrev main_v154 : Ref sig .tc := ⟨.hbm, 207, rfl⟩
abbrev main_c_35 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_cst_36 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_cst_37 : Ref sig .tc := ⟨.hbm, 220, rfl⟩
abbrev main_v165 : Ref sig .tc := ⟨.hbm, 221, rfl⟩
abbrev main_v166 : Ref sig .tc := ⟨.hbm, 222, rfl⟩
abbrev main_c_38 : Ref sig .tc := ⟨.hbm, 223, rfl⟩
abbrev main_v167 : Ref sig .tc := ⟨.hbm, 224, rfl⟩
abbrev main_v168 : Ref sig .tc := ⟨.hbm, 225, rfl⟩
abbrev main_c_39 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_cst_40 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_cst_41 : Ref sig .tc := ⟨.hbm, 257, rfl⟩
abbrev main_v198 : Ref sig .tc := ⟨.hbm, 258, rfl⟩
abbrev main_v199 : Ref sig .tc := ⟨.hbm, 259, rfl⟩
abbrev main_cst_42 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_cst_43 : Ref sig .tc := ⟨.hbm, 265, rfl⟩
abbrev main_v204 : Ref sig .tc := ⟨.hbm, 266, rfl⟩
abbrev main_v205 : Ref sig .tc := ⟨.hbm, 267, rfl⟩
abbrev main_cst_44 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_cst_45 : Ref sig .tc := ⟨.hbm, 274, rfl⟩
abbrev main_v211 : Ref sig .tc := ⟨.hbm, 275, rfl⟩
abbrev main_v212 : Ref sig .tc := ⟨.hbm, 276, rfl⟩
abbrev main_cst_46 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_c_47 : Ref sig .tc := ⟨.hbm, 285, rfl⟩
abbrev main_v220 : Ref sig .tc := ⟨.hbm, 286, rfl⟩
abbrev main_v221 : Ref sig .tc := ⟨.hbm, 287, rfl⟩
abbrev main_c_48 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_cst_49 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_cst_50 : Ref sig .tc := ⟨.hbm, 300, rfl⟩
abbrev main_call4_v0 : Ref sig .tc := ⟨.hbm, 301, rfl⟩
abbrev main_call4_v1 : Ref sig .tc := ⟨.hbm, 302, rfl⟩
abbrev main_call4_v2 : Ref sig .tc := ⟨.hbm, 303, rfl⟩
abbrev main_v232 : Ref sig .tc := ⟨.hbm, 304, rfl⟩
abbrev main_cst_51 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_cst_52 : Ref sig .tc := ⟨.hbm, 309, rfl⟩
abbrev main_v236 : Ref sig .tc := ⟨.hbm, 310, rfl⟩
abbrev main_v237 : Ref sig .tc := ⟨.hbm, 311, rfl⟩
abbrev main_cst_53 : Ref sig .tc := ⟨.hbm, 312, rfl⟩
abbrev main_call5_v0 : Ref sig .tc := ⟨.hbm, 313, rfl⟩
abbrev main_call5_v1 : Ref sig .tc := ⟨.hbm, 314, rfl⟩
abbrev main_v238 : Ref sig .tc := ⟨.hbm, 315, rfl⟩
abbrev main_c_54 : Ref sig .tc := ⟨.hbm, 316, rfl⟩
abbrev main_v239 : Ref sig .tc := ⟨.hbm, 317, rfl⟩
abbrev main_v240 : Ref sig .tc := ⟨.hbm, 318, rfl⟩
abbrev main_c_55 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_cst_56 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_cst_57 : Ref sig .tc := ⟨.hbm, 331, rfl⟩
abbrev main_v251 : Ref sig .tc := ⟨.hbm, 332, rfl⟩
abbrev main_v252 : Ref sig .tc := ⟨.hbm, 333, rfl⟩
abbrev main_c_58 : Ref sig .tc := ⟨.hbm, 334, rfl⟩
abbrev main_v253 : Ref sig .tc := ⟨.hbm, 335, rfl⟩
abbrev main_v254 : Ref sig .tc := ⟨.hbm, 336, rfl⟩
abbrev main_c_59 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_cst_60 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_v275 : Ref sig .tc := ⟨.hbm, 359, rfl⟩
abbrev main_v276 : Ref sig .tc := ⟨.hbm, 360, rfl⟩
abbrev main_v277 : Ref sig .tc := ⟨.hbm, 361, rfl⟩
abbrev main_v278 : Ref sig .tc := ⟨.hbm, 362, rfl⟩
abbrev main_v279 : Ref sig .tc := ⟨.hbm, 363, rfl⟩
abbrev main_v280 : Ref sig .tc := ⟨.hbm, 364, rfl⟩
abbrev main_v281 : Ref sig .tc := ⟨.hbm, 365, rfl⟩
abbrev main_v282 : Ref sig .tc := ⟨.hbm, 366, rfl⟩
abbrev main_v283 : Ref sig .tc := ⟨.hbm, 367, rfl⟩
abbrev main_cst_61 : Ref sig .tc := ⟨.hbm, 368, rfl⟩
abbrev main_v284 : Ref sig .tc := ⟨.hbm, 369, rfl⟩
abbrev main_v285 : Ref sig .tc := ⟨.hbm, 370, rfl⟩
abbrev main_cst_62 : Ref sig .tc := ⟨.hbm, 371, rfl⟩
abbrev main_v286 : Ref sig .tc := ⟨.hbm, 372, rfl⟩
abbrev main_v287 : Ref sig .tc := ⟨.hbm, 373, rfl⟩
abbrev main_v288 : Ref sig .tc := ⟨.hbm, 374, rfl⟩
abbrev main_v289 : Ref sig .tc := ⟨.hbm, 375, rfl⟩
abbrev main_cst_63 : Ref sig .tc := ⟨.hbm, 376, rfl⟩
abbrev main_v290 : Ref sig .tc := ⟨.hbm, 377, rfl⟩
abbrev main_v291 : Ref sig .tc := ⟨.hbm, 378, rfl⟩
abbrev main_cst_64 : Ref sig .tc := ⟨.hbm, 379, rfl⟩
abbrev main_v292 : Ref sig .tc := ⟨.hbm, 380, rfl⟩
abbrev main_v293 : Ref sig .tc := ⟨.hbm, 381, rfl⟩
abbrev main_v294 : Ref sig .tc := ⟨.hbm, 382, rfl⟩
abbrev main_v295 : Ref sig .tc := ⟨.hbm, 383, rfl⟩
abbrev main_v296 : Ref sig .tc := ⟨.hbm, 384, rfl⟩
abbrev main_cst_65 : Ref sig .tc := ⟨.hbm, 385, rfl⟩
abbrev main_v297 : Ref sig .tc := ⟨.hbm, 386, rfl⟩
abbrev main_v298 : Ref sig .tc := ⟨.hbm, 387, rfl⟩
abbrev main_cst_66 : Ref sig .tc := ⟨.hbm, 388, rfl⟩
abbrev main_v299 : Ref sig .tc := ⟨.hbm, 389, rfl⟩
abbrev main_v300 : Ref sig .tc := ⟨.hbm, 390, rfl⟩
abbrev main_v301 : Ref sig .tc := ⟨.hbm, 391, rfl⟩
abbrev main_v302 : Ref sig .tc := ⟨.hbm, 392, rfl⟩
abbrev main_v303 : Ref sig .tc := ⟨.hbm, 393, rfl⟩
abbrev main_v304 : Ref sig .tc := ⟨.hbm, 394, rfl⟩
abbrev main_v305 : Ref sig .tc := ⟨.hbm, 395, rfl⟩
abbrev main_c_67 : Ref sig .tc := ⟨.hbm, 396, rfl⟩
abbrev main_v306 : Ref sig .tc := ⟨.hbm, 397, rfl⟩
abbrev main_v307 : Ref sig .tc := ⟨.hbm, 398, rfl⟩
abbrev main_c_68 : Ref sig .tc := ⟨.hbm, 399, rfl⟩
abbrev main_v308 : Ref sig .tc := ⟨.hbm, 400, rfl⟩
abbrev main_v309 : Ref sig .tc := ⟨.hbm, 401, rfl⟩
abbrev main_v310 : Ref sig .tc := ⟨.hbm, 402, rfl⟩
abbrev main_v311 : Ref sig .tc := ⟨.hbm, 403, rfl⟩
abbrev main_v312 : Ref sig .tc := ⟨.hbm, 404, rfl⟩
abbrev main_v313 : Ref sig .tc := ⟨.hbm, 405, rfl⟩
abbrev main_cst_69 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_v317 : Ref sig .tc := ⟨.hbm, 410, rfl⟩
abbrev main_cst_70 : Ref sig .tc := ⟨.hbm, 411, rfl⟩
abbrev main_call6_v0 : Ref sig .tc := ⟨.hbm, 412, rfl⟩
abbrev main_call6_v1 : Ref sig .tc := ⟨.hbm, 413, rfl⟩
abbrev main_call6_v2 : Ref sig .tc := ⟨.hbm, 414, rfl⟩
abbrev main_v318 : Ref sig .tc := ⟨.hbm, 415, rfl⟩
abbrev main_cst_71 : Ref sig .tc := ⟨.hbm, 416, rfl⟩
abbrev main_v319 : Ref sig .tc := ⟨.hbm, 417, rfl⟩
abbrev main_v320 : Ref sig .tc := ⟨.hbm, 418, rfl⟩
abbrev main_v321 : Ref sig .tc := ⟨.hbm, 419, rfl⟩
abbrev main_cst_72 : Ref sig .tc := ⟨.hbm, 420, rfl⟩
abbrev main_v322 : Ref sig .tc := ⟨.hbm, 421, rfl⟩
abbrev main_v323 : Ref sig .tc := ⟨.hbm, 422, rfl⟩
abbrev main_cst_73 : Ref sig .tc := ⟨.hbm, 423, rfl⟩
abbrev main_call7_v0 : Ref sig .tc := ⟨.hbm, 424, rfl⟩
abbrev main_call7_v1 : Ref sig .tc := ⟨.hbm, 425, rfl⟩
abbrev main_v324 : Ref sig .tc := ⟨.hbm, 426, rfl⟩
abbrev main_c_74 : Ref sig .tc := ⟨.hbm, 427, rfl⟩
abbrev main_v325 : Ref sig .tc := ⟨.hbm, 428, rfl⟩
abbrev main_v326 : Ref sig .tc := ⟨.hbm, 429, rfl⟩
abbrev main_c_75 : Ref sig .tc := ⟨.hbm, 430, rfl⟩
abbrev main_v327 : Ref sig .tc := ⟨.hbm, 431, rfl⟩
abbrev main_v328 : Ref sig .tc := ⟨.hbm, 432, rfl⟩
abbrev main_v329 : Ref sig .tc := ⟨.hbm, 433, rfl⟩
abbrev main_v330 : Ref sig .tc := ⟨.hbm, 434, rfl⟩
abbrev main_v331 : Ref sig .tc := ⟨.hbm, 435, rfl⟩
abbrev main_v332 : Ref sig .tc := ⟨.hbm, 436, rfl⟩
abbrev main_v333 : Ref sig .tc := ⟨.hbm, 437, rfl⟩
abbrev main_cst_76 : Ref sig .tc := ⟨.hbm, 438, rfl⟩
abbrev main_v334 : Ref sig .tc := ⟨.hbm, 439, rfl⟩
abbrev main_v335 : Ref sig .tc := ⟨.hbm, 440, rfl⟩
abbrev main_v336 : Ref sig .tc := ⟨.hbm, 441, rfl⟩
abbrev main_cst_77 : Ref sig .tc := ⟨.hbm, 442, rfl⟩
abbrev main_v337 : Ref sig .tc := ⟨.hbm, 443, rfl⟩
abbrev main_v338 : Ref sig .tc := ⟨.hbm, 444, rfl⟩
abbrev main_c_78 : Ref sig .tc := ⟨.hbm, 445, rfl⟩
abbrev main_v339 : Ref sig .tc := ⟨.hbm, 446, rfl⟩
abbrev main_v340 : Ref sig .tc := ⟨.hbm, 447, rfl⟩
abbrev main_c_79 : Ref sig .tc := ⟨.hbm, 448, rfl⟩
abbrev main_v341 : Ref sig .tc := ⟨.hbm, 449, rfl⟩
abbrev main_v342 : Ref sig .tc := ⟨.hbm, 450, rfl⟩
abbrev main_v343 : Ref sig .tc := ⟨.hbm, 451, rfl⟩
abbrev main_v344 : Ref sig .tc := ⟨.hbm, 452, rfl⟩
abbrev main_v345 : Ref sig .tc := ⟨.hbm, 453, rfl⟩
abbrev main_v346 : Ref sig .tc := ⟨.hbm, 454, rfl⟩
abbrev main_v347 : Ref sig .tc := ⟨.hbm, 455, rfl⟩
abbrev main_v348 : Ref sig .tc := ⟨.hbm, 456, rfl⟩
abbrev main_cst_80 : Ref sig .tc := ⟨.hbm, 457, rfl⟩
abbrev main_v349 : Ref sig .tc := ⟨.hbm, 458, rfl⟩
abbrev main_v350 : Ref sig .tc := ⟨.hbm, 459, rfl⟩
abbrev main_v351 : Ref sig .tc := ⟨.hbm, 460, rfl⟩
abbrev main_v352 : Ref sig .tc := ⟨.hbm, 461, rfl⟩

abbrev nD : Nat := 1
abbrev τ : Topo := Topo.v7x

variable {F : FTy → Type} [FloatOps F]
-- ==== Proof.Sc.lean ====
/-
  The SparseCore call: thirty-two tasks, task `w = 2 * subcore + core` copying its 38 rows of 96 row numbers into a
  list buffer and then, in 19 trips, gathering 2 × 96 rows of `x` by an indirect transfer each and copying them out to
  pieces `2 t` and `2 t + 1` of its 38 pieces of the result. The values are carried throughout: the result ends at
  `gathered x src`, whatever the float values are, as long as every row number is a row of `x`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- The launch's side facts on its semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's handshakes, the TensorCore pipeline's cells, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The three arrays and what the call leaves in the result -/

abbrev xLoc (d : Dev nD) : Loc nD τ sig := (SparseCore.T d).loc main_arg0
abbrev sLoc (d : Dev nD) : Loc nD τ sig := (SparseCore.T d).loc main_v68
abbrev oLoc (d : Dev nD) : Loc nD τ sig := (SparseCore.T d).loc main_v69

abbrev xV : Memref sig .scVector .hbm S100000x128 .f32 := Memref.whole main_arg0_scv
abbrev sV : Memref sig .scVector .hbm S32x38x96 .i32 := Memref.whole main_v68_scv
abbrev oV : Memref sig .scVector .hbm S116736x128 .f32 := Memref.whole main_v69_scv
abbrev lV : Memref sig .scVector .vmem S38x96 .i32 := Memref.whole cc0_scratch0
abbrev aV : Memref sig .scVector .vmem S96x128 .f32 := Memref.whole cc0_scratch1
abbrev bV : Memref sig .scVector .vmem S96x128 .f32 := Memref.whole cc0_scratch2

/-- Entry `j` of list `k` of task `w` of the row numbers. -/
def ix3 (w : Fin 32) (k : Fin 38) (j : Fin 96) : S32x38x96.Idx := fun | 0 => w | 1 => k | 2 => j
/-- Entry `(r, c)` of `x`. -/
def ixX (r : Fin 100000) (c : Fin 128) : S100000x128.Idx := fun | 0 => r | 1 => c

/-- Where the row number of padded row `p` lies in the lists. -/
def slot (p : Fin 116736) : S32x38x96.Idx :=
  ix3 ⟨p.val / 3648, by omega⟩ ⟨p.val % 3648 / 96, by omega⟩ ⟨p.val % 96, by omega⟩

/-- The gathered array: row `p` is the row of `x` that the lists name for `p`. -/
def gathered (x : S100000x128.Idx → Elt F .f32) (s : S32x38x96.Idx → Elt F .i32) : S116736x128.Idx → Elt F .f32 :=
  fun i => x (ixX ⟨(show BitVec 32 from s (slot (i 0))).toNat % 100000, by omega⟩ (i 1))

/-! ## The pieces of the result -/

theorem odiv : 1216 ∣ S116736x128.size 0 := ⟨96, rfl⟩
/-- Piece `j` of task `w`: rows `[3648 w + 96 j, + 96)`. -/
abbrev pieceNo (w : Fin 32) (j : Fin 38) : Fin 1216 := finProdFinEquiv (w, j)
abbrev piece (n : Fin 1216) : Rect S116736x128 := Rect.part (s := S116736x128) (a₀ := 0) odiv n
abbrev pieceSet (n : Fin 1216) : Finset S116736x128.Idx := (oV.view.slice (piece n)).set

theorem pieceSet_eq (n : Fin 1216) : pieceSet n = (piece n).set := by
  show ((View.whole (main_v69_scv : Ref sig .scVector)).slice (piece n)).set = _
  rw [View.set_slice]; exact Finset.map_refl
theorem pieces_disjoint : ∀ i ∈ (Finset.univ : Finset (Fin 1216)), ∀ j ∈ (Finset.univ : Finset (Fin 1216)), i ≠ j → Disjoint (pieceSet i) (pieceSet j) :=
  fun i _ j _ h => by rw [pieceSet_eq, pieceSet_eq]; exact Rect.part_disjoint odiv h
theorem pieces_cover : (Finset.univ : Finset (Fin 1216)).biUnion pieceSet = Finset.univ :=
  (Finset.biUnion_congr rfl fun i _ => pieceSet_eq i).trans (Rect.biUnion_part odiv)

/-- The result whole is its pieces, task by task. -/
theorem oPts_pieces (d : Dev nD) (f : Buf (Elt F) (oLoc d)) :
    (oLoc d ↦{fullShare} f : sProp 𝕄)
      = bigSep Finset.univ fun w : Fin 32 => bigSep Finset.univ fun j : Fin 38 => oLoc d ↦[pieceSet (pieceNo w j)]{fullShare} f := by
  have h : (oLoc d ↦{fullShare} f : sProp 𝕄) = bigSep Finset.univ fun n : Fin 1216 => oLoc d ↦[pieceSet n]{fullShare} f := by
    rw [← pointsTo_biUnion Finset.univ (ℓ := oLoc d) pieceSet pieces_disjoint, pieces_cover]; try rfl
  rw [h, bigSep_univ_equiv (finProdFinEquiv : Fin 32 × Fin 38 ≃ Fin 1216), bigSep_univ_prod]

/-- Task `w`'s share of an array that every task reads. -/
abbrev tq (w : Fin 32) : PosShare TreeShare := pieceOf fullShare 32 (by decide) w

/-- A whole array is the tasks' shares of it. -/
theorem pts_shares {ℓ : Loc nD τ sig} (f : Buf (Elt F) ℓ) :
    (ℓ ↦{fullShare} f : sProp 𝕄) = bigSep Finset.univ fun w : Fin 32 => ℓ ↦{tq w} f :=
  pointsTo_piecesOf Finset.univ f (by decide) fullShare

/-! ## One task -/

section Tile

variable (X : (d : Dev nD) → Buf (Elt F) (xLoc d)) (Sv : (d : Dev nD) → Buf (Elt F) (sLoc d)) (O0 : (d : Dev nD) → Buf (Elt F) (oLoc d))

/-- Every row number is a row of `x`. -/
def RowsOK : Prop := ∀ (d : Dev nD) (j : S32x38x96.Idx), (show BitVec 32 from Sv d j).toNat < 100000

/-- What the call leaves in the result. -/
abbrev Gv (d : Dev nD) : Buf (Elt F) (oLoc d) := gathered (X d) (Sv d)

/-- The contents of task `w`'s piece `j` before trip `k`: gathered if a trip before `k` has written it. -/
def pieceVal (d : Dev nD) (k : ℕ) (j : Fin 38) : Buf (Elt F) (oLoc d) := if j.val < 2 * k then Gv X Sv d else O0 d

/-- Task `w`'s pieces of the result before trip `k`. -/
def pieces (d : Dev nD) (w : Fin 32) (k : ℕ) : sProp 𝕄 :=
  bigSep Finset.univ fun j : Fin 38 => oLoc d ↦[pieceSet (pieceNo w j)]{fullShare} pieceVal X Sv O0 d k j

/-- What task `w` holds before trip `k`, beside its own buffers. -/
def res (d : Dev nD) (w : Fin 32) (k : ℕ) : sProp 𝕄 :=
  iprop((xLoc d ↦{tq w} X d) ∗ (sLoc d ↦{tq w} Sv d) ∗ pieces X Sv O0 d w k)

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)
theorem bound0 : grid0.bound 0 = 2 := rfl
theorem bound1 : grid0.bound 1 = 16 := rfl
/-- The task's number. -/
def wid (L : grid0.Coords) : Fin 32 := ⟨2 * (L 1).val + (L 0).val, by
  have h0 : (L 0).val < 2 := (L 0).isLt
  have h1 : (L 1).val < 16 := (L 1).isLt
  omega⟩
theorem trips_eq : k0_t1_loop.trips = 19 := by decide
/-- The two pieces that trip `t` writes. -/
def jA (t : Fin k0_t1_loop.trips) : Fin 38 := ⟨2 * t.val, by have := t.isLt.trans_eq trips_eq; omega⟩
def jB (t : Fin k0_t1_loop.trips) : Fin 38 := ⟨2 * t.val + 1, by have := t.isLt.trans_eq trips_eq; omega⟩

abbrev oA (L : grid0.Coords) (t : Fin k0_t1_loop.trips) : Memref sig .scVector .hbm S96x128 .f32 :=
  oV.slice (Rect.unit (s := S116736x128) (k0_off4 L t) S96x128.size (k0_off4_inb L t)) (fun _ => rfl)
abbrev oB (L : grid0.Coords) (t : Fin k0_t1_loop.trips) : Memref sig .scVector .hbm S96x128 .f32 :=
  oV.slice (Rect.unit (s := S116736x128) (k0_off5 L t) S96x128.size (k0_off5_inb L t)) (fun _ => rfl)
abbrev sRow (L : grid0.Coords) : Memref sig .scVector .hbm S38x96 .i32 :=
  (sV.slice (Rect.unit (s := S32x38x96) (k0_off1 L) S1x38x96.size (k0_off1_inb L)) (fun _ => rfl)).squeeze S38x96 squeezes_S1x38x96_S38x96

/-- A piece is 96 rows, all 128 columns of them. -/
theorem piece_size : S116736x128.partSize 0 1216 = S96x128.size := by
  funext a
  match a with
  | 0 => rw [Shape.partSize, if_pos rfl]; exact (show (116736 / 1216 : ℕ) = 96 by norm_num)
  | 1 => rw [Shape.partSize, if_neg (by decide)]; rfl
/-- The rows of piece `n` begin at row `96 n`. -/
theorem piece_off (n : Fin 1216) (a : Fin S116736x128.rank) : S116736x128.partIx 0 n.val a * S96x128.size a = (![96 * n.val, 0] : Fin 2 → ℕ) a := by
  match a with
  | 0 => rw [Shape.partIx, if_pos rfl]; exact Nat.mul_comm _ _
  | 1 => rw [Shape.partIx, if_neg (by decide)]; exact Nat.zero_mul _
/-- A piece as the rectangle of 96 rows that begins at `off`. -/
theorem piece_rect (n : Fin 1216) (off : Fin 2 → ℕ) (h : ∀ a, off a + S96x128.size a ≤ S116736x128.size a) (ho : off = ![96 * n.val, 0]) :
    Rect.unit (s := S116736x128) off S96x128.size h = piece n := by
  subst ho
  unfold piece Rect.part Rect.block
  congr 1
  · funext a; rw [piece_size]; exact (piece_off n a).symm
  · exact piece_size.symm

theorem pieceNo_val (w : Fin 32) (j : Fin 38) : (pieceNo w j).val = j.val + 38 * w.val := rfl

theorem wid_val : (wid L).val = 2 * (L 1).val + (L 0).val := rfl
theorem jA_val (t : Fin k0_t1_loop.trips) : (jA t).val = 2 * t.val := rfl
theorem jB_val (t : Fin k0_t1_loop.trips) : (jB t).val = 2 * t.val + 1 := rfl
theorem off_jA (t : Fin k0_t1_loop.trips) : 7296 * (L 1).val + 3648 * (L 0).val + 192 * t.val = 96 * (pieceNo (wid L) (jA t)).val := by
  rw [pieceNo_val, wid_val, jA_val]; omega
theorem off_jB (t : Fin k0_t1_loop.trips) : 7296 * (L 1).val + 3648 * (L 0).val + 192 * t.val + 96 = 96 * (pieceNo (wid L) (jB t)).val := by
  rw [pieceNo_val, wid_val, jB_val]; omega
theorem rectA (t : Fin k0_t1_loop.trips) :
    Rect.unit (s := S116736x128) (k0_off4 L t) S96x128.size (k0_off4_inb L t) = piece (pieceNo (wid L) (jA t)) :=
  piece_rect _ _ _ ((k0_off4_eq L t).trans (congrArg (fun z : ℕ => (![z, 0] : Fin 2 → ℕ)) (off_jA L t)))
theorem rectB (t : Fin k0_t1_loop.trips) :
    Rect.unit (s := S116736x128) (k0_off5 L t) S96x128.size (k0_off5_inb L t) = piece (pieceNo (wid L) (jB t)) :=
  piece_rect _ _ _ ((k0_off5_eq L t).trans (congrArg (fun z : ℕ => (![z, 0] : Fin 2 → ℕ)) (off_jB L t)))

theorem set_oA (t : Fin k0_t1_loop.trips) : (oA L t).view.set = pieceSet (pieceNo (wid L) (jA t)) :=
  (show (oV.view.slice (Rect.unit (s := S116736x128) (k0_off4 L t) S96x128.size (k0_off4_inb L t))).set = (oV.view.slice (piece (pieceNo (wid L) (jA t)))).set from
    rectA L t ▸ rfl)
theorem set_oB (t : Fin k0_t1_loop.trips) : (oB L t).view.set = pieceSet (pieceNo (wid L) (jB t)) :=
  (show (oV.view.slice (Rect.unit (s := S116736x128) (k0_off5 L t) S96x128.size (k0_off5_inb L t))).set = (oV.view.slice (piece (pieceNo (wid L) (jB t)))).set from
    rectB L t ▸ rfl)

/-- The task's lists, as the fetch lands them. -/
def lists : S38x96.Idx → Elt F .i32 := fun x => Sv d (ix3 (wid L) (x 0) (x 1))

/-- The 96 rows that list `k` of the task names. -/
def rowsOf (k : Fin 38) : S96x128.Idx → Elt F .f32 :=
  fun x => X d (ixX ⟨(show BitVec 32 from Sv d (ix3 (wid L) k (x 0))).toNat % 100000, by omega⟩ (x 1))

/-- Row `off` of the list buffer as a gather reads it. -/
abbrev lRow (off : Fin 2 → ℕ) (h : ∀ a, off a + S1x96.size a ≤ S38x96.size a) : Memref sig .scVector .vmem S96 .i32 :=
  (lV.slice (Rect.unit (s := S38x96) off S1x96.size h) (fun _ => rfl)).squeeze S96 squeezes_S1x96_S96

theorem lRow_read (off : Fin 2 → ℕ) (h) (k : Fin 38) (ho : off = ![k.val, 0]) (x : S96.Idx) :
    View.read (Elt F) (lRow off h).view (lists Sv d L) x = Sv d (ix3 (wid L) k (x 0)) := by
  subst ho
  refine (View.read_apply _ _).trans ((cast_eq _ _).trans ?_)
  show Sv d (ix3 (wid L) ((Rect.unit (s := S38x96) ![k.val, 0] S1x96.size h).emb ((Shape.reshapeEquiv (s := S1x96) (s' := S96) squeezes_S1x96_S96.numel_eq) x) 0)
    ((Rect.unit (s := S38x96) ![k.val, 0] S1x96.size h).emb ((Shape.reshapeEquiv (s := S1x96) (s' := S96) squeezes_S1x96_S96.numel_eq) x) 1)) = _
  rw [show (Shape.reshapeEquiv (s := S1x96) (s' := S96) squeezes_S1x96_S96.numel_eq) x = Fin.cons ⟨0, Nat.one_pos⟩ x from
    Shape.reshapeEquiv_cons_one (n := 1) (d := ![96]) _ x]
  have e0 : (Rect.unit (s := S38x96) ![k.val, 0] S1x96.size h).emb (Fin.cons ⟨0, Nat.one_pos⟩ x) 0 = k :=
    Fin.ext (show k.val + 1 * 0 = k.val by omega)
  have e1 : (Rect.unit (s := S38x96) ![k.val, 0] S1x96.size h).emb (Fin.cons ⟨0, Nat.one_pos⟩ x) 1 = x 0 :=
    Fin.ext (show 0 + 1 * (x 0).val = (x 0).val by omega)
  rw [e0, e1]

/-- The two rows that a trip's gathers read are apart. -/
theorem lRow_disj (t : Fin k0_t1_loop.trips) :
    Disjoint (lRow (k0_off3 t) (k0_off3_inb t)).view.set (lRow (k0_off2 t) (k0_off2_inb t)).view.set := by
  simp only [Memref.view, View.set_reshape, View.set_slice]
  refine (Finset.disjoint_map _).mpr (Rect.disjoint_of_separated _ _ 0 (.inr (.inr ?_)))
  simp only [Rect.off_unit, Rect.size_unit, Rect.stride_unit, k0_off2_eq, k0_off3_eq]
  show 2 * t.val + 1 * (1 - 1) < 2 * t.val + 1
  omega

theorem in_range (hok : RowsOK Sv) (off : Fin 2 → ℕ) (h) (k : Fin 38) (ho : off = ![k.val, 0]) :
    ∀ x, (View.read (Elt F) (lRow off h).view (lists Sv d L) x).toNat < 100000 := by
  intro x; rw [lRow_read Sv d L off h k ho x]; exact hok d _

/-- What a gather over list `k` delivers: the rows that the list names. -/
theorem pay_val (hg : S100000x128.Gathers 0 S96x128) (hn) (off : Fin 2 → ℕ) (h) (k : Fin 38) (ho : off = ![k.val, 0])
    (hin : ∀ x, (View.read (Elt F) (lRow off h).view (lists Sv d L) x).toNat < 100000) (g : S100000x128.Idx → Elt F .f32) (hgX : g = X d) :
    SparseCore.gatherPayload hg g (SparseCore.rows (View.read (Elt F) (lRow off h).view (lists Sv d L)) hn hin) = rowsOf X Sv d L k := by
  subst hgX
  funext x
  show X d _ = X d _
  congr 1
  funext a
  match a with
  | 0 =>
    refine (Shape.Gathers.idx_axis hg _ x).trans (Fin.ext ?_)
    show (View.read (Elt F) (lRow off h).view (lists Sv d L) (S96.rowMajor.symm ((x 0).cast hn.symm))).toNat = _
    rw [lRow_read Sv d L off h k ho]
    have hx : S96.rowMajor.symm ((x 0).cast hn.symm) 0 = x 0 := by
      apply Fin.ext
      have := Shape.rowMajor_val_one (S96.rowMajor.symm ((x 0).cast hn.symm))
      rw [Equiv.apply_symm_apply] at this; exact this.symm
    rw [hx]
    have hr := hin (fun | 0 => x 0)
    rw [lRow_read Sv d L off h k ho] at hr
    exact (Nat.mod_eq_of_lt hr).symm
  | 1 => exact Fin.ext (Shape.Gathers.idx_of_ne hg _ x 1 (by decide))

/-- A piece of the gathered array is the rows that its list names. -/
theorem gathered_piece (off : Fin 2 → ℕ) (h : ∀ a, off a + S96x128.size a ≤ S116736x128.size a) (k : Fin 38)
    (ho : off = ![96 * (pieceNo (wid L) k).val, 0]) (y : S96x128.Idx) :
    Gv X Sv d ((Rect.unit (s := S116736x128) off S96x128.size h).emb y) = rowsOf X Sv d L k y := by
  subst ho
  have hw := (wid L).isLt; have hk := k.isLt; have hy : (y 0).val < 96 := (y 0).isLt
  have h0 : ((Rect.unit (s := S116736x128) ![96 * (pieceNo (wid L) k).val, 0] S96x128.size h).emb y 0).val = 96 * (k.val + 38 * (wid L).val) + (y 0).val := by
    show 96 * (pieceNo (wid L) k).val + 1 * (y 0).val = _
    rw [pieceNo_val]; omega
  have h1 : (Rect.unit (s := S116736x128) ![96 * (pieceNo (wid L) k).val, 0] S96x128.size h).emb y 1 = y 1 :=
    Fin.ext (show 0 + 1 * (y 1).val = (y 1).val by omega)
  have hs : slot ((Rect.unit (s := S116736x128) ![96 * (pieceNo (wid L) k).val, 0] S96x128.size h).emb y 0) = ix3 (wid L) k (y 0) := by
    funext a
    match a with
    | 0 => refine Fin.ext (show _ / 3648 = (wid L).val from ?_); rw [h0]; omega
    | 1 => refine Fin.ext (show _ % 3648 / 96 = k.val from ?_); rw [h0]; omega
    | 2 => refine Fin.ext (show _ % 96 = (y 0).val from ?_); rw [h0]; omega
  show X d (ixX ⟨(show BitVec 32 from Sv d (slot _)).toNat % 100000, _⟩ _) = X d (ixX ⟨(show BitVec 32 from Sv d (ix3 (wid L) k (y 0))).toNat % 100000, _⟩ (y 1))
  simp only [hs, h1]

/-- A piece written whole with the rows that its list names holds the gathered array there. -/
theorem pts_gathered (M : Memref sig .scVector .hbm S96x128 .f32) (off : Fin 2 → ℕ) (h : ∀ a, off a + S96x128.size a ≤ S116736x128.size a)
    (k : Fin 38) (ho : off = ![96 * (pieceNo (wid L) k).val, 0]) (p : S96x128.Idx → Elt F .f32) (hp : p = rowsOf X Sv d L k) :
    ((oV.slice (Rect.unit (s := S116736x128) off S96x128.size h) (fun _ => rfl)).view.loc (VT d L)
        ↦[(oV.slice (Rect.unit (s := S116736x128) off S96x128.size h) (fun _ => rfl)).view.set]{fullShare}
          (oV.slice (Rect.unit (s := S116736x128) off S96x128.size h) (fun _ => rfl)).view.writes (Elt F) (O0 d) [⟨Rect.whole S96x128, p⟩] : sProp 𝕄)
      = (oLoc d ↦[pieceSet (pieceNo (wid L) k)]{fullShare} Gv X Sv d) := by
  have hset : (oV.slice (Rect.unit (s := S116736x128) off S96x128.size h) (fun _ => rfl)).view.set = pieceSet (pieceNo (wid L) k) :=
    show (oV.view.slice (Rect.unit (s := S116736x128) off S96x128.size h)).set = (oV.view.slice (piece (pieceNo (wid L) k))).set from
      piece_rect _ off h ho ▸ rfl
  rw [hset]
  refine pointsTo_congr (fun i hi => ?_)
  rw [← hset] at hi
  obtain ⟨y, -, rfl⟩ := Finset.mem_map.mp hi
  have e := congrFun (View.read_writes_whole (Val := Elt F) (oV.slice (Rect.unit (s := S116736x128) off S96x128.size h) (fun _ => rfl)).view (O0 d) p) y
  refine Eq.trans ((View.read_apply _ _).trans (cast_eq _ _)).symm (e.trans ?_)
  rw [hp]; exact (gathered_piece X Sv d L off h k ho y).symm

/-- What the fetch of the lists lands. -/
theorem sRow_read : View.read (Elt F) (sRow L).view (Sv d) = lists Sv d L := by
  funext x
  refine (View.read_apply _ _).trans ((cast_eq _ _).trans ?_)
  show Sv d ((Rect.unit (s := S32x38x96) (k0_off1 L) S1x38x96.size (k0_off1_inb L)).emb ((Shape.reshapeEquiv (s := S1x38x96) (s' := S38x96) squeezes_S1x38x96_S38x96.numel_eq) x)) = Sv d (ix3 (wid L) (x 0) (x 1))
  rw [show (Shape.reshapeEquiv (s := S1x38x96) (s' := S38x96) squeezes_S1x38x96_S38x96.numel_eq) x = Fin.cons ⟨0, Nat.one_pos⟩ x from
    Shape.reshapeEquiv_cons_one (n := 2) (d := ![38, 96]) _ x]
  congr 1
  funext a
  have ho := k0_off1_eq L
  match a with
  | 0 => exact Fin.ext (show k0_off1 L 0 + 1 * 0 = _ by rw [ho]; show 2 * (L 1).val + (L 0).val + 1 * 0 = _; rw [← wid_val L]; rfl)
  | 1 => exact Fin.ext (show k0_off1 L 1 + 1 * (x 0).val = (x 0).val by rw [ho]; show 0 + 1 * (x 0).val = _; omega)
  | 2 => exact Fin.ext (show k0_off1 L 2 + 1 * (x 1).val = (x 1).val by rw [ho]; show 0 + 1 * (x 1).val = _; omega)

/-- The whole of `x` as a gather reads it is `x`. -/
theorem xAll_read : View.read (Elt F) (xV.slice (Rect.unit (s := S100000x128) ![0, 0] S100000x128.size inb_S100000x128_S100000x128_0_0) (fun _ => rfl)).view (X d) = X d := by
  funext x
  refine (View.read_apply _ _).trans ((cast_eq _ _).trans ?_)
  show X d ((Rect.unit (s := S100000x128) ![0, 0] S100000x128.size inb_S100000x128_S100000x128_0_0).emb x) = X d x
  congr 1
  funext a
  match a with
  | 0 => exact Fin.ext (show 0 + 1 * (x 0).val = (x 0).val by omega)
  | 1 => exact Fin.ext (show 0 + 1 * (x 1).val = (x 1).val by omega)

/-- The pieces apart from the two of trip `t`. -/
def restP (w : Fin 32) (t : Fin k0_t1_loop.trips) : sProp 𝕄 :=
  bigSep ((Finset.univ.erase (jA t)).erase (jB t)) fun j : Fin 38 => oLoc d ↦[pieceSet (pieceNo w j)]{fullShare} pieceVal X Sv O0 d t.val j

theorem jB_ne_jA (t : Fin k0_t1_loop.trips) : jB t ≠ jA t := fun h => by have := congrArg Fin.val h; rw [jA_val, jB_val] at this; omega

/-- Before trip `t` its two pieces are as launched; -/
theorem pieces_before (w : Fin 32) (t : Fin k0_t1_loop.trips) :
    pieces X Sv O0 d w t.val = iprop((oLoc d ↦[pieceSet (pieceNo w (jA t))]{fullShare} O0 d)
      ∗ (oLoc d ↦[pieceSet (pieceNo w (jB t))]{fullShare} O0 d) ∗ restP X Sv O0 d w t) := by
  unfold pieces restP
  rw [SparseCore.bigSep_erase' (Finset.mem_univ (jA t)),
    SparseCore.bigSep_erase' (Finset.mem_erase.mpr ⟨jB_ne_jA t, Finset.mem_univ (jB t)⟩)]
  have hA : pieceVal X Sv O0 d t.val (jA t) = O0 d := if_neg (by rw [jA_val]; omega)
  have hB : pieceVal X Sv O0 d t.val (jB t) = O0 d := if_neg (by rw [jB_val]; omega)
  rw [hA, hB]

/-- after it they are gathered, the others as before. -/
theorem pieces_after (w : Fin 32) (t : Fin k0_t1_loop.trips) :
    pieces X Sv O0 d w (t.val + 1) = iprop((oLoc d ↦[pieceSet (pieceNo w (jA t))]{fullShare} Gv X Sv d)
      ∗ (oLoc d ↦[pieceSet (pieceNo w (jB t))]{fullShare} Gv X Sv d) ∗ restP X Sv O0 d w t) := by
  unfold pieces restP
  rw [SparseCore.bigSep_erase' (Finset.mem_univ (jA t)),
    SparseCore.bigSep_erase' (Finset.mem_erase.mpr ⟨jB_ne_jA t, Finset.mem_univ (jB t)⟩)]
  have hA : pieceVal X Sv O0 d (t.val + 1) (jA t) = Gv X Sv d := if_pos (by rw [jA_val]; omega)
  have hB : pieceVal X Sv O0 d (t.val + 1) (jB t) = Gv X Sv d := if_pos (by rw [jB_val]; omega)
  rw [hA, hB]
  refine congrArg (fun Z => iprop(_ ∗ _ ∗ Z)) (bigSep_congr fun j hj => ?_)
  have h1 := (Finset.mem_erase.mp hj).1
  have h2 := (Finset.mem_erase.mp (Finset.mem_erase.mp hj).2).1
  have e : (j.val < 2 * (t.val + 1)) ↔ (j.val < 2 * t.val) := by
    have g1 : j.val ≠ 2 * t.val + 1 := fun h => h1 (Fin.ext h)
    have g2 : j.val ≠ 2 * t.val := fun h => h2 (Fin.ext h)
    omega
  simp only [pieceVal, e]

/-- The five transfer cells of a task at zero. -/
abbrev cells0 : sProp 𝕄 :=
  iprop(semVal (VT d L, SemLoc.dma cc0_scratch3.sem) 0 ∗ semVal (VT d L, SemLoc.dma cc0_scratch4.sem) 0
    ∗ semVal (VT d L, SemLoc.dma cc0_scoped0.sem) 0 ∗ semVal (VT d L, SemLoc.dma cc0_scoped1.sem) 0
    ∗ semVal (VT d L, SemLoc.dma cc0_scoped2.sem) 0)

/-- What a task holds before trip `k`. -/
def inv (O : CellTallies nD τ sig (HIx 1)) (W : Waits sig (HIx 1)) (k : Nat) (_ : BitVec 32) : sProp 𝕄 :=
  iprop(Transfers.MayWaits (VT d L) (default : HIx 1) O
    ∗ (xV.view.loc (VT d L) ↦{Transfers.shareTokN (tq (wid L)) 0} X d)
    ∗ (xV.view.loc (VT d L) ↦{Transfers.shareTokN (tq (wid L)) 1} X d)
    ∗ (lV.view.loc (VT d L) ↦[lV.view.set]{fullShare} lists Sv d L)
    ∗ (∃ f, aV.view.loc (VT d L) ↦[aV.view.set]{fullShare} f)
    ∗ (∃ f, bV.view.loc (VT d L) ↦[bV.view.set]{fullShare} f)
    ∗ pieces X Sv O0 d (wid L) k ∗ cells0 d L
    ∗ ∃ W', ⌜∀ p ∈ W', p ∈ W ∨ p.2 = none⌝ ∗ owes (VT d L) O W')

set_option maxHeartbeats 4000000 in
/-- One task's run: the lists fetched, then the 19 trips by `inv`. -/
theorem tile_run (hok : RowsOK Sv) (O : CellTallies nD τ sig (HIx 1)) (W : Waits sig (HIx 1))
    (l0 : Buf (Elt F) (lV.view.loc (VT d L))) (a0 : Buf (Elt F) (aV.view.loc (VT d L))) (b0 : Buf (Elt F) (bV.view.loc (VT d L))) :
    (iprop(Transfers.MayWaits (VT d L) (default : HIx 1) O
        ∗ (xV.view.loc (VT d L) ↦{Transfers.shareTokN (tq (wid L)) 0} X d)
        ∗ (xV.view.loc (VT d L) ↦{Transfers.shareTokN (tq (wid L)) 1} X d)
        ∗ (sV.view.loc (VT d L) ↦{tq (wid L)} Sv d)
        ∗ (lV.view.loc (VT d L) ↦[lV.view.set]{fullShare} l0)
        ∗ (aV.view.loc (VT d L) ↦[aV.view.set]{fullShare} a0)
        ∗ (bV.view.loc (VT d L) ↦[bV.view.set]{fullShare} b0)
        ∗ pieces X Sv O0 d (wid L) 0 ∗ cells0 d L ∗ owes (VT d L) O W) : sProp 𝕄)
      ⊢ wp frame (wpE (defs₀ (F := F)) 𝒱₀ (VT d L) none) Set.univ
          (cc0_gather_k L xV (Memref.isWhole_whole _) sV (Memref.isWhole_whole _) oV (Memref.isWhole_whole _)
            lV (Memref.isWhole_whole _) aV (Memref.isWhole_whole _) bV (Memref.isWhole_whole _)
            cc0_scratch3 cc0_scratch4 cc0_scoped0 cc0_scoped1 cc0_scoped2)
          fun _ => iprop((xV.view.loc (VT d L) ↦{Transfers.shareTokN (tq (wid L)) 0} X d)
            ∗ (xV.view.loc (VT d L) ↦{Transfers.shareTokN (tq (wid L)) 1} X d)
            ∗ (sV.view.loc (VT d L) ↦{tq (wid L)} Sv d)
            ∗ (∃ f, lV.view.loc (VT d L) ↦[lV.view.set]{fullShare} f)
            ∗ (∃ f, aV.view.loc (VT d L) ↦[aV.view.set]{fullShare} f)
            ∗ (∃ f, bV.view.loc (VT d L) ↦[bV.view.set]{fullShare} f)
            ∗ pieces X Sv O0 d (wid L) 19 ∗ cells0 d L
            ∗ ∃ W', ⌜∀ p ∈ W', p ∈ W ∨ p.2 = none⌝ ∗ owes (VT d L) O W') := by
  iintro ⟨#Hmw, HX0, HX1, HS, HL, HA, HB, HP, ⟨Hc3, Hc4, Hs0, Hs1, Hs2⟩, HO⟩
  sl_unfold [cc0_gather_k]
  sl_exec
  sl_for (inv X Sv O0 d L O W) $$ [HX0 HX1 HL HA HB HP Hc3 Hc4 Hs0 Hs1 Hs2 HO]
  case region =>
    intro t _
    unfold inv
    rw [pieces_before, pieces_after]
    iintro ⟨Hmw, HX0, HX1, HL, ⟨%fa, HA⟩, ⟨%fb, HB⟩, ⟨HPa, HPb, HPr⟩, ⟨Hc3, Hc4, Hs0, Hs1, Hs2⟩, %W', %hW', HO⟩
    ihave HPa' := (Entails.of_eq (show (oLoc d ↦[pieceSet (pieceNo (wid L) (jA t))]{fullShare} O0 d : sProp 𝕄)
      = ((oA L t).view.loc (VT d L) ↦[(oA L t).view.set]{fullShare} O0 d) by rw [set_oA])) $$ HPa
    ihave HPb' := (Entails.of_eq (show (oLoc d ↦[pieceSet (pieceNo (wid L) (jB t))]{fullShare} O0 d : sProp 𝕄)
      = ((oB L t).view.loc (VT d L) ↦[(oB L t).view.set]{fullShare} O0 d) by rw [set_oB])) $$ HPb
    have hd := lRow_disj t
    have hrA := in_range Sv d L hok (k0_off2 t) (k0_off2_inb t) (jA t) (k0_off2_eq t)
    have hrB := in_range Sv d L hok (k0_off3 t) (k0_off3_inb t) (jB t) (k0_off3_eq t)
    sl_exec (disch := exact View.amount_pos _ _ (show 0 < S96x128.numel by decide))
    sl_step
    isplitl [Hmw]; · iexact Hmw
    isplitl [HX0]; · iexact HX0
    isplitl [HX1]; · iexact HX1
    isplitl [HL]; · iexact HL
    isplitl [HA]; · iexists _; iexact HA
    isplitl [HB]; · iexists _; iexact HB
    isplitl [HPa' HPb' HPr]
    · isplitl [HPa']
      · iapply (Entails.of_eq (pts_gathered X Sv O0 d L (oA L t) (k0_off4 L t) (k0_off4_inb L t) (jA t)
          ((k0_off4_eq L t).trans (congrArg (fun z : ℕ => (![z, 0] : Fin 2 → ℕ)) (off_jA L t))) (tile_run.sl.dma0_1 X Sv d L t fa hrA)
          ((View.read_writes_whole (Val := Elt F) aV.view fa _).trans (pay_val X Sv d L _ _ (k0_off2 t) (k0_off2_inb t) (jA t) (k0_off2_eq t) hrA _ (xAll_read X d)))))
        iexact HPa'
      isplitl [HPb']
      · iapply (Entails.of_eq (pts_gathered X Sv O0 d L (oB L t) (k0_off5 L t) (k0_off5_inb L t) (jB t)
          ((k0_off5_eq L t).trans (congrArg (fun z : ℕ => (![z, 0] : Fin 2 → ℕ)) (off_jB L t))) (tile_run.sl.dma0_2 X Sv d L t fb hrB)
          ((View.read_writes_whole (Val := Elt F) bV.view fb _).trans (pay_val X Sv d L _ _ (k0_off3 t) (k0_off3_inb t) (jB t) (k0_off3_eq t) hrB _ (xAll_read X d)))))
        iexact HPb'
      iexact HPr
    isplitl [Hc3 Hc4 Hs0 Hs1 Hs2]
    · isplitl [Hc3]; · iexact Hc3
      isplitl [Hc4]; · iexact Hc4
      isplitl [Hs0]; · iexact Hs0
      isplitl [Hs1]; · iexact Hs1
      iexact Hs2
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv
    isplitr; · iexact Hmw
    isplitl [HX0]; · iexact HX0
    isplitl [HX1]; · iexact HX1
    isplitl [HL]
    · iapply (Entails.of_eq (congrArg (fun z => (lV.view.loc (VT d L) ↦[lV.view.set]{fullShare} z : sProp 𝕄))
        ((View.read_writes_whole (Val := Elt F) lV.view lV.view.junk (tile_run.sl.dma0 Sv d L)).trans (sRow_read Sv d L))))
      iexact HL
    isplitl [HA]; · iexists a0; iexact HA
    isplitl [HB]; · iexists b0; iexact HB
    isplitl [HP]; · iexact HP
    isplitl [Hc3 Hc4 Hs0 Hs1 Hs2]
    · isplitl [Hc3]; · iexact Hc3
      isplitl [Hc4]; · iexact Hc4
      isplitl [Hs0]; · iexact Hs0
      isplitl [Hs1]; · iexact Hs1
      iexact Hs2
    iexists _; isplitr
    swap; · iexact HO
    ipureintro; intro p hp
    rcases Finset.mem_insert.mp hp with hp | hp; · exact .inr (hp ▸ rfl)
    exact .inl hp
  unfold inv
  irw [show (Scf.trips k0_t1_loop.lb k0_t1_loop.ub k0_t1_loop.st) = 19 from trips_eq]
  iintro %_ ⟨-, HX0, HX1, HL, HA, HB, HP, Hc, HO⟩
  sl_exec
  sl_step
  isplitl [HX0]; · iexact HX0
  isplitl [HX1]; · iexact HX1
  isplitl [HS]; · iexact HS
  isplitl [HL]; · iexists _; iexact HL
  isplitl [HA]; · iexact HA
  isplitl [HB]; · iexact HB
  isplitl [HP]; · iexact HP
  isplitl [Hc]; · iexact Hc
  iexact HO

/-! ## A task's own cells and buffers -/

abbrev csem (k : Nat) (hk : k < 5 := by decide) : DmaSem sig := ⟨k, lt_of_lt_of_le hk (by decide)⟩
abbrev dcell (c : Fin τ.nSC) (i : Fin τ.nSub) (k : Fin 5) : GSem nD τ sig := (V d c i, .dma (csem k.val k.isLt))

theorem dcell_mem (c : Fin τ.nSC) (i : Fin τ.nSub) (k : Fin 5) : dcell d c i k ∈ ownCells (V d c i) :=
  mem_ownCells.mpr ⟨rfl, (show ∀ k : Fin 5, (SemLoc.dma (csem k.val k.isLt) : SemLoc sig).isScoped .scVector = true by decide) _⟩

/-- The task's own cells at zero: the five it names, and the rest. -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- Scratch buffer `r` of the subcore that runs the task. -/
abbrev bref (r : Ref sig .scVector) : DevRef τ sig := (Proc.scVector (cV L) (jV L)).devRef r

theorem bref_ne {r r' : Ref sig .scVector} (h : r ≠ r') : bref L r ≠ bref L r' := fun e => h (Proc.devRef_injective _ e)

/-- The task's own buffers: its three scratch buffers, each at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase (bref L cc0_scratch0)).erase (bref L cc0_scratch1)).erase (bref L cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := bref L cc0_scratch0) rfl)).trans ?_
  rw [SparseCore.bigSep_erase' (Finset.mem_erase.mpr ⟨bref_ne L (show (cc0_scratch1 : Ref sig .scVector) ≠ cc0_scratch0 by decide),
      SparseCore.Cfg.mem_ownRefs_of_owner (p := Proc.scVector (cV L) (jV L)) (b := bref L cc0_scratch1) rfl⟩),
    SparseCore.bigSep_erase' (Finset.mem_erase.mpr ⟨bref_ne L (show (cc0_scratch2 : Ref sig .scVector) ≠ cc0_scratch1 by decide),
      Finset.mem_erase.mpr ⟨bref_ne L (show (cc0_scratch2 : Ref sig .scVector) ≠ cc0_scratch0 by decide),
        SparseCore.Cfg.mem_ownRefs_of_owner (p := Proc.scVector (cV L) (jV L)) (b := bref L cc0_scratch2) rfl⟩⟩)]

/-- A scratch buffer held whole, as the run spells it. -/
theorem pts_lV (f : Buf (Elt F) ((VT d L).loc cc0_scratch0)) :
    (lV.view.loc (VT d L) ↦[lV.view.set]{fullShare} f : sProp 𝕄) = ((VT d L).loc cc0_scratch0 ↦{fullShare} f) := by
  rw [show lV.view.set = Finset.univ from View.set_whole _]
theorem pts_aV (f : Buf (Elt F) ((VT d L).loc cc0_scratch1)) :
    (aV.view.loc (VT d L) ↦[aV.view.set]{fullShare} f : sProp 𝕄) = ((VT d L).loc cc0_scratch1 ↦{fullShare} f) := by
  rw [show aV.view.set = Finset.univ from View.set_whole _]
theorem pts_bV (f : Buf (Elt F) ((VT d L).loc cc0_scratch2)) :
    (bV.view.loc (VT d L) ↦[bV.view.set]{fullShare} f : sProp 𝕄) = ((VT d L).loc cc0_scratch2 ↦{fullShare} f) := by
  rw [show bV.view.set = Finset.univ from View.set_whole _]

/-- The task's share of `x` as what stays with it and two read tokens. -/
theorem xToks (q : PosShare TreeShare) (f : Buf (Elt F) (xLoc d)) :
    (xLoc d ↦{q} f : sProp 𝕄) ⊣⊢ iprop((xLoc d ↦{Transfers.shareDrop q 2} f) ∗ (xLoc d ↦{Transfers.shareTokN q 0} f) ∗ (xLoc d ↦{Transfers.shareTokN q 1} f)) := by
  have h : (xLoc d ↦{q} f : sProp 𝕄) ⊣⊢ iprop((xLoc d ↦{Transfers.shareDrop q 2} f) ∗ bigSep (Finset.range 2) fun i => xLoc d ↦{Transfers.shareTokN q i} f) :=
    Transfers.pointsTo_toks_range (ℓ := xLoc d) (S := Finset.univ) (f := f) q 2
  rw [show Finset.range 2 = {0, 1} by decide, SparseCore.bigSep_insert' (by decide), bigSep_singleton] at h
  exact h

/-- One task, from what the launch deals it to what it hands back. -/
theorem tile_body (hF : (K (F := F)).Facts) (hok : RowsOK Sv) (O : CellTallies nD τ sig (HIx 1)) (W : Waits sig (HIx 1)) (hO : ∀ g, O g none = 0) :
    iprop(levAts (K (F := F)).L (K (F := F)).lev ∗ emp ∗ res X Sv O0 d (wid L) 0
        ∗ scopedBufs (VT d L) ∗ scopedSems0 (VT d L) ∗ owes (VT d L) O W)
      ⊢ wp frame (wpE (defs₀ (F := F)) 𝒱₀ (VT d L) none) Set.univ
          (cc0_gather_k L xV (Memref.isWhole_whole _) sV (Memref.isWhole_whole _) oV (Memref.isWhole_whole _)
            lV (Memref.isWhole_whole _) aV (Memref.isWhole_whole _) bV (Memref.isWhole_whole _)
            cc0_scratch3 cc0_scratch4 cc0_scoped0 cc0_scoped1 cc0_scoped2)
          fun _ => iprop(res X Sv O0 d (wid L) 19
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold res
  iintro ⟨#Hlv, -, ⟨Hx, Hs, Hp⟩, ⟨⟨%l0, HL⟩, ⟨%a0, HA⟩, ⟨%b0, HB⟩, Hbufs⟩, ⟨Hc, Hsems⟩, HO⟩
  ihave Hmw := (show levAts (K (F := F)).L (K (F := F)).lev ⊢ Transfers.MayWaits (VT d L) (default : HIx 1) O from
    (K (F := F)).mayWaits_none (thr := VT d L) hO) $$ Hlv
  ihave Hx' := (xToks (F := F) d (tq (wid L)) (X d)).1 $$ Hx
  icases Hx' with ⟨Hxd, Hx0, Hx1⟩
  ihave HL' := (Entails.of_eq (pts_lV (F := F) d L _).symm) $$ HL
  ihave HA' := (Entails.of_eq (pts_aV (F := F) d L _).symm) $$ HA
  ihave HB' := (Entails.of_eq (pts_bV (F := F) d L _).symm) $$ HB
  iapply (wp_wand_r Idealize.ShloMosaic.frame (wpE (defs₀ (F := F)) 𝒱₀ (VT d L) none) Set.univ)
  isplitl [Hx0 Hx1 Hs HL' HA' HB' Hp Hc HO]
  · iapply (tile_run X Sv O0 d L hok O W l0 a0 b0)
    isplitr; · iexact Hmw
    isplitl [Hx0]; · iexact Hx0
    isplitl [Hx1]; · iexact Hx1
    isplitl [Hs]; · iexact Hs
    isplitl [HL']; · iexact HL'
    isplitl [HA']; · iexact HA'
    isplitl [HB']; · iexact HB'
    isplitl [Hp]; · iexact Hp
    isplitl [Hc]; · iexact Hc
    iexact HO
  iintro %_ ⟨Hx0, Hx1, Hs, ⟨%g, HL'⟩, ⟨%ga, HA'⟩, ⟨%gb, HB'⟩, Hp, Hc, HO⟩
  ihave Hx := (xToks (F := F) d (tq (wid L)) (X d)).2 $$ [Hxd Hx0 Hx1]
  · isplitl [Hxd]; · iexact Hxd
    isplitl [Hx0]; · iexact Hx0
    iexact Hx1
  isplitl [Hx Hs Hp]
  · isplitl [Hx]; · iexact Hx
    isplitl [Hs]; · iexact Hs
    iexact Hp
  isplitl [HL' HA' HB' Hbufs]
  · isplitl [HL']; · iexists _; iapply (Entails.of_eq (pts_lV (F := F) d L _)); iexact HL'
    isplitl [HA']; · iexists _; iapply (Entails.of_eq (pts_aV (F := F) d L _)); iexact HA'
    isplitl [HB']; · iexists _; iapply (Entails.of_eq (pts_bV (F := F) d L _)); iexact HB'
    iexact Hbufs
  isplitl [Hc Hsems]
  · isplitl [Hc]; · iexact Hc
    iexact Hsems
  icases HO with ⟨%W', %hW', HO⟩
  iexists W'; isplitr
  · ipureintro; intro p hp
    rcases hW' p hp with h | h
    · exact .inl h
    · exact .inr (.inl h)
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          xV (Memref.isWhole_whole _) sV (Memref.isWhole_whole _) oV (Memref.isWhole_whole _)
          lV (Memref.isWhole_whole _) aV (Memref.isWhole_whole _) bV (Memref.isWhole_whole _)
          cc0_scratch3 cc0_scratch4 cc0_scoped0 cc0_scoped1 cc0_scoped2) ⟨⟩ c s := rfl

/-- The number of the task that subcore `i` of core `c` runs. -/
def wOf (c : Fin 2) (i : Fin 16) : Fin 32 := ⟨2 * i.val + c.val, by omega⟩

/-- What the call's handshakes carry: to each task its shares of `x` and of the row numbers and its pieces of the
    result, back the same with the pieces gathered. -/
def P : (K (F := F)).Pay (nD := nD) (Val := Elt F) (Name := ℕ) (U := UU) where
  go := fun q d c i => match q with | 0 => res X Sv O0 d (wOf (Fin.cast nCore_zero c) (Fin.cast nSub_zero i)) 0
  td := fun q d c i => match q with | 0 => res X Sv O0 d (wOf (Fin.cast nCore_zero c) (Fin.cast nSub_zero i)) 19
  st := fun q d c => match q with
    | 0 => bigSep Finset.univ fun i : Fin ((K (F := F)).nSub 0) => res X Sv O0 d (wOf (Fin.cast nCore_zero c) (Fin.cast nSub_zero i)) 0
  dn := fun q d c => match q with
    | 0 => bigSep Finset.univ fun i : Fin ((K (F := F)).nSub 0) => res X Sv O0 d (wOf (Fin.cast nCore_zero c) (Fin.cast nSub_zero i)) 19
  x := fun _ _ => iprop(emp)

instance pieces_storable (w : Fin 32) (k : ℕ) : BI.Storable (upEmb : UEmb _ 𝕄) (pieces X Sv O0 d w k) :=
  (inferInstance : BI.Storable (upEmb : UEmb _ 𝕄)
    (bigSep Finset.univ fun j : Fin 38 => (oLoc d ↦[pieceSet (pieceNo w j)]{fullShare} pieceVal X Sv O0 d k j : sProp 𝕄)))
instance res_storable (w : Fin 32) (k : ℕ) : BI.Storable (upEmb : UEmb _ 𝕄) (res X Sv O0 d w k) :=
  (inferInstance : BI.Storable (upEmb : UEmb _ 𝕄) iprop((xLoc d ↦{tq w} X d) ∗ (sLoc d ↦{tq w} Sv d) ∗ pieces X Sv O0 d w k))

instance P_storable : (P X Sv O0).IsStorable where
  st q d c := match q with
    | 0 => (inferInstance : BI.Storable (upEmb : UEmb _ 𝕄)
      (bigSep Finset.univ fun i : Fin ((K (F := F)).nSub 0) => res X Sv O0 d (wOf (Fin.cast nCore_zero c) (Fin.cast nSub_zero i)) 0))
  dn q d c := match q with
    | 0 => (inferInstance : BI.Storable (upEmb : UEmb _ 𝕄)
      (bigSep Finset.univ fun i : Fin ((K (F := F)).nSub 0) => res X Sv O0 d (wOf (Fin.cast nCore_zero c) (Fin.cast nSub_zero i)) 19))
  go q d c i := match q with
    | 0 => (inferInstance : BI.Storable (upEmb : UEmb _ 𝕄) (res X Sv O0 d (wOf (Fin.cast nCore_zero c) (Fin.cast nSub_zero i)) 0))
  td q d c i := match q with
    | 0 => (inferInstance : BI.Storable (upEmb : UEmb _ 𝕄) (res X Sv O0 d (wOf (Fin.cast nCore_zero c) (Fin.cast nSub_zero i)) 19))

theorem tileObl (hF : (K (F := F)).Facts) (hok : RowsOK Sv) : (K (F := F)).TileObl (D (F := F)) 𝒱 (P X Sv O0) v₀ 0 := by
  intro d c i O W hO _ _
  simp only [show (P X Sv O0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body X Sv O0 d (coordsV ⟨_, hci.1⟩ ⟨_, hci.2⟩) hF hok O W hO

theorem P_st (d : Dev nD) (c : Fin ((K (F := F)).nCore 0)) :
    (P X Sv O0).st 0 d c = bigSep Finset.univ fun i : Fin ((K (F := F)).nSub 0) => (P X Sv O0).go 0 d c i := by
  simp only [P]
theorem P_dn (d : Dev nD) (c : Fin ((K (F := F)).nCore 0)) :
    (P X Sv O0).dn 0 d c = bigSep Finset.univ fun i : Fin ((K (F := F)).nSub 0) => (P X Sv O0).td 0 d c i := by
  simp only [P]

/-- A core's share of the call is its tasks' shares. -/
theorem vecSplit : (K (F := F)).VecSplit' (P X Sv O0) 0 := by
  intro d c
  rw [P_st, P_dn]
  iintro H; imodintro
  isplitl [H]; · iexact H
  iintro H; iexact H

end Tile

/-! ## The call's operands and results whole -/

theorem bigSep_tasks (Φ : Fin 32 → sProp 𝕄) :
    (bigSep Finset.univ fun c : Fin ((K (F := F)).nCore 0) => bigSep Finset.univ fun i : Fin ((K (F := F)).nSub 0) =>
        Φ (wOf (Fin.cast nCore_zero c) (Fin.cast nSub_zero i))) = bigSep Finset.univ Φ := by
  let e : Fin 2 × Fin 16 ≃ Fin 32 :=
    { toFun := fun p => wOf p.1 p.2
      invFun := fun w => (⟨w.val % 2, by omega⟩, ⟨w.val / 2, by omega⟩)
      left_inv := fun p => by
        obtain ⟨c, i⟩ := p
        refine Prod.ext (Fin.ext ?_) (Fin.ext ?_)
        · show (2 * i.val + c.val) % 2 = c.val; omega
        · show (2 * i.val + c.val) / 2 = i.val; omega
      right_inv := fun w => Fin.ext (show 2 * (w.val / 2) + w.val % 2 = w.val by omega) }
  rw [bigSep_univ_equiv e, bigSep_univ_prod]
  rfl

section Whole

variable (X : (d : Dev nD) → Buf (Elt F) (xLoc d)) (Sv : (d : Dev nD) → Buf (Elt F) (sLoc d)) (O0 : (d : Dev nD) → Buf (Elt F) (oLoc d))
variable (d : Dev nD)

/-- A task's pieces before the first trip: as they came. -/
theorem pieces_first (w : Fin 32) :
    pieces X Sv O0 d w 0 = bigSep Finset.univ fun j : Fin 38 => (oLoc d ↦[pieceSet (pieceNo w j)]{fullShare} O0 d : sProp 𝕄) := by
  unfold pieces
  refine bigSep_congr fun j _ => ?_
  rw [pieceVal, if_neg (show ¬ j.val < 2 * 0 by omega)]
/-- A task's pieces after the last trip: gathered. -/
theorem pieces_last (w : Fin 32) :
    pieces X Sv O0 d w 19 = bigSep Finset.univ fun j : Fin 38 => (oLoc d ↦[pieceSet (pieceNo w j)]{fullShare} gathered (X d) (Sv d) : sProp 𝕄) := by
  unfold pieces
  refine bigSep_congr fun j _ => ?_
  rw [pieceVal, if_pos (show j.val < 2 * 19 by have := j.isLt; omega)]

/-- What the call takes: `x`, the row numbers and the result, whole. -/
theorem st_whole :
    (bigSep Finset.univ fun c : Fin ((K (F := F)).nCore 0) => (P X Sv O0).st 0 d c)
      = iprop((xLoc d ↦{fullShare} X d) ∗ (sLoc d ↦{fullShare} Sv d) ∗ (oLoc d ↦{fullShare} O0 d)) := by
  refine (bigSep_tasks (F := F) fun w => res X Sv O0 d w 0).trans ?_
  simp only [res, pieces_first]
  rw [bigSep_sep', bigSep_sep', pts_shares (X d), pts_shares (Sv d), oPts_pieces d (O0 d)]
/-- What the call gives back: the same, the result gathered. -/
theorem dn_whole :
    (bigSep Finset.univ fun c : Fin ((K (F := F)).nCore 0) => (P X Sv O0).dn 0 d c)
      = iprop((xLoc d ↦{fullShare} X d) ∗ (sLoc d ↦{fullShare} Sv d) ∗ (oLoc d ↦{fullShare} gathered (X d) (Sv d))) := by
  refine (bigSep_tasks (F := F) fun w => res X Sv O0 d w 19).trans ?_
  simp only [res, pieces_last]
  rw [bigSep_sep', bigSep_sep', pts_shares (X d), pts_shares (Sv d), oPts_pieces d (gathered (X d) (Sv d))]

end Whole

end Cert.Proof.Sc

end
-- ==== Proof.Host.lean ====
/-
  @main's host operations: the page layout of the padded rows (before the SparseCore call) and the bias (after it), each
  value that a kernel takes as a term of the segment numbers `batch`.
-/
module

public import proofs.«01_k».proof.Proof.Sc
public import Idealize.ShloMosaic.Lib.StableHlo.RunHlo
public import Idealize.ShloMosaic.Lib.Pipeline.Frame
public import Idealize.ShloMosaic.Lib.Pipeline.Regions

@[expose] public section

set_option Elab.async false

noncomputable section

namespace Cert.Proof.Host

open Cert.KernelIdeal Cert.KernelIdeal.Gen
open Idealize.ShloMosaic Idealize.ShloMosaic.TcCoe Idealize.SL.Sem Idealize.ShloMosaic.StableHlo

/-! ## The layout as functions of the segment numbers -/

/-- How many positions of `b` are below `s`, for each `s ≤ 512`. -/
def starts (b : IVec S100000 32) : IVec S513 32 :=
  (Host.reduce IntOp.addi (extui 32 (cmpi .slt (broadcastInDim S513x100000 ![0, 1] bcast_S1x100000_S513x100000_0_1 (broadcastInDim S1x100000 ![1] bcast_S100000_S1x100000_1 b)) (broadcastInDim S513x100000 ![0, 1] bcast_S513x1_S513x100000_0_1 (broadcastInDim S513x1 ![0] bcast_S513_S513x1_0 (iotaInDim S513 32 0)))) natLt_1_32) (constantI S_ 32 0#32) reducesTo_S513x100000_S513_d1 h_S_)
/-- The size of each segment. -/
def counts (st : IVec S513 32) : IVec S512 32 :=
  (subi (extractStridedSlice S512 ![1] st slices_S513_S512_1) (extractStridedSlice S512 ![0] st slices_S513_S512_0))
/-- The sizes rounded up to multiples of 32. -/
def padded (n : IVec S512 32) : IVec S512 32 :=
  (muli (select (andi ((cmpi .ne) (signi (subi (addi n (broadcastInDim S512 ![] bcast_S_S512 (constantI S_ 32 32#32))) (broadcastInDim S512 ![] bcast_S_S512 (constantI S_ 32 1#32)))) ((broadcastInDim S512 ![] bcast_S_S512) (signi (constantI S_ 32 32#32)))) ((cmpi .ne) (Host.remsi (subi (addi n (broadcastInDim S512 ![] bcast_S_S512 (constantI S_ 32 32#32))) (broadcastInDim S512 ![] bcast_S_S512 (constantI S_ 32 1#32))) ((broadcastInDim S512 ![] bcast_S_S512) (constantI S_ 32 32#32))) ((broadcastInDim S512 ![] bcast_S_S512) (constantI S_ 32 0#32)))) (subi (Host.divsi (subi (addi n (broadcastInDim S512 ![] bcast_S_S512 (constantI S_ 32 32#32))) (broadcastInDim S512 ![] bcast_S_S512 (constantI S_ 32 1#32))) ((broadcastInDim S512 ![] bcast_S_S512) (constantI S_ 32 32#32))) ((broadcastInDim S512 ![] bcast_S_S512) (constantI S_ 32 1#32))) (Host.divsi (subi (addi n (broadcastInDim S512 ![] bcast_S_S512 (constantI S_ 32 32#32))) (broadcastInDim S512 ![] bcast_S_S512 (constantI S_ 32 1#32))) ((broadcastInDim S512 ![] bcast_S_S512) (constantI S_ 32 32#32)))) (broadcastInDim S512 ![] bcast_S_S512 (constantI S_ 32 32#32)))
/-- Where each segment begins among the padded rows. -/
def pstart (p : IVec S512 32) : IVec S513 32 :=
  (concatenate S513 0 [⟨S1, (broadcastInDim S1 ![] bcast_S_S1 (constantI S_ 32 0#32))⟩, ⟨S512, (Host.reduceWindow IntOp.addi ![512] ![1] ![511] ![0] p ((broadcastInDim S_ ![] bcast_S_S_) (constantI S_ 32 0#32)) reduceWindows_S512_S512_w512s1p511_0 h_S_)⟩] concatenates_S1_S512_S513_d0)
/-- Where the segment's own rows end among the padded rows. -/
def estart (ps : IVec S513 32) (n : IVec S512 32) : IVec S512 32 :=
  (addi (extractStridedSlice S512 ![0] ps slices_S513_S512_0) n)
/-- How far each segment has moved. -/
def dshift (ps : IVec S513 32) (st : IVec S513 32) : IVec S512 32 :=
  (subi (extractStridedSlice S512 ![0] ps slices_S513_S512_0) (extractStridedSlice S512 ![0] st slices_S513_S512_0))
/-- Where each page begins. -/
def cpos : IVec S3648 32 :=
  (muli (iotaInDim S3648 32 0) (broadcastInDim S3648 ![] bcast_S_S3648 (constantI S_ 32 32#32)))
/-- For each page, the greatest shift of the segments begun by then. -/
def pageShift (ps : IVec S513 32) (ds : IVec S512 32) : IVec S3648 32 :=
  (Host.reduce IntOp.maxsi (select (cmpi .sle (broadcastInDim S512x3648 ![0, 1] bcast_S512x1_S512x3648_0_1 (broadcastInDim S512x1 ![0] bcast_S512_S512x1_0 (extractStridedSlice S512 ![0] ps slices_S513_S512_0))) (broadcastInDim S512x3648 ![0, 1] bcast_S1x3648_S512x3648_0_1 (broadcastInDim S1x3648 ![1] bcast_S3648_S1x3648_1 cpos))) ((broadcastInDim S512x3648 ![0, 1] bcast_S512x1_S512x3648_0_1) (broadcastInDim S512x1 ![0] bcast_S512_S512x1_0 ds)) ((broadcastInDim S512x3648 ![] bcast_S_S512x3648) (constantI S_ 32 0#32))) (constantI S_ 32 2147483648#32) reducesTo_S512x3648_S3648_d0 h_S_)
/-- For each page, the greatest end of the segments begun by then. -/
def pageEnd (ps : IVec S513 32) (es : IVec S512 32) : IVec S3648 32 :=
  (Host.reduce IntOp.maxsi (select (cmpi .sle (broadcastInDim S512x3648 ![0, 1] bcast_S512x1_S512x3648_0_1 (broadcastInDim S512x1 ![0] bcast_S512_S512x1_0 (extractStridedSlice S512 ![0] ps slices_S513_S512_0))) (broadcastInDim S512x3648 ![0, 1] bcast_S1x3648_S512x3648_0_1 (broadcastInDim S1x3648 ![1] bcast_S3648_S1x3648_1 cpos))) ((broadcastInDim S512x3648 ![0, 1] bcast_S512x1_S512x3648_0_1) (broadcastInDim S512x1 ![0] bcast_S512_S512x1_0 es)) ((broadcastInDim S512x3648 ![] bcast_S_S512x3648) (constantI S_ 32 0#32))) (constantI S_ 32 2147483648#32) reducesTo_S512x3648_S3648_d0 h_S_)
/-- For each segment and page, whether the next segment has begun by that page. -/
def ended (ps : IVec S513 32) : IVec S512x3648 32 :=
  (extui 32 (cmpi .sle (broadcastInDim S512x3648 ![0, 1] bcast_S512x1_S512x3648_0_1 (broadcastInDim S512x1 ![0] bcast_S512_S512x1_0 (extractStridedSlice S512 ![1] ps slices_S513_S512_1))) (broadcastInDim S512x3648 ![0, 1] bcast_S1x3648_S512x3648_0_1 (broadcastInDim S1x3648 ![1] bcast_S3648_S1x3648_1 cpos))) natLt_1_32)
/-- The segment of each page. -/
def pageSeg (ps : IVec S513 32) : IVec S3648 32 :=
  (Host.reduce IntOp.addi (ended ps) (constantI S_ 32 0#32) reducesTo_S512x3648_S3648_d0 h_S_)
/-- Whether a padded row is a row of its page's segment. -/
def realRow (e : IVec S3648 32) : IVec S116736 1 :=
  (cmpi .slt (iotaInDim S116736 32 0) (shapeCast S116736 (broadcastInDim S3648x32 ![0, 1] bcast_S3648x1_S3648x32_0_1 (broadcastInDim S3648x1 ![0] bcast_S3648_S3648x1_0 e)) shapeCasts_S3648x32_S116736))
/-- The row that a padded row stands for. -/
def moved (ds : IVec S3648 32) : IVec S116736 32 :=
  (subi (iotaInDim S116736 32 0) (shapeCast S116736 (broadcastInDim S3648x32 ![0, 1] bcast_S3648x1_S3648x32_0_1 (broadcastInDim S3648x1 ![0] bcast_S3648_S3648x1_0 ds)) shapeCasts_S3648x32_S116736))
/-- The row that a padding row reads. -/
def wrapped : IVec S116736 32 :=
  (select (andi ((cmpi .ne) ((cmpi .slt) (Host.remsi (iotaInDim S116736 32 0) ((broadcastInDim S116736 ![] bcast_S_S116736) (select ((cmpi .eq) (constantI S_ 32 100000#32) (constantI S_ 32 0#32)) (constantI S_ 32 1#32) (constantI S_ 32 100000#32)))) ((broadcastInDim S116736 ![] bcast_S_S116736) (constantI S_ 32 0#32))) ((broadcastInDim S116736 ![] bcast_S_S116736) ((cmpi .slt) (select ((cmpi .eq) (constantI S_ 32 100000#32) (constantI S_ 32 0#32)) (constantI S_ 32 1#32) (constantI S_ 32 100000#32)) (constantI S_ 32 0#32)))) ((cmpi .ne) (Host.remsi (iotaInDim S116736 32 0) ((broadcastInDim S116736 ![] bcast_S_S116736) (select ((cmpi .eq) (constantI S_ 32 100000#32) (constantI S_ 32 0#32)) (constantI S_ 32 1#32) (constantI S_ 32 100000#32)))) ((broadcastInDim S116736 ![] bcast_S_S116736) (constantI S_ 32 0#32)))) (addi (Host.remsi (iotaInDim S116736 32 0) ((broadcastInDim S116736 ![] bcast_S_S116736) (select ((cmpi .eq) (constantI S_ 32 100000#32) (constantI S_ 32 0#32)) (constantI S_ 32 1#32) (constantI S_ 32 100000#32)))) ((broadcastInDim S116736 ![] bcast_S_S116736) (select ((cmpi .eq) (constantI S_ 32 100000#32) (constantI S_ 32 0#32)) (constantI S_ 32 1#32) (constantI S_ 32 100000#32)))) (Host.remsi (iotaInDim S116736 32 0) ((broadcastInDim S116736 ![] bcast_S_S116736) (select ((cmpi .eq) (constantI S_ 32 100000#32) (constantI S_ 32 0#32)) (constantI S_ 32 1#32) (constantI S_ 32 100000#32)))))
/-- The row that each padded row reads. -/
def src (r : IVec S116736 1) (mv : IVec S116736 32) (wr : IVec S116736 32) : IVec S116736 32 :=
  (minsi ((broadcastInDim S116736 ![] bcast_S_S116736) (constantI S_ 32 99999#32)) (maxsi ((broadcastInDim S116736 ![] bcast_S_S116736) (constantI S_ 32 0#32)) (select r mv wr)))
/-- The segment of each padded row, 512 for padding. -/
def segOf (r : IVec S116736 1) (sg : IVec S3648 32) : IVec S116736 32 :=
  (select r (shapeCast S116736 (broadcastInDim S3648x32 ![0, 1] bcast_S3648x1_S3648x32_0_1 (broadcastInDim S3648x1 ![0] bcast_S3648_S3648x1_0 sg)) shapeCasts_S3648x32_S116736) ((broadcastInDim S116736 ![] bcast_S_S116736) (constantI S_ 32 512#32)))
/-- The segment of each block's first page, at most 511. -/
def bases (sg : IVec S3648 32) : IVec S57 32 :=
  (minsi (Host.slice S57 ![0] ![64] sg slicesBy_S3648_S57_0s64) (broadcastInDim S57 ![] bcast_S_S57 (constantI S_ 32 511#32)))

/-! ### Composed -/

section Layout
variable (b : IVec S100000 32)
def bCounts : IVec S512 32 := counts (starts b)
def bPstart : IVec S513 32 := pstart (padded (bCounts b))
def bShift : IVec S3648 32 := pageShift (bPstart b) (dshift (bPstart b) (starts b))
def bEnd : IVec S3648 32 := pageEnd (bPstart b) (estart (bPstart b) (bCounts b))
def bSeg : IVec S3648 32 := pageSeg (bPstart b)
def bReal : IVec S116736 1 := realRow (bEnd b)
/-- The row that each padded row reads. -/
def bSrc : IVec S116736 32 := src (bReal b) (moved (bShift b)) wrapped
/-- The segment of each padded row. -/
def bSegOf : IVec S116736 32 := segOf (bReal b) (bSeg b)
/-- The first segment of each block. -/
def bBases : IVec S57 32 := bases (bSeg b)
/-- The row numbers as the tasks take them. -/
def bLists : IVec S32x38x96 32 := shapeCast S32x38x96 (bSrc b) shapeCasts_S116736_S32x38x96
/-- The segment numbers as the blocks take them. -/
def bBlocks : IVec S57x1x2048 32 := shapeCast S57x1x2048 (bSegOf b) shapeCasts_S116736_S57x1x2048
end Layout

/-! ## The operations -/

variable {F : FTy → Type} [FloatOps F]

/-- @main's operations that compute the first positions of the segments and their sizes. -/
abbrev opsA : List (HloOp τ sig (Elt F)) :=
  [ nullary main_v0 (iotaInDim S513 32 0),
    unary main_arg1 main_v1 (broadcastInDim S1x100000 ![1] bcast_S100000_S1x100000_1 : (⟨S100000, .i32⟩ : BufTy).Contents (Elt F) → (⟨S1x100000, .i32⟩ : BufTy).Contents (Elt F)),
    unary main_v0 main_v2 (broadcastInDim S513x1 ![0] bcast_S513_S513x1_0 : (⟨S513, .i32⟩ : BufTy).Contents (Elt F) → (⟨S513x1, .i32⟩ : BufTy).Contents (Elt F)),
    unary main_v1 main_v3 (broadcastInDim S513x100000 ![0, 1] bcast_S1x100000_S513x100000_0_1 : (⟨S1x100000, .i32⟩ : BufTy).Contents (Elt F) → (⟨S513x100000, .i32⟩ : BufTy).Contents (Elt F)),
    unary main_v2 main_v4 (broadcastInDim S513x100000 ![0, 1] bcast_S513x1_S513x100000_0_1 : (⟨S513x1, .i32⟩ : BufTy).Contents (Elt F) → (⟨S513x100000, .i32⟩ : BufTy).Contents (Elt F)),
    binary main_v3 main_v4 main_v5 (cmpi .slt : (⟨S513x100000, .i32⟩ : BufTy).Contents (Elt F) → (⟨S513x100000, .i32⟩ : BufTy).Contents (Elt F) → (⟨S513x100000, .i1⟩ : BufTy).Contents (Elt F)),
    unary main_v5 main_v6 ((extui 32 · natLt_1_32) : (⟨S513x100000, .i1⟩ : BufTy).Contents (Elt F) → (⟨S513x100000, .i32⟩ : BufTy).Contents (Elt F)),
    nullary main_c (constantI S_ 32 0#32),
    binary main_v6 main_c main_v7 ((fun x v => Host.reduce IntOp.addi x v reducesTo_S513x100000_S513_d1 h_S_) : (⟨S513x100000, .i32⟩ : BufTy).Contents (Elt F) → (⟨S_, .i32⟩ : BufTy).Contents (Elt F) → (⟨S513, .i32⟩ : BufTy).Contents (Elt F)),
    unary main_v7 main_v8 ((extractStridedSlice S512 ![1] · slices_S513_S512_1) : (⟨S513, .i32⟩ : BufTy).Contents (Elt F) → (⟨S512, .i32⟩ : BufTy).Contents (Elt F)),
    unary main_v7 main_v9 ((extractStridedSlice S512 ![0] · slices_S513_S512_0) : (⟨S513, .i32⟩ : BufTy).Contents (Elt F) → (⟨S512, .i32⟩ : BufTy).Contents (Elt F)),
    binary main_v8 main_v9 main_v10 (subi : (⟨S512, .i32⟩ : BufTy).Contents (Elt F) → (⟨S512, .i32⟩ : BufTy).Contents (Elt F) → (⟨S512, .i32⟩ : BufTy).Contents (Elt F)) ]
/-- The buffers that they write. -/
abbrev opsA_W : List (Ref sig .tc) := [main_v0, main_v1, main_v2, main_v3, main_v4, main_v5, main_v6, main_c, main_v7, main_v8, main_v9, main_v10]
set_option maxRecDepth 8192 in
theorem opsA_writes : (opsA : List (HloOp τ sig (Elt F))).Forall fun op => op.writes ⊆ (opsA_W.map (Proc.devRef (τ := τ) .tc)).toFinset := by
  simp only [List.Forall]; refine ⟨?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxRecDepth 8192 in
theorem opsA_bufs : (opsA : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., nullary_bufs_sub .., binary_bufs_sub .., unary_bufs_sub .., unary_bufs_sub .., binary_bufs_sub ..⟩
theorem opsA_fresh : (opsA : List (HloOp τ sig (Elt F))).Forall fun op => op.fresh = ∅ := ⟨rfl, rfl, rfl, rfl, rfl, rfl, rfl, rfl, rfl, rfl, rfl, rfl⟩

/-- @main's operations that compute the sizes rounded up to whole pages. -/
abbrev opsB : List (HloOp τ sig (Elt F)) :=
  [ nullary main_c_0 (constantI S_ 32 32#32),
    unary main_c_0 main_v11 (broadcastInDim S512 ![] bcast_S_S512 : (⟨S_, .i32⟩ : BufTy).Contents (Elt F) → (⟨S512, .i32⟩ : BufTy).Contents (Elt F)),
    binary main_v10 main_v11 main_v12 (addi : (⟨S512, .i32⟩ : BufTy).Contents (Elt F) → (⟨S512, .i32⟩ : BufTy).Contents (Elt F) → (⟨S512, .i32⟩ : BufTy).Contents (Elt F)),
    nullary main_c_1 (constantI S_ 32 1#32),
    unary main_c_1 main_v13 (broadcastInDim S512 ![] bcast_S_S512 : (⟨S_, .i32⟩ : BufTy).Contents (Elt F) → (⟨S512, .i32⟩ : BufTy).Contents (Elt F)),
    binary main_v12 main_v13 main_v14 (subi : (⟨S512, .i32⟩ : BufTy).Contents (Elt F) → (⟨S512, .i32⟩ : BufTy).Contents (Elt F) → (⟨S512, .i32⟩ : BufTy).Contents (Elt F)),
    nullary main_c_2 (constantI S_ 32 32#32),
    unary main_c_2 main_call0_v0 (id : (⟨S_, .i32⟩ : BufTy).Contents (Elt F) → (⟨S_, .i32⟩ : BufTy).Contents (Elt F)),
    unary main_call0_v0 main_call0_v1 ((broadcastInDim S512 ![] bcast_S_S512) : (⟨S_, .i32⟩ : BufTy).Contents (Elt F) → (⟨S512, .i32⟩ : BufTy).Contents (Elt F)),
    binary main_v14 main_call0_v1 main_call0_v2 (Host.divsi : (⟨S512, .i32⟩ : BufTy).Contents (Elt F) → (⟨S512, .i32⟩ : BufTy).Contents (Elt F) → (⟨S512, .i32⟩ : BufTy).Contents (Elt F)),
    unary main_v14 main_call0_v3 (signi : (⟨S512, .i32⟩ : BufTy).Contents (Elt F) → (⟨S512, .i32⟩ : BufTy).Contents (Elt F)),
    unary main_call0_v0 main_call0_v4 (signi : (⟨S_, .i32⟩ : BufTy).Contents (Elt F) → (⟨S_, .i32⟩ : BufTy).Contents (Elt F)),
    unary main_call0_v4 main_call0_v5 ((broadcastInDim S512 ![] bcast_S_S512) : (⟨S_, .i32⟩ : BufTy).Contents (Elt F) → (⟨S512, .i32⟩ : BufTy).Contents (Elt F)),
    binary main_call0_v3 main_call0_v5 main_call0_v6 ((cmpi .ne) : (⟨S512, .i32⟩ : BufTy).Contents (Elt F) → (⟨S512, .i32⟩ : BufTy).Contents (Elt F) → (⟨S512, .i1⟩ : BufTy).Contents (Elt F)),
    unary main_call0_v0 main_call0_v7 ((broadcastInDim S512 ![] bcast_S_S512) : (⟨S_, .i32⟩ : BufTy).Contents (Elt F) → (⟨S512, .i32⟩ : BufTy).Contents (Elt F)),
    binary main_v14 main_call0_v7 main_call0_v8 (Host.remsi : (⟨S512, .i32⟩ : BufTy).Contents (Elt F) → (⟨S512, .i32⟩ : BufTy).Contents (Elt F) → (⟨S512, .i32⟩ : BufTy).Contents (Elt F)),
    nullary main_call0_c (constantI S_ 32 0#32),
    unary main_call0_c main_call0_v9 ((broadcastInDim S512 ![] bcast_S_S512) : (⟨S_, .i32⟩ : BufTy).Contents (Elt F) → (⟨S512, .i32⟩ : BufTy).Contents (Elt F)),
    binary main_call0_v8 main_call0_v9 main_call0_v10 ((cmpi .ne) : (⟨S512, .i32⟩ : BufTy).Contents (Elt F) → (⟨S512, .i32⟩ : BufTy).Contents (Elt F) → (⟨S512, .i1⟩ : BufTy).Contents (Elt F)),
    binary main_call0_v6 main_call0_v10 main_call0_v11 (andi : (⟨S512, .i1⟩ : BufTy).Contents (Elt F) → (⟨S512, .i1⟩ : BufTy).Contents (Elt F) → (⟨S512, .i1⟩ : BufTy).Contents (Elt F)),
    nullary main_call0_c_0 (constantI S_ 32 1#32),
    unary main_call0_c_0 main_call0_v12 ((broadcastInDim S512 ![] bcast_S_S512) : (⟨S_, .i32⟩ : BufTy).Contents (Elt F) → (⟨S512, .i32⟩ : BufTy).Contents (Elt F)),
    binary main_call0_v2 main_call0_v12 main_call0_v13 (subi : (⟨S512, .i32⟩ : BufTy).Contents (Elt F) → (⟨S512, .i32⟩ : BufTy).Contents (Elt F) → (⟨S512, .i32⟩ : BufTy).Contents (Elt F)),
    ternary main_call0_v11 main_call0_v13 main_call0_v2 main_v15 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    nullary main_c_3 (constantI S_ 32 32#32),
    unary main_c_3 main_v16 (broadcastInDim S512 ![] bcast_S_S512 : (⟨S_, .i32⟩ : BufTy).Contents (Elt F) → (⟨S512, .i32⟩ : BufTy).Contents (Elt F)),
    binary main_v15 main_v16 main_v17 (muli : (⟨S512, .i32⟩ : BufTy).Contents (Elt F) → (⟨S512, .i32⟩ : BufTy).Contents (Elt F) → (⟨S512, .i32⟩ : BufTy).Contents (Elt F)) ]
/-- The buffers that they write. -/
abbrev opsB_W : List (Ref sig .tc) := [main_c_0, main_v11, main_v12, main_c_1, main_v13, main_v14, main_c_2, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v15, main_c_3, main_v16, main_v17]
set_option maxRecDepth 8192 in
theorem opsB_writes : (opsB : List (HloOp τ sig (Elt F))).Forall fun op => op.writes ⊆ (opsB_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxRecDepth 8192 in
theorem opsB_bufs : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub ..⟩
theorem opsB_fresh : (opsB : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl⟩

/-- @main's operations that compute where the segments begin and end among the padded rows, and how far they have moved. -/
abbrev opsC : List (HloOp τ sig (Elt F)) :=
  [ nullary main_c_4 (constantI S_ 32 0#32),
    unary main_c_4 main_v18 (broadcastInDim S1 ![] bcast_S_S1 : (⟨S_, .i32⟩ : BufTy).Contents (Elt F) → (⟨S1, .i32⟩ : BufTy).Contents (Elt F)),
    nullary main_call1_call0_c (constantI S_ 32 0#32),
    unary main_call1_call0_c main_call1_call0_v0 ((broadcastInDim S_ ![] bcast_S_S_) : (⟨S_, .i32⟩ : BufTy).Contents (Elt F) → (⟨S_, .i32⟩ : BufTy).Contents (Elt F)),
    binary main_v17 main_call1_call0_v0 main_v19 ((fun x v => Host.reduceWindow IntOp.addi ![512] ![1] ![511] ![0] x v reduceWindows_S512_S512_w512s1p511_0 h_S_) : (⟨S512, .i32⟩ : BufTy).Contents (Elt F) → (⟨S_, .i32⟩ : BufTy).Contents (Elt F) → (⟨S512, .i32⟩ : BufTy).Contents (Elt F)),
    binary main_v18 main_v19 main_v20 ((fun a b => concatenate S513 0 [⟨S1, a⟩, ⟨S512, b⟩] concatenates_S1_S512_S513_d0) : (⟨S1, .i32⟩ : BufTy).Contents (Elt F) → (⟨S512, .i32⟩ : BufTy).Contents (Elt F) → (⟨S513, .i32⟩ : BufTy).Contents (Elt F)),
    unary main_v20 main_v21 ((extractStridedSlice S512 ![0] · slices_S513_S512_0) : (⟨S513, .i32⟩ : BufTy).Contents (Elt F) → (⟨S512, .i32⟩ : BufTy).Contents (Elt F)),
    binary main_v21 main_v10 main_v22 (addi : (⟨S512, .i32⟩ : BufTy).Contents (Elt F) → (⟨S512, .i32⟩ : BufTy).Contents (Elt F) → (⟨S512, .i32⟩ : BufTy).Contents (Elt F)),
    unary main_v20 main_v23 ((extractStridedSlice S512 ![0] · slices_S513_S512_0) : (⟨S513, .i32⟩ : BufTy).Contents (Elt F) → (⟨S512, .i32⟩ : BufTy).Contents (Elt F)),
    unary main_v7 main_v24 ((extractStridedSlice S512 ![0] · slices_S513_S512_0) : (⟨S513, .i32⟩ : BufTy).Contents (Elt F) → (⟨S512, .i32⟩ : BufTy).Contents (Elt F)),
    binary main_v23 main_v24 main_v25 (subi : (⟨S512, .i32⟩ : BufTy).Contents (Elt F) → (⟨S512, .i32⟩ : BufTy).Contents (Elt F) → (⟨S512, .i32⟩ : BufTy).Contents (Elt F)) ]
/-- The buffers that they write. -/
abbrev opsC_W : List (Ref sig .tc) := [main_c_4, main_v18, main_call1_call0_c, main_call1_call0_v0, main_v19, main_v20, main_v21, main_v22, main_v23, main_v24, main_v25]
set_option maxRecDepth 8192 in
theorem opsC_writes : (opsC : List (HloOp τ sig (Elt F))).Forall fun op => op.writes ⊆ (opsC_W.map (Proc.devRef (τ := τ) .tc)).toFinset := by
  simp only [List.Forall]; refine ⟨?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxRecDepth 8192 in
theorem opsC_bufs : (opsC : List (HloOp τ sig (Elt F))).Forall fun op => op.bufs ⊆ tcRefs τ sig :=
  ⟨nullary_bufs_sub .., unary_bufs_sub .., nullary_bufs_sub .., unary_bufs_sub .., binary_bufs_sub .., binary_bufs_sub .., unary_bufs_sub .., binary_bufs_sub .., unary_bufs_sub .., unary_bufs_sub .., binary_bufs_sub ..⟩
theorem opsC_fresh : (opsC : List (HloOp τ sig (Elt F))).Forall fun op => op.fresh = ∅ := ⟨rfl, rfl, rfl, rfl, rfl, rfl, rfl, rfl, rfl, rfl, rfl⟩

/-- @main's operations that compute the pages: for each, the shift and the end of the last segment that has begun. -/
abbrev opsD : List (HloOp τ sig (Elt F)) :=
  [ nullary main_v26 (iotaInDim S3648 32 0),
    nullary main_c_5 (constantI S_ 32 32#32),
    unary main_c_5 main_v27 (broadcastInDim S3648 ![] bcast_S_S3648 : (⟨S_, .i32⟩ : BufTy).Contents (Elt F) → (⟨S3648, .i32⟩ : BufTy).Contents (Elt F)),
    binary main_v26 main_v27 main_v28 (muli : (⟨S3648, .i32⟩ : BufTy).Contents (Elt F) → (⟨S3648, .i32⟩ : BufTy).Contents (Elt F) → (⟨S3648, .i32⟩ : BufTy).Contents (Elt F)),
    unary main_v20 main_v29 ((extractStridedSlice S512 ![0] · slices_S513_S512_0) : (⟨S513, .i32⟩ : BufTy).Contents (Elt F) → (⟨S512, .i32⟩ : BufTy).Contents (Elt F)),
    unary main_v29 main_v30 (broadcastInDim S512x1 ![0] bcast_S512_S512x1_0 : (⟨S512, .i32⟩ : BufTy).Contents (Elt F) → (⟨S512x1, .i32⟩ : BufTy).Contents (Elt F)),
    unary main_v28 main_v31 (broadcastInDim S1x3648 ![1] bcast_S3648_S1x3648_1 : (⟨S3648, .i32⟩ : BufTy).Contents (Elt F) → (⟨S1x3648, .i32⟩ : BufTy).Contents (Elt F)),
    unary main_v30 main_v32 (broadcastInDim S512x3648 ![0, 1] bcast_S512x1_S512x3648_0_1 : (⟨S512x1, .i32⟩ : BufTy).Contents (Elt F) → (⟨S512x3648, .i32⟩ : BufTy).Contents (Elt F)),
    unary main_v31 main_v33 (broadcastInDim S512x3648 ![0, 1] bcast_S1x3648_S512x3648_0_1 : (⟨S1x3648, .i32⟩ : BufTy).Contents (Elt F) → (⟨S512x3648, .i32⟩ : BufTy).Contents (Elt F)),
    binary main_v32 main_v33 main_v34 (cmpi .sle : (⟨S512x3648, .i32⟩ : BufTy).Contents (Elt F) → (⟨S512x3648, .i32⟩ : BufTy).Contents (Elt F) → (⟨S512x3648, .i1⟩ : BufTy).Contents (Elt F)),
    unary main_v25 main_v35 (broadcastInDim S512x1 ![0] bcast_S512_S512x1_0 : (⟨S512, .i32⟩ : BufTy).Contents (Elt F) → (⟨S512x1, .i32⟩ : BufTy).Contents (Elt F)),
    nullary main_c_6 (constantI S_ 32 0#32),
    unary main_c_6 main_call2_v0 (id : (⟨S_, .i32⟩ : BufTy).Contents (Elt F) → (⟨S_, .i32⟩ : BufTy).Contents (Elt F)),
    unary main_v35 main_call2_v1 ((broadcastInDim S512x3648 ![0, 1] bcast_S512x1_S512x3648_0_1) : (⟨S512x1, .i32⟩ : BufTy).Contents (Elt F) → (⟨S512x3648, .i32⟩ : BufTy).Contents (Elt F)),
    unary main_call2_v0 main_call2_v2 ((broadcastInDim S512x3648 ![] bcast_S_S512x3648) : (⟨S_, .i32⟩ : BufTy).Contents (Elt F) → (⟨S512x3648, .i32⟩ : BufTy).Contents (Elt F)),
    ternary main_v34 main_call2_v1 main_call2_v2 main_v36 (select : (⟨S512x3648, .i1⟩ : BufTy).Contents (Elt F) → (⟨S512x3648, .i32⟩ : BufTy).Contents (Elt F) → (⟨S512x3648, .i32⟩ : BufTy).Contents (Elt F) → (⟨S512x3648, .i32⟩ : BufTy).Contents (Elt F)),
    nullary main_c_7 (constantI S_ 32 2147483648#32),
    binary main_v36 main_c_7 main_v37 ((fun x v => Host.reduce IntOp.maxsi x v reducesTo_S512x3648_S3648_d0 h_S_) : (⟨S512x3648, .i32⟩ : BufTy).Contents (Elt F) → (⟨S_, .i32⟩ : BufTy).Contents (Elt F) → (⟨S3648, .i32⟩ : BufTy).Contents (Elt F)),
    unary main_v22 main_v38 (broadcastInDim S512x1 ![0] bcast_S512_S512x1_0 : (⟨S512, .i32⟩ : BufTy).Contents (Elt F) → (⟨S512x1, .i32⟩ : BufTy).Contents (Elt F)),
    nullary main_c_8 (constantI S_ 32 0#32),
    unary main_c_8 main_call3_v0 (id : (⟨S_, .i32⟩ : BufTy).Contents (Elt F) → (⟨S_, .i32⟩ : BufTy).Contents (Elt F)),
    unary main_v38 main_call3_v1 ((broadcastInDim S512x3648 ![0, 1] bcast_S512x1_S512x3648_0_1) : (⟨S512x1, .i32⟩ : BufTy).Contents (Elt F) → (⟨S512x3648, .i32⟩ : BufTy).Contents (Elt F)),
    unary main_call3_v0 main_call3_v2 ((broadcastInDim S512x3648 ![] bcast_S_S512x3648) : (⟨S_, .i32⟩ : BufTy).Contents (Elt F) → (⟨S512x3648, .i32⟩ : BufTy).Contents (Elt F)),
    ternary main_v34 main_call3_v1 main_call3_v2 main_v39 (select : (⟨S512x3648, .i1⟩ : BufTy).Contents (Elt F) → (⟨S512x3648, .i32⟩ : BufTy).Contents (Elt F) → (⟨S512x3648, .i32⟩ : BufTy).Contents (Elt F) → (⟨S512x3648, .i32⟩ : BufTy).Contents (Elt F)),
    nullary main_c_9 (constantI S_ 32 2147483648#32),
    binary main_v39 main_c_9 main_v40 ((fun x v => Host.reduce IntOp.maxsi x v reducesTo_S512x3648_S3648_d0 h_S_) : (⟨S512x3648, .i32⟩ : BufTy).Contents (Elt F) → (⟨S_, .i32⟩ : BufTy).Contents (Elt F) → (⟨S3648, .i32⟩ : BufTy).Contents (Elt F)),
    unary main_v20 main_v41 ((extractStridedSlice S512 ![1] · slices_S513_S512_1) : (⟨S513, .i32⟩ : BufTy).Contents (Elt F) → (⟨S512, .i32⟩ : BufTy).Contents (Elt F)),
    unary main_v41 main_v42 (broadcastInDim S512x1 ![0] bcast_S512_S512x1_0 : (⟨S512, .i32⟩ : BufTy).Contents (Elt F) → (⟨S512x1, .i32⟩ : BufTy).Contents (Elt F)),
    unary main_v28 main_v43 (broadcastInDim S1x3648 ![1] bcast_S3648_S1x3648_1 : (⟨S3648, .i32⟩ : BufTy).Contents (Elt F) → (⟨S1x3648, .i32⟩ : BufTy).Contents (Elt F)),
    unary main_v42 main_v44 (broadcastInDim S512x3648 ![0, 1] bcast_S512x1_S512x3648_0_1 : (⟨S512x1, .i32⟩ : BufTy).Contents (Elt F) → (⟨S512x3648, .i32⟩ : BufTy).Contents (Elt F)),
    unary main_v43 main_v45 (broadcastInDim S512x3648 ![0, 1] bcast_S1x3648_S512x3648_0_1 : (⟨S1x3648, .i32⟩ : BufTy).Contents (Elt F) → (⟨S512x3648, .i32⟩ : BufTy).Contents (Elt F)),
    binary main_v44 main_v45 main_v46 (cmpi .sle : (⟨S512x3648, .i32⟩ : BufTy).Contents (Elt F) → (⟨S512x3648, .i32⟩ : BufTy).Contents (Elt F) → (⟨S512x3648, .i1⟩ : BufTy).Contents (Elt F)),
    unary main_v46 main_v47 ((extui 32 · natLt_1_32) : (⟨S512x3648, .i1⟩ : BufTy).Contents (Elt F) → (⟨S512x3648, .i32⟩ : BufTy).Contents (Elt F)),
    nullary main_c_10 (constantI S_ 32 0#32) ]
/-- The buffers that they write. -/
abbrev opsD_W : List (Ref sig .tc) := [main_v26, main_c_5, main_v27, main_v28, main_v29, main_v30, main_v31, main_v32, main_v33, main_v34, main_v35, main_c_6, main_call2_v0, main_call2_v1, main_call2_v2, main_v36, main_c_7, main_v37, main_v38, main_c_8, main_call3_v0, main_call3_v1, main_call3_v2, main_v39, main_c_9, main_v40, main_v41, main_v42, main_v43, main_v44, main_v45, main_v46, main_v47, main_c_10]
set_option maxRecDepth 8192 in
theorem opsD_writes : (opsD : List (HloOp τ sig (Elt F))).Forall fun op => op.writes ⊆ (opsD_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxRecDepth 8192 in
theorem opsD_bufs : (opsD : List (HloOp τ sig (Elt F))).Forall fun op => op.bufs ⊆ tcRefs τ sig :=
  ⟨nullary_bufs_sub .., nullary_bufs_sub .., unary_bufs_sub .., binary_bufs_sub .., unary_bufs_sub .., unary_bufs_sub .., unary_bufs_sub .., unary_bufs_sub .., unary_bufs_sub .., binary_bufs_sub .., unary_bufs_sub .., nullary_bufs_sub .., unary_bufs_sub .., unary_bufs_sub .., unary_bufs_sub .., ternary_bufs_sub .., nullary_bufs_sub .., binary_bufs_sub .., unary_bufs_sub .., nullary_bufs_sub .., unary_bufs_sub .., unary_bufs_sub .., unary_bufs_sub .., ternary_bufs_sub .., nullary_bufs_sub .., binary_bufs_sub .., unary_bufs_sub .., unary_bufs_sub .., unary_bufs_sub .., unary_bufs_sub .., unary_bufs_sub .., binary_bufs_sub .., unary_bufs_sub .., nullary_bufs_sub ..⟩
theorem opsD_fresh : (opsD : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's operations that compute the segment of each page, the padded rows that are real, the row each would stand for. -/
abbrev opsG : List (HloOp τ sig (Elt F)) :=
  [ binary main_v47 main_c_10 main_v48 ((fun x v => Host.reduce IntOp.addi x v reducesTo_S512x3648_S3648_d0 h_S_) : (⟨S512x3648, .i32⟩ : BufTy).Contents (Elt F) → (⟨S_, .i32⟩ : BufTy).Contents (Elt F) → (⟨S3648, .i32⟩ : BufTy).Contents (Elt F)),
    nullary main_v49 (iotaInDim S116736 32 0),
    unary main_v40 main_v50 (broadcastInDim S3648x1 ![0] bcast_S3648_S3648x1_0 : (⟨S3648, .i32⟩ : BufTy).Contents (Elt F) → (⟨S3648x1, .i32⟩ : BufTy).Contents (Elt F)),
    unary main_v50 main_v51 (broadcastInDim S3648x32 ![0, 1] bcast_S3648x1_S3648x32_0_1 : (⟨S3648x1, .i32⟩ : BufTy).Contents (Elt F) → (⟨S3648x32, .i32⟩ : BufTy).Contents (Elt F)),
    reshape main_v51 main_v52 (rfl : (.i32 : EltTy) = .i32) shapeCasts_S3648x32_S116736,
    binary main_v49 main_v52 main_v53 (cmpi .slt : (⟨S116736, .i32⟩ : BufTy).Contents (Elt F) → (⟨S116736, .i32⟩ : BufTy).Contents (Elt F) → (⟨S116736, .i1⟩ : BufTy).Contents (Elt F)),
    unary main_v37 main_v54 (broadcastInDim S3648x1 ![0] bcast_S3648_S3648x1_0 : (⟨S3648, .i32⟩ : BufTy).Contents (Elt F) → (⟨S3648x1, .i32⟩ : BufTy).Contents (Elt F)),
    unary main_v54 main_v55 (broadcastInDim S3648x32 ![0, 1] bcast_S3648x1_S3648x32_0_1 : (⟨S3648x1, .i32⟩ : BufTy).Contents (Elt F) → (⟨S3648x32, .i32⟩ : BufTy).Contents (Elt F)),
    reshape main_v55 main_v56 (rfl : (.i32 : EltTy) = .i32) shapeCasts_S3648x32_S116736,
    binary main_v49 main_v56 main_v57 (subi : (⟨S116736, .i32⟩ : BufTy).Contents (Elt F) → (⟨S116736, .i32⟩ : BufTy).Contents (Elt F) → (⟨S116736, .i32⟩ : BufTy).Contents (Elt F)),
    nullary main_c_11 (constantI S_ 32 100000#32),
    unary main_c_11 main_call4_v0 (id : (⟨S_, .i32⟩ : BufTy).Contents (Elt F) → (⟨S_, .i32⟩ : BufTy).Contents (Elt F)),
    nullary main_call4_c (constantI S_ 32 0#32),
    binary main_call4_v0 main_call4_c main_call4_v1 ((cmpi .eq) : (⟨S_, .i32⟩ : BufTy).Contents (Elt F) → (⟨S_, .i32⟩ : BufTy).Contents (Elt F) → (⟨S_, .i1⟩ : BufTy).Contents (Elt F)),
    nullary main_call4_c_0 (constantI S_ 32 1#32),
    ternary main_call4_v1 main_call4_c_0 main_call4_v0 main_call4_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call4_v2 main_call4_v3 ((broadcastInDim S116736 ![] bcast_S_S116736) : (⟨S_, .i32⟩ : BufTy).Contents (Elt F) → (⟨S116736, .i32⟩ : BufTy).Contents (Elt F)),
    binary main_v49 main_call4_v3 main_call4_v4 (Host.remsi : (⟨S116736, .i32⟩ : BufTy).Contents (Elt F) → (⟨S116736, .i32⟩ : BufTy).Contents (Elt F) → (⟨S116736, .i32⟩ : BufTy).Contents (Elt F)),
    nullary main_call4_c_1 (constantI S_ 32 0#32),
    unary main_call4_c_1 main_call4_v5 ((broadcastInDim S116736 ![] bcast_S_S116736) : (⟨S_, .i32⟩ : BufTy).Contents (Elt F) → (⟨S116736, .i32⟩ : BufTy).Contents (Elt F)),
    binary main_call4_v4 main_call4_v5 main_call4_v6 ((cmpi .ne) : (⟨S116736, .i32⟩ : BufTy).Contents (Elt F) → (⟨S116736, .i32⟩ : BufTy).Contents (Elt F) → (⟨S116736, .i1⟩ : BufTy).Contents (Elt F)),
    nullary main_call4_c_2 (constantI S_ 32 0#32),
    unary main_call4_c_2 main_call4_v7 ((broadcastInDim S116736 ![] bcast_S_S116736) : (⟨S_, .i32⟩ : BufTy).Contents (Elt F) → (⟨S116736, .i32⟩ : BufTy).Contents (Elt F)),
    binary main_call4_v4 main_call4_v7 main_call4_v8 ((cmpi .slt) : (⟨S116736, .i32⟩ : BufTy).Contents (Elt F) → (⟨S116736, .i32⟩ : BufTy).Contents (Elt F) → (⟨S116736, .i1⟩ : BufTy).Contents (Elt F)),
    nullary main_call4_c_3 (constantI S_ 32 0#32),
    binary main_call4_v2 main_call4_c_3 main_call4_v9 ((cmpi .slt) : (⟨S_, .i32⟩ : BufTy).Contents (Elt F) → (⟨S_, .i32⟩ : BufTy).Contents (Elt F) → (⟨S_, .i1⟩ : BufTy).Contents (Elt F)),
    unary main_call4_v9 main_call4_v10 ((broadcastInDim S116736 ![] bcast_S_S116736) : (⟨S_, .i1⟩ : BufTy).Contents (Elt F) → (⟨S116736, .i1⟩ : BufTy).Contents (Elt F)),
    binary main_call4_v8 main_call4_v10 main_call4_v11 ((cmpi .ne) : (⟨S116736, .i1⟩ : BufTy).Contents (Elt F) → (⟨S116736, .i1⟩ : BufTy).Contents (Elt F) → (⟨S116736, .i1⟩ : BufTy).Contents (Elt F)),
    binary main_call4_v11 main_call4_v6 main_call4_v12 (andi : (⟨S116736, .i1⟩ : BufTy).Contents (Elt F) → (⟨S116736, .i1⟩ : BufTy).Contents (Elt F) → (⟨S116736, .i1⟩ : BufTy).Contents (Elt F)),
    unary main_call4_v2 main_call4_v13 ((broadcastInDim S116736 ![] bcast_S_S116736) : (⟨S_, .i32⟩ : BufTy).Contents (Elt F) → (⟨S116736, .i32⟩ : BufTy).Contents (Elt F)),
    binary main_call4_v4 main_call4_v13 main_call4_v14 (addi : (⟨S116736, .i32⟩ : BufTy).Contents (Elt F) → (⟨S116736, .i32⟩ : BufTy).Contents (Elt F) → (⟨S116736, .i32⟩ : BufTy).Contents (Elt F)),
    ternary main_call4_v12 main_call4_v14 main_call4_v4 main_v58 (select : (⟨S116736, .i1⟩ : BufTy).Contents (Elt F) → (⟨S116736, .i32⟩ : BufTy).Contents (Elt F) → (⟨S116736, .i32⟩ : BufTy).Contents (Elt F) → (⟨S116736, .i32⟩ : BufTy).Contents (Elt F)) ]
/-- The buffers that they write. -/
abbrev opsG_W : List (Ref sig .tc) := [main_v48, main_v49, main_v50, main_v51, main_v52, main_v53, main_v54, main_v55, main_v56, main_v57, main_c_11, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v58]
set_option maxRecDepth 8192 in
theorem opsG_writes : (opsG : List (HloOp τ sig (Elt F))).Forall fun op => op.writes ⊆ (opsG_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxRecDepth 8192 in
theorem opsG_bufs : (opsG : List (HloOp τ sig (Elt F))).Forall fun op => op.bufs ⊆ tcRefs τ sig :=
  ⟨binary_bufs_sub .., nullary_bufs_sub .., unary_bufs_sub .., unary_bufs_sub .., reshape_bufs_sub .., binary_bufs_sub .., unary_bufs_sub .., unary_bufs_sub .., reshape_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem opsG_fresh : (opsG : List (HloOp τ sig (Elt F))).Forall fun op => op.fresh = ∅ := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's operations that compute the row numbers, the segment numbers and the window of each block, as the two kernels take them. -/
abbrev opsH : List (HloOp τ sig (Elt F)) :=
  [ ternary main_v53 main_v57 main_v58 main_v59 (select : (⟨S116736, .i1⟩ : BufTy).Contents (Elt F) → (⟨S116736, .i32⟩ : BufTy).Contents (Elt F) → (⟨S116736, .i32⟩ : BufTy).Contents (Elt F) → (⟨S116736, .i32⟩ : BufTy).Contents (Elt F)),
    nullary main_c_12 (constantI S_ 32 0#32),
    nullary main_c_13 (constantI S_ 32 99999#32),
    unary main_c_12 main_call6_v0 (id : (⟨S_, .i32⟩ : BufTy).Contents (Elt F) → (⟨S_, .i32⟩ : BufTy).Contents (Elt F)),
    unary main_call6_v0 main_call6_v1 ((broadcastInDim S116736 ![] bcast_S_S116736) : (⟨S_, .i32⟩ : BufTy).Contents (Elt F) → (⟨S116736, .i32⟩ : BufTy).Contents (Elt F)),
    binary main_call6_v1 main_v59 main_call6_v2 (maxsi : (⟨S116736, .i32⟩ : BufTy).Contents (Elt F) → (⟨S116736, .i32⟩ : BufTy).Contents (Elt F) → (⟨S116736, .i32⟩ : BufTy).Contents (Elt F)),
    unary main_c_13 main_call6_v3 (id : (⟨S_, .i32⟩ : BufTy).Contents (Elt F) → (⟨S_, .i32⟩ : BufTy).Contents (Elt F)),
    unary main_call6_v3 main_call6_v4 ((broadcastInDim S116736 ![] bcast_S_S116736) : (⟨S_, .i32⟩ : BufTy).Contents (Elt F) → (⟨S116736, .i32⟩ : BufTy).Contents (Elt F)),
    binary main_call6_v4 main_call6_v2 main_v60 (minsi : (⟨S116736, .i32⟩ : BufTy).Contents (Elt F) → (⟨S116736, .i32⟩ : BufTy).Contents (Elt F) → (⟨S116736, .i32⟩ : BufTy).Contents (Elt F)),
    unary main_v48 main_v61 (broadcastInDim S3648x1 ![0] bcast_S3648_S3648x1_0 : (⟨S3648, .i32⟩ : BufTy).Contents (Elt F) → (⟨S3648x1, .i32⟩ : BufTy).Contents (Elt F)),
    unary main_v61 main_v62 (broadcastInDim S3648x32 ![0, 1] bcast_S3648x1_S3648x32_0_1 : (⟨S3648x1, .i32⟩ : BufTy).Contents (Elt F) → (⟨S3648x32, .i32⟩ : BufTy).Contents (Elt F)),
    reshape main_v62 main_v63 (rfl : (.i32 : EltTy) = .i32) shapeCasts_S3648x32_S116736,
    nullary main_c_14 (constantI S_ 32 512#32),
    unary main_c_14 main_call7_v0 (id : (⟨S_, .i32⟩ : BufTy).Contents (Elt F) → (⟨S_, .i32⟩ : BufTy).Contents (Elt F)),
    unary main_call7_v0 main_call7_v1 ((broadcastInDim S116736 ![] bcast_S_S116736) : (⟨S_, .i32⟩ : BufTy).Contents (Elt F) → (⟨S116736, .i32⟩ : BufTy).Contents (Elt F)),
    ternary main_v53 main_v63 main_call7_v1 main_v64 (select : (⟨S116736, .i1⟩ : BufTy).Contents (Elt F) → (⟨S116736, .i32⟩ : BufTy).Contents (Elt F) → (⟨S116736, .i32⟩ : BufTy).Contents (Elt F) → (⟨S116736, .i32⟩ : BufTy).Contents (Elt F)),
    unary main_v48 main_v65 ((Host.slice S57 ![0] ![64] · slicesBy_S3648_S57_0s64) : (⟨S3648, .i32⟩ : BufTy).Contents (Elt F) → (⟨S57, .i32⟩ : BufTy).Contents (Elt F)),
    nullary main_c_15 (constantI S_ 32 511#32),
    unary main_c_15 main_v66 (broadcastInDim S57 ![] bcast_S_S57 : (⟨S_, .i32⟩ : BufTy).Contents (Elt F) → (⟨S57, .i32⟩ : BufTy).Contents (Elt F)),
    binary main_v65 main_v66 main_v67 (minsi : (⟨S57, .i32⟩ : BufTy).Contents (Elt F) → (⟨S57, .i32⟩ : BufTy).Contents (Elt F) → (⟨S57, .i32⟩ : BufTy).Contents (Elt F)),
    reshape main_v60 main_v68 (rfl : (.i32 : EltTy) = .i32) shapeCasts_S116736_S32x38x96 ]
/-- The buffers that they write. -/
abbrev opsH_W : List (Ref sig .tc) := [main_v59, main_c_12, main_c_13, main_call6_v0, main_call6_v1, main_call6_v2, main_call6_v3, main_call6_v4, main_v60, main_v61, main_v62, main_v63, main_c_14, main_call7_v0, main_call7_v1, main_v64, main_v65, main_c_15, main_v66, main_v67, main_v68]
set_option maxRecDepth 8192 in
theorem opsH_writes : (opsH : List (HloOp τ sig (Elt F))).Forall fun op => op.writes ⊆ (opsH_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]; exact List.mem_map_of_mem (by decide))
set_option maxRecDepth 8192 in
theorem opsH_bufs : (opsH : List (HloOp τ sig (Elt F))).Forall fun op => op.bufs ⊆ tcRefs τ sig :=
  ⟨ternary_bufs_sub .., nullary_bufs_sub .., nullary_bufs_sub .., unary_bufs_sub .., unary_bufs_sub .., binary_bufs_sub .., unary_bufs_sub .., unary_bufs_sub .., binary_bufs_sub .., unary_bufs_sub .., unary_bufs_sub .., reshape_bufs_sub .., nullary_bufs_sub .., unary_bufs_sub .., unary_bufs_sub .., ternary_bufs_sub .., unary_bufs_sub .., nullary_bufs_sub .., unary_bufs_sub .., binary_bufs_sub .., reshape_bufs_sub ..⟩
theorem opsH_fresh : (opsH : List (HloOp τ sig (Elt F))).Forall fun op => op.fresh = ∅ := ⟨rfl, rfl, rfl, rfl, rfl, rfl, rfl, rfl, rfl, rfl, rfl, rfl, rfl, rfl, rfl, rfl, rfl, rfl, rfl, rfl, rfl⟩

/-- @main's operations that compute the segment numbers as the blocks take them, and the bias. -/
abbrev opsZ : List (HloOp τ sig (Elt F)) :=
  [ reshape main_v64 main_v70 (rfl : (.i32 : EltTy) = .i32) shapeCasts_S116736_S57x1x2048,
    binary main_arg4 main_arg5 main_v71 (addf : (⟨S512, .f32⟩ : BufTy).Contents (Elt F) → (⟨S512, .f32⟩ : BufTy).Contents (Elt F) → (⟨S512, .f32⟩ : BufTy).Contents (Elt F)),
    reshape main_v71 main_v72 (rfl : (.f32 : EltTy) = .f32) shapeCasts_S512_S1x512 ]
/-- The buffers that they write. -/
abbrev opsZ_W : List (Ref sig .tc) := [main_v70, main_v71, main_v72]
set_option maxRecDepth 8192 in
theorem opsZ_writes : (opsZ : List (HloOp τ sig (Elt F))).Forall fun op => op.writes ⊆ (opsZ_W.map (Proc.devRef (τ := τ) .tc)).toFinset := by
  simp only [List.Forall]; refine ⟨?_, ?_, ?_⟩ <;>
    (simp only [nullary_writes, unary_writes, binary_writes, ternary_writes, reshape_writes, Finset.singleton_subset_iff, List.mem_toFinset]; exact List.mem_map_of_mem (by decide))
set_option maxRecDepth 8192 in
theorem opsZ_bufs : (opsZ : List (HloOp τ sig (Elt F))).Forall fun op => op.bufs ⊆ tcRefs τ sig :=
  ⟨reshape_bufs_sub .., binary_bufs_sub .., reshape_bufs_sub ..⟩
theorem opsZ_fresh : (opsZ : List (HloOp τ sig (Elt F))).Forall fun op => op.fresh = ∅ := ⟨rfl, rfl, rfl⟩

/-! ## What each stretch leaves -/

/-- A buffer that these operations do not write keeps its contents. -/
theorem afterA_keep (V : Valuation τ sig (Elt F)) (r : Ref sig .tc) (h : r ∉ opsA_W) :
    after opsA V (Proc.devRef .tc r) = V (Proc.devRef .tc r) := after_of_writes_sub opsA _ opsA_writes h
/-- A buffer that these operations do not write keeps its contents. -/
theorem afterB_keep (V : Valuation τ sig (Elt F)) (r : Ref sig .tc) (h : r ∉ opsB_W) :
    after opsB V (Proc.devRef .tc r) = V (Proc.devRef .tc r) := after_of_writes_sub opsB _ opsB_writes h
/-- A buffer that these operations do not write keeps its contents. -/
theorem afterC_keep (V : Valuation τ sig (Elt F)) (r : Ref sig .tc) (h : r ∉ opsC_W) :
    after opsC V (Proc.devRef .tc r) = V (Proc.devRef .tc r) := after_of_writes_sub opsC _ opsC_writes h
/-- A buffer that these operations do not write keeps its contents. -/
theorem afterD_keep (V : Valuation τ sig (Elt F)) (r : Ref sig .tc) (h : r ∉ opsD_W) :
    after opsD V (Proc.devRef .tc r) = V (Proc.devRef .tc r) := after_of_writes_sub opsD _ opsD_writes h
/-- A buffer that these operations do not write keeps its contents. -/
theorem afterG_keep (V : Valuation τ sig (Elt F)) (r : Ref sig .tc) (h : r ∉ opsG_W) :
    after opsG V (Proc.devRef .tc r) = V (Proc.devRef .tc r) := after_of_writes_sub opsG _ opsG_writes h
/-- A buffer that these operations do not write keeps its contents. -/
theorem afterH_keep (V : Valuation τ sig (Elt F)) (r : Ref sig .tc) (h : r ∉ opsH_W) :
    after opsH V (Proc.devRef .tc r) = V (Proc.devRef .tc r) := after_of_writes_sub opsH _ opsH_writes h
/-- A buffer that these operations do not write keeps its contents. -/
theorem afterZ_keep (V : Valuation τ sig (Elt F)) (r : Ref sig .tc) (h : r ∉ opsZ_W) :
    after opsZ V (Proc.devRef .tc r) = V (Proc.devRef .tc r) := after_of_writes_sub opsZ _ opsZ_writes h
set_option maxRecDepth 8192 in
set_option maxHeartbeats 4000000 in
theorem afterA_main_v7 (V : Valuation τ sig (Elt F)) : after opsA V (Proc.devRef .tc main_v7) = starts (V (Proc.devRef .tc main_arg1)) := by
  simp only [opsA]
  after_results_simp
  rfl
set_option maxRecDepth 8192 in
set_option maxHeartbeats 4000000 in
theorem afterA_main_v10 (V : Valuation τ sig (Elt F)) : after opsA V (Proc.devRef .tc main_v10) = counts (starts (V (Proc.devRef .tc main_arg1))) := by
  simp only [opsA]
  after_results_simp
  rfl
set_option maxRecDepth 8192 in
set_option maxHeartbeats 4000000 in
theorem afterB_main_v17 (V : Valuation τ sig (Elt F)) : after opsB V (Proc.devRef .tc main_v17) = padded (V (Proc.devRef .tc main_v10)) := by
  simp only [opsB]
  after_results_simp
  rfl
set_option maxRecDepth 8192 in
set_option maxHeartbeats 4000000 in
theorem afterC_main_v20 (V : Valuation τ sig (Elt F)) : after opsC V (Proc.devRef .tc main_v20) = pstart (V (Proc.devRef .tc main_v17)) := by
  simp only [opsC]
  after_results_simp
  rfl
set_option maxRecDepth 8192 in
set_option maxHeartbeats 4000000 in
theorem afterC_main_v22 (V : Valuation τ sig (Elt F)) : after opsC V (Proc.devRef .tc main_v22) = estart (pstart (V (Proc.devRef .tc main_v17))) (V (Proc.devRef .tc main_v10)) := by
  simp only [opsC]
  after_results_simp
  rfl
set_option maxRecDepth 8192 in
set_option maxHeartbeats 4000000 in
theorem afterC_main_v25 (V : Valuation τ sig (Elt F)) : after opsC V (Proc.devRef .tc main_v25) = dshift (pstart (V (Proc.devRef .tc main_v17))) (V (Proc.devRef .tc main_v7)) := by
  simp only [opsC]
  after_results_simp
  rfl
set_option maxRecDepth 8192 in
set_option maxHeartbeats 4000000 in
theorem afterD_main_v37 (V : Valuation τ sig (Elt F)) : after opsD V (Proc.devRef .tc main_v37) = pageShift (V (Proc.devRef .tc main_v20)) (V (Proc.devRef .tc main_v25)) := by
  simp only [opsD]
  after_results_simp
  rfl
set_option maxRecDepth 8192 in
set_option maxHeartbeats 4000000 in
theorem afterD_main_v40 (V : Valuation τ sig (Elt F)) : after opsD V (Proc.devRef .tc main_v40) = pageEnd (V (Proc.devRef .tc main_v20)) (V (Proc.devRef .tc main_v22)) := by
  simp only [opsD]
  after_results_simp
  rfl
set_option maxRecDepth 8192 in
set_option maxHeartbeats 4000000 in
theorem afterD_main_v47 (V : Valuation τ sig (Elt F)) : after opsD V (Proc.devRef .tc main_v47) = ended (V (Proc.devRef .tc main_v20)) := by
  simp only [opsD]
  after_results_simp
  rfl
set_option maxRecDepth 8192 in
set_option maxHeartbeats 4000000 in
theorem afterD_main_c_10 (V : Valuation τ sig (Elt F)) : after opsD V (Proc.devRef .tc main_c_10) = constantI S_ 32 0#32 := by
  simp only [opsD]
  after_results_simp
set_option maxRecDepth 8192 in
set_option maxHeartbeats 4000000 in
theorem afterG_main_v48 (V : Valuation τ sig (Elt F)) : after opsG V (Proc.devRef .tc main_v48) = (Host.reduce IntOp.addi (V (Proc.devRef .tc main_v47)) (V (Proc.devRef .tc main_c_10)) reducesTo_S512x3648_S3648_d0 h_S_ : IVec S3648 32) := by
  simp only [opsG]
  after_results_simp
set_option maxRecDepth 8192 in
set_option maxHeartbeats 4000000 in
theorem afterG_main_v53 (V : Valuation τ sig (Elt F)) : after opsG V (Proc.devRef .tc main_v53) = realRow (V (Proc.devRef .tc main_v40)) := by
  simp only [opsG]
  after_results_simp
  rfl
set_option maxRecDepth 8192 in
set_option maxHeartbeats 4000000 in
theorem afterG_main_v57 (V : Valuation τ sig (Elt F)) : after opsG V (Proc.devRef .tc main_v57) = moved (V (Proc.devRef .tc main_v37)) := by
  simp only [opsG]
  after_results_simp
  rfl
set_option maxRecDepth 8192 in
set_option maxHeartbeats 4000000 in
theorem afterG_main_v58 (V : Valuation τ sig (Elt F)) : after opsG V (Proc.devRef .tc main_v58) = wrapped := by
  simp only [opsG]
  after_results_simp
  rfl
set_option maxRecDepth 8192 in
set_option maxHeartbeats 4000000 in
theorem afterH_main_v64 (V : Valuation τ sig (Elt F)) : after opsH V (Proc.devRef .tc main_v64) = segOf (V (Proc.devRef .tc main_v53)) (V (Proc.devRef .tc main_v48)) := by
  simp only [opsH]
  after_results_simp
  rfl
set_option maxRecDepth 8192 in
set_option maxHeartbeats 4000000 in
theorem afterH_main_v67 (V : Valuation τ sig (Elt F)) : after opsH V (Proc.devRef .tc main_v67) = bases (V (Proc.devRef .tc main_v48)) := by
  simp only [opsH]
  after_results_simp
  rfl
set_option maxRecDepth 8192 in
set_option maxHeartbeats 4000000 in
theorem afterH_main_v68 (V : Valuation τ sig (Elt F)) : after opsH V (Proc.devRef .tc main_v68) = shapeCast S32x38x96 (src (V (Proc.devRef .tc main_v53)) (V (Proc.devRef .tc main_v57)) (V (Proc.devRef .tc main_v58))) shapeCasts_S116736_S32x38x96 := by
  simp only [opsH]
  after_results_simp
  rfl
set_option maxRecDepth 8192 in
set_option maxHeartbeats 4000000 in
theorem afterZ_main_v70 (V : Valuation τ sig (Elt F)) : after opsZ V (Proc.devRef .tc main_v70) = shapeCast S57x1x2048 (V (Proc.devRef .tc main_v64)) shapeCasts_S116736_S57x1x2048 := by
  simp only [opsZ]
  after_results_simp
  rfl
set_option maxRecDepth 8192 in
set_option maxHeartbeats 4000000 in
theorem afterZ_main_v72 (V : Valuation τ sig (Elt F)) : after opsZ V (Proc.devRef .tc main_v72) = shapeCast S1x512 (addf (s := S512) (φ := .f32) (V (Proc.devRef .tc main_arg4)) (V (Proc.devRef .tc main_arg5))) shapeCasts_S512_S1x512 := by
  simp only [opsZ]
  after_results_simp
  rfl

/-! ## The stretch before the SparseCore call -/

/-- The operations before the SparseCore call, in @main's two windows. -/
def ops0 : List (HloOp τ sig (Elt F)) := opsA ++ (opsB ++ (opsC ++ opsD))
def ops1 : List (HloOp τ sig (Elt F)) := opsG ++ opsH

theorem ops0_bufs : ∀ op ∈ (ops0 : List (HloOp τ sig (Elt F))), op.bufs ⊆ Pipeline.ucRefs τ sig := fun op h => by
  refine Pipeline.sub_ucRefs op ?_
  simp only [ops0, List.mem_append] at h
  rcases h with h | h | h | h
  exacts [List.forall_iff_forall_mem.mp opsA_bufs op h, List.forall_iff_forall_mem.mp opsB_bufs op h, List.forall_iff_forall_mem.mp opsC_bufs op h, List.forall_iff_forall_mem.mp opsD_bufs op h]
theorem ops1_bufs : ∀ op ∈ (ops1 : List (HloOp τ sig (Elt F))), op.bufs ⊆ Pipeline.ucRefs τ sig := fun op h => by
  refine Pipeline.sub_ucRefs op ?_
  simp only [ops1, List.mem_append] at h
  rcases h with h | h
  exacts [List.forall_iff_forall_mem.mp opsG_bufs op h, List.forall_iff_forall_mem.mp opsH_bufs op h]
theorem opsZ_bufs' : ∀ op ∈ (opsZ : List (HloOp τ sig (Elt F))), op.bufs ⊆ Pipeline.ucRefs τ sig := fun op h =>
  Pipeline.sub_ucRefs op (List.forall_iff_forall_mem.mp opsZ_bufs op h)
theorem ops0_fresh : ∀ op ∈ (ops0 : List (HloOp τ sig (Elt F))), op.fresh = ∅ := fun op h => by
  simp only [ops0, List.mem_append] at h
  rcases h with h | h | h | h
  exacts [List.forall_iff_forall_mem.mp opsA_fresh op h, List.forall_iff_forall_mem.mp opsB_fresh op h, List.forall_iff_forall_mem.mp opsC_fresh op h, List.forall_iff_forall_mem.mp opsD_fresh op h]
theorem ops1_fresh : ∀ op ∈ (ops1 : List (HloOp τ sig (Elt F))), op.fresh = ∅ := fun op h => by
  simp only [ops1, List.mem_append] at h
  rcases h with h | h
  exacts [List.forall_iff_forall_mem.mp opsG_fresh op h, List.forall_iff_forall_mem.mp opsH_fresh op h]
theorem opsZ_fresh' : ∀ op ∈ (opsZ : List (HloOp τ sig (Elt F))), op.fresh = ∅ := fun op h => List.forall_iff_forall_mem.mp opsZ_fresh op h

/-- The buffers when the SparseCore call starts. -/
def before (V : Valuation τ sig (Elt F)) : Valuation τ sig (Elt F) := after ops1 (after ops0 V)

theorem before_eq (V : Valuation τ sig (Elt F)) :
    before V = after opsH (after opsG (after opsD (after opsC (after opsB (after opsA V))))) := by
  unfold before ops0 ops1; simp only [after_append]

section Before
variable (V : Valuation τ sig (Elt F))
abbrev bOf : IVec S100000 32 := V (Proc.devRef .tc main_arg1)

theorem before_keep (r : Ref sig .tc) (hA : r ∉ opsA_W) (hB : r ∉ opsB_W) (hC : r ∉ opsC_W) (hD : r ∉ opsD_W) (hG : r ∉ opsG_W) (hH : r ∉ opsH_W) :
    before V (Proc.devRef .tc r) = V (Proc.devRef .tc r) := by
  rw [before_eq, afterH_keep _ _ hH, afterG_keep _ _ hG, afterD_keep _ _ hD, afterC_keep _ _ hC, afterB_keep _ _ hB, afterA_keep _ _ hA]

theorem mid_v37 : after opsD (after opsC (after opsB (after opsA V))) (Proc.devRef .tc main_v37) = bShift (bOf V) := by
  rw [afterD_main_v37, afterC_main_v20, afterC_main_v25, afterB_main_v17, afterB_keep _ main_v7 (by decide), afterA_main_v7, afterA_main_v10]; rfl
theorem mid_v40 : after opsD (after opsC (after opsB (after opsA V))) (Proc.devRef .tc main_v40) = bEnd (bOf V) := by
  rw [afterD_main_v40, afterC_main_v20, afterC_main_v22, afterB_main_v17, afterB_keep _ main_v10 (by decide), afterA_main_v10]; rfl
theorem mid_v47 : after opsD (after opsC (after opsB (after opsA V))) (Proc.devRef .tc main_v47) = ended (bPstart (bOf V)) := by
  rw [afterD_main_v47, afterC_main_v20, afterB_main_v17, afterA_main_v10]; rfl
theorem mid_v48 : after opsG (after opsD (after opsC (after opsB (after opsA V)))) (Proc.devRef .tc main_v48) = bSeg (bOf V) := by
  rw [afterG_main_v48, mid_v47, afterD_main_c_10]; rfl
theorem mid_v53 : after opsG (after opsD (after opsC (after opsB (after opsA V)))) (Proc.devRef .tc main_v53) = bReal (bOf V) := by
  rw [afterG_main_v53, mid_v40]; rfl
theorem mid_v57 : after opsG (after opsD (after opsC (after opsB (after opsA V)))) (Proc.devRef .tc main_v57) = moved (bShift (bOf V)) := by
  rw [afterG_main_v57, mid_v37]

/-- When the SparseCore call starts, the lists hold the rows to gather, … -/
theorem before_v68 : before V (Proc.devRef .tc main_v68) = bLists (bOf V) := by
  rw [before_eq, afterH_main_v68, mid_v53, mid_v57, afterG_main_v58]; rfl
/-- … the segment numbers of the padded rows are there, … -/
theorem before_v64 : before V (Proc.devRef .tc main_v64) = bSegOf (bOf V) := by
  rw [before_eq, afterH_main_v64, mid_v53, mid_v48]; rfl
/-- … and the blocks' first segments. -/
theorem before_v67 : before V (Proc.devRef .tc main_v67) = bBases (bOf V) := by
  rw [before_eq, afterH_main_v67, mid_v48]; rfl
end Before

end Cert.Proof.Host

end
-- ==== Proof.TcBody.lean ====
/-
  The TensorCore body at one grid point: what it does to its six scratch buffers, as functions of their values, and the
  proof that the program does that.
-/
module

public import proofs.«01_k».proof.Proof.Sc
public import Idealize.ShloMosaic.Lib.Writes
public import Idealize.ShloMosaic.Lib.Pipeline.FrameBody
public import Idealize.ShloMosaic.Lib.Pipeline.ValueKit.Basic

@[expose] public section

noncomputable section

namespace Cert.Proof.Tc

open Cert.KernelIdeal Cert.KernelIdeal.Gen
open Cert.Proof.Sc (UU)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Contents `X` with the box `r` overwritten by `w`. -/
def put {s : Shape} {V : Type} (r : Rect s) (w : r.shape.Idx → V) (X : s.Idx → V) : s.Idx → V :=
  fun y => if h : ∃ x, r.emb x = y then w h.choose else X y

theorem put_emb {s : Shape} {V : Type} (r : Rect s) (w : r.shape.Idx → V) (X : s.Idx → V) (x : r.shape.Idx) :
    put r w X (r.emb x) = w x := by
  have h : ∃ x', r.emb x' = r.emb x := ⟨x, rfl⟩
  rw [put, dif_pos h, r.emb.injective h.choose_spec]

theorem put_of_not {s : Shape} {V : Type} (r : Rect s) (w : r.shape.Idx → V) (X : s.Idx → V) (y : s.Idx) (h : ∀ x, r.emb x ≠ y) :
    put r w X y = X y := dif_neg fun ⟨x, hx⟩ => h x hx

/-- Reading after a box is stored is the contents with the box overwritten. -/
theorem read_store {sp : Space} {s : Shape} {e : EltTy} (v : View sig .tc sp s e) (r : Rect s) (w : r.shape.Idx → Elt F e) (f : v.ty.Contents (Elt F)) :
    v.read (Elt F) ((v.slice r).write (Elt F) f w Finset.univ) = put r w (v.read (Elt F) f) := by
  rw [← View.writes_singleton]
  funext y
  by_cases h : ∃ x, r.emb x = y
  · obtain ⟨x, rfl⟩ := h
    rw [View.read_writes_cons_emb, put_emb]
  · push Not at h
    rw [put_of_not _ _ _ _ h, View.read_writes_cons_miss, View.writes_nil]
    intro hy
    obtain ⟨x, -, hx⟩ := Finset.mem_map.mp (show y ∈ Finset.univ.map r.emb by rwa [Rect.map_emb_univ])
    exact h x hx

section Rules

variable (c : Dev nD) {sp : CoreSpace} {s : Shape} {e : EltTy}

theorem wp_ld (m : Memref sig .tc sp s e) (r : Rect s) {hl : m.view.LoadsAt r.toLoadRect} (X : s.Idx → Elt F e) (Φ : (r.toLoadRect.shape.Idx → Elt F e) → sProp 𝕄) :
    iprop(ownsTc c m fullShare X ∗ (ownsTc c m fullShare X -∗ Φ (View.ld X r)))
      ⊢ wp frame (wpE (defs₀ (F := F)) Variants.none (c : Thread nD τ) none) Set.univ (Prog.lift (.load m r.toLoadRect hl)) Φ := by
  unfold ownsTc owns
  iintro ⟨⟨%f, %hf, H⟩, Hk⟩
  iapply (wp_load (defs := defs₀ (F := F)) Variants.none (c : Thread nD τ) none Set.univ (m := m) (r := r.toLoadRect) (hl := hl) (f := f) (S := m.view.set)
    (View.setOn_subset_set _ _)) $$ H
  iintro H
  rw [wp_ret, View.readAt_eq_ld, hf]
  imodintro
  iapply Hk
  iexists f; isplitr; · ipureintro; exact hf
  iexact H

theorem wp_st (m : Memref sig .tc sp s e) (r : Rect s) (w : r.shape.Idx → Elt F e) {hx : (m.access r).Stores Finset.univ}
    {hm : (Finset.univ : Finset r.shape.Idx) = Finset.univ ∨ ∀ a, r.stride a = 1} (X : s.Idx → Elt F e) (Φ : PUnit → sProp 𝕄) :
    iprop(ownsTc c m fullShare X ∗ (ownsTc c m fullShare (put r w X) -∗ Φ ⟨⟩))
      ⊢ wp frame (wpE (defs₀ (F := F)) Variants.none (c : Thread nD τ) none) Set.univ (Prog.lift (.store m r w Finset.univ hx hm)) Φ := by
  unfold ownsTc owns
  iintro ⟨⟨%f, %hf, H⟩, Hk⟩
  iapply (wp_store (defs := defs₀ (F := F)) Variants.none (c : Thread nD τ) none Set.univ (m := m) (r := r) (w := w) (hx := hx) (hm := hm) (f := f) (S := m.view.set)
    ?hs) $$ H
  case hs => exact (View.setOn_subset_set _ _).trans (View.set_slice_subset m.view r)
  iintro H
  rw [wp_ret]
  imodintro
  iapply Hk
  iexists (m.access r).write (Elt F) f w Finset.univ
  isplitr
  · ipureintro; rw [← hf]; exact read_store m.view r w f
  iexact H

theorem wp_mid {α β : Type} {p : Prog (TpuEff nD τ sig (Elt F) Λ₀ .tc) α} {k : α → Prog (TpuEff nD τ sig (Elt F) Λ₀ .tc) β} {P : sProp 𝕄} {Q : β → sProp 𝕄}
    (R : α → sProp 𝕄) (h₁ : P ⊢ wp frame (wpE (defs₀ (F := F)) Variants.none (c : Thread nD τ) none) Set.univ p R)
    (h₂ : ∀ a, R a ⊢ wp frame (wpE (defs₀ (F := F)) Variants.none (c : Thread nD τ) none) Set.univ (k a) Q) :
    P ⊢ wp frame (wpE (defs₀ (F := F)) Variants.none (c : Thread nD τ) none) Set.univ (p >>= k) Q := by
  rw [wp_bind]; exact h₁.trans (wp_mono _ _ _ h₂)

theorem ex_pure {ι : Type} {φ : ι → Prop} {P Q : sProp 𝕄} (h : ∀ i, φ i → (P ⊢ Q)) : iprop(∃ i, ⌜φ i⌝ ∗ P) ⊢ Q := by
  iintro ⟨%i, %hi, H⟩; iapply (h i hi) $$ H

theorem pure_l {φ : Prop} {P Q : sProp 𝕄} (h : φ → (P ⊢ Q)) : iprop(⌜φ⌝ ∗ P) ⊢ Q := by
  iintro ⟨%hi, H⟩; iapply (h hi) $$ H

theorem wp_word (m : Memref sig .tc .smem s e) (r : Rect s) {h1 : r.shape.numel = 1} {hp : e.packing = 1} (X : s.Idx → Elt F e) (Φ : Elt F e → sProp 𝕄) :
    iprop(ownsTc c m fullShare X ∗ (ownsTc c m fullShare X -∗ Φ (View.ld X r (Shape.Idx.first (h1.symm ▸ Nat.one_pos)))))
      ⊢ wp frame (wpE (defs₀ (F := F)) Variants.none (c : Thread nD τ) none) Set.univ (smemLoad m r h1 hp) Φ := by
  unfold ownsTc owns smemLoad
  iintro ⟨⟨%f, %hf, H⟩, Hk⟩
  iapply (wp_smemLoadElt (defs := defs₀ (F := F)) Variants.none (c : Thread nD τ) none Set.univ (m := m) (r := r) (f := f) (S := m.view.set)
    (View.set_slice_subset m.view r)) $$ H
  iintro H
  rw [wp_ret, show (m.access r).read (Elt F) f = View.ld X r by rw [← hf]; rfl]
  imodintro
  iapply Hk
  iexists f; isplitr; · ipureintro; exact hf
  iexact H

end Rules

theorem ld_zero {s : Shape} {e : EltTy} {off : Fin s.rank → Nat} (inb : ∀ a, off a + s.size a ≤ s.size a) (X : s.Idx → Elt F e) (h : off = fun _ => 0) :
    View.ld X (Rect.unit (s := s) off s.size inb) = X := by
  subst h; funext x
  exact congrArg X (funext fun a => Fin.ext (show 0 + 1 * (x a).val = (x a).val by omega))

theorem put_zero {s : Shape} {V : Type} {off : Fin s.rank → Nat} (inb : ∀ a, off a + s.size a ≤ s.size a) (w X : s.Idx → V) (h : off = fun _ => 0) :
    put (Rect.unit (s := s) off s.size inb) w X = w := by
  subst h; funext y
  have h : (Rect.unit (s := s) (fun _ => 0) s.size inb).emb y = y :=
    Rect.emb_eq_of_coords _ _ _ fun a => by simp [Rect.unit]
  have := put_emb (Rect.unit (s := s) (fun _ => 0) s.size inb) w X y
  rwa [h] at this

theorem z2 : (![0, 0] : Fin 2 → Nat) = fun _ => 0 := by decide
theorem z3 : (![0, 0, 0] : Fin 3 → Nat) = fun _ => 0 := by decide

/-! ## The six scratch buffers and what a point does to them -/

/-- The values of the six scratch buffers: the query with the readout, the window of hidden states, the cell, and the
    running maximum, denominator and weighted sum. -/
structure St (F : FTy → Type) where
  qs : S512x256.Idx → F .f32
  hp : S592x128.Idx → F .f32
  c : S512x128.Idx → F .f32
  m : S592x1.Idx → F .f32
  d : S592x1.Idx → F .f32
  s : S592x128.Idx → F .f32

/-- The boxes that the body reads and writes: the first 512 rows, and the window of 80 rows. -/
abbrev low128 : Rect S592x128 := Rect.unit (s := S592x128) ![0, 0] S512x128.size inb_S592x128_S512x128_0_0
abbrev low1 : Rect S592x1 := Rect.unit (s := S592x1) ![0, 0] S512x1.size inb_S592x1_S512x1_0_0
abbrev win128 (v : BitVec 32) (h : k1_chk1 v) : Rect S592x128 := Rect.unit (s := S592x128) (k1_off2 v) S80x128.size (k1_off2_inb v h)
abbrev win1 (v : BitVec 32) (h : k1_chk1 v) : Rect S592x1 := Rect.unit (s := S592x1) (k1_off3 v) S80x1.size (k1_off3_inb v h)

/-- The first point zeroes the query, the hidden states and the cell. -/
def init (σ : St F) : St F := { σ with qs := k1_pay10, hp := k1_pay11, c := k1_pay12 }

/-- The first point of a round takes the step of the recurrence and clears the running values. -/
def start (wih : S512x256.Idx → F .f32) (whh : S512x128.Idx → F .f32) (bias : S1x512.Idx → F .f32) (σ : St F) : St F where
  qs := σ.qs
  hp := put low128 (k1_pay6 (F := F) σ.qs wih (View.ld (Val := Elt F) (e' := .f32) σ.hp low128) whh bias σ.c) σ.hp
  c := k1_pay7 (F := F) σ.qs wih (View.ld (Val := Elt F) (e' := .f32) σ.hp low128) whh bias σ.c
  m := k1_pay8 (Scalar.ofBits .f32 0xFF800000#32)
  d := k1_pay13 k1_pay9
  s := k1_pay14

/-- A block of rows updates the running values of its window of 80 segments. -/
def block (x : S2048x128.Idx → F .f32) (bat : S1x1x2048.Idx → BitVec 32) (v : BitVec 32) (h : k1_chk1 v) (σ : St F) : St F :=
  let hw : Vec F S80x128 .f32 := View.ld (Val := Elt F) (e' := .f32) σ.hp (win128 v h)
  let mw : Vec F S80x1 .f32 := View.ld (Val := Elt F) (e' := .f32) σ.m (win1 v h)
  { σ with
    m := put (win1 v h) (k1_pay2 (k1_pay20 (F := F) (k1_pay15 x) (k1_pay16 (F := F) bat) (k1_pay17 (F := F) v) hw mw)) σ.m
    d := put (win1 v h) (k1_pay23 (F := F) (k1_pay15 x) (k1_pay16 (F := F) bat) (k1_pay17 (F := F) v) hw mw (View.ld (Val := Elt F) (e' := .f32) σ.d (win1 v h))) σ.d
    s := put (win128 v h) (k1_pay1 (k1_pay24 (F := F) (k1_pay15 x) (k1_pay16 (F := F) bat) (k1_pay17 (F := F) v) hw mw (View.ld (Val := Elt F) (e' := .f32) σ.s (win128 v h)))
      (k1_pay25 (F := F) (k1_pay15 x) (k1_pay16 (F := F) bat) (k1_pay17 (F := F) v) hw mw)) σ.s }

/-- The last block of a round divides the sums and keeps the query with the readout. -/
def finish (σ : St F) : St F :=
  { σ with qs := k1_pay3 (F := F) (View.ld (Val := Elt F) (e' := .f32) σ.s low128) (View.ld (Val := Elt F) (e' := .f32) σ.d low1) (View.ld (Val := Elt F) (e' := .f32) σ.hp low128) }

/-- The conditions of the body's first three branches, as it computes them. -/
abbrev condFirst (i : grid1.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32
abbrev condStart (i : grid1.Coords) : BitVec 1 :=
  Scalar.cmpi .ne (Scalar.extui (Scalar.cmpi .eq (BitVec.ofNat 32 (i 1).val) 0#32) : BitVec 32) 0#32
abbrev condLast (i : grid1.Coords) : BitVec 1 :=
  Scalar.cmpi .ne (Scalar.extui (Scalar.cmpi .eq (BitVec.ofNat 32 (i 1).val) 56#32) : BitVec 32) 0#32

/-- What is before the block's update at a point. -/
def opening (i : grid1.Coords) (wih : S512x256.Idx → F .f32) (whh : S512x128.Idx → F .f32) (bias : S1x512.Idx → F .f32) (σ : St F) : St F :=
  if condStart i = 1#1 then start wih whh bias (if condFirst i = 1#1 then init σ else σ) else (if condFirst i = 1#1 then init σ else σ)

/-- What is after it. -/
def closing (i : grid1.Coords) (σ : St F) : St F := if condLast i = 1#1 then finish σ else σ

/-- The word of the table that the point reads. -/
abbrev word (i : grid1.Coords) (tb : S57.Idx → BitVec 32) : BitVec 32 :=
  View.ld (Val := Elt F) (e' := .i32) tb (Rect.unit (s := S57) (k1_off1 i) S1.size (k1_off1_inb i)) (Shape.Idx.first (numel1_S1.symm ▸ Nat.one_pos))

section Body

variable (c : Dev nD) (i : grid1.Coords) (M2 : Memref sig .tc .smem S57 .i32) (h2 : M2.IsWhole) (M3 : Memref sig .tc .vmem S2048x128 .f32) (h3 : M3.IsWhole) (M4 : Memref sig .tc .vmem S1x1x2048 .i32) (h4 : M4.IsWhole) (M5 : Memref sig .tc .vmem S512x256 .f32) (h5 : M5.IsWhole) (M6 : Memref sig .tc .vmem S512x128 .f32) (h6 : M6.IsWhole) (M7 : Memref sig .tc .vmem S1x512 .f32) (h7 : M7.IsWhole) (M8 : Memref sig .tc .vmem S512x256 .f32) (h8 : M8.IsWhole) (M9 : Memref sig .tc .vmem S512x256 .f32) (h9 : M9.IsWhole) (M10 : Memref sig .tc .vmem S592x128 .f32) (h10 : M10.IsWhole) (M11 : Memref sig .tc .vmem S512x128 .f32) (h11 : M11.IsWhole) (M12 : Memref sig .tc .vmem S592x1 .f32) (h12 : M12.IsWhole) (M13 : Memref sig .tc .vmem S592x1 .f32) (h13 : M13.IsWhole) (M14 : Memref sig .tc .vmem S592x128 .f32) (h14 : M14.IsWhole)

/-- Everything that the body touches, at given values. -/
def Held (tb : S57.Idx → BitVec 32) (x : S2048x128.Idx → F .f32) (bat : S1x1x2048.Idx → BitVec 32) (wih : S512x256.Idx → F .f32)
    (whh : S512x128.Idx → F .f32) (bias : S1x512.Idx → F .f32) (o : S512x256.Idx → F .f32) (σ : St F) : sProp 𝕄 :=
  iprop(ownsTc c M2 fullShare (Val := Elt F) tb ∗ ownsTc c M3 fullShare (Val := Elt F) x ∗ ownsTc c M4 fullShare (Val := Elt F) bat
    ∗ ownsTc c M5 fullShare (Val := Elt F) wih ∗ ownsTc c M6 fullShare (Val := Elt F) whh ∗ ownsTc c M7 fullShare (Val := Elt F) bias
    ∗ ownsTc c M8 fullShare (Val := Elt F) o ∗ ownsTc c M9 fullShare (Val := Elt F) σ.qs ∗ ownsTc c M10 fullShare (Val := Elt F) σ.hp
    ∗ ownsTc c M11 fullShare (Val := Elt F) σ.c ∗ ownsTc c M12 fullShare (Val := Elt F) σ.m ∗ ownsTc c M13 fullShare (Val := Elt F) σ.d
    ∗ ownsTc c M14 fullShare (Val := Elt F) σ.s)

variable (tb : S57.Idx → BitVec 32) (x : S2048x128.Idx → F .f32) (bat : S1x1x2048.Idx → BitVec 32) (wih : S512x256.Idx → F .f32)
    (whh : S512x128.Idx → F .f32) (bias : S1x512.Idx → F .f32) (o : S512x256.Idx → F .f32) (σ : St F)

theorem part3_wp (v : BitVec 32) (hv : k1_chk1 v) (v28 : BitVec 32) (v30 : FVec F S2048x128 .f32) (v32 : IVec S1x2048 32) (v35 : IVec S80x2048 32) :
    Held (F := F) c M2 M3 M4 M5 M6 M7 M8 M9 M10 M11 M12 M13 M14 tb x bat wih whh bias o σ
    ⊢ wp frame (wpE (defs₀ (F := F)) Variants.none (c : Thread nD τ) none) Set.univ (k1_part3 (F := F) i M2 h2 M3 h3 M4 h4 M5 h5 M6 h6 M7 h7 M8 h8 M9 h9 M10 h10 M11 h11 M12 h12 M13 h13 M14 h14 v hv v28 v30 v32 v35)
      fun r => iprop(⌜r = ⟨k1_pay20 v30 v32 v35 (View.ld (Val := Elt F) (e' := .f32) σ.hp (win128 v hv)) (View.ld (Val := Elt F) (e' := .f32) σ.m (win1 v hv)),
          k1_pay24 v30 v32 v35 (View.ld (Val := Elt F) (e' := .f32) σ.hp (win128 v hv)) (View.ld (Val := Elt F) (e' := .f32) σ.m (win1 v hv)) (View.ld (Val := Elt F) (e' := .f32) σ.s (win128 v hv)),
          k1_pay25 v30 v32 v35 (View.ld (Val := Elt F) (e' := .f32) σ.hp (win128 v hv)) (View.ld (Val := Elt F) (e' := .f32) σ.m (win1 v hv))⟩⌝
        ∗ Held (F := F) c M2 M3 M4 M5 M6 M7 M8 M9 M10 M11 M12 M13 M14 tb x bat wih whh bias o { σ with d := put (win1 v hv) (k1_pay23 v30 v32 v35 (View.ld (Val := Elt F) (e' := .f32) σ.hp (win128 v hv)) (View.ld (Val := Elt F) (e' := .f32) σ.m (win1 v hv)) (View.ld (Val := Elt F) (e' := .f32) σ.d (win1 v hv))) σ.d }) := by
  rw [k1_part3_eq_skeleton]
  unfold k1_part3_skel Held
  iintro ⟨H2, H3, H4, H5, H6, H7, H8, H9, H10, H11, H12, H13, H14⟩
  rw [wp_bind]; iapply (wp_ld c M10 _ _ _); isplitl [H10]; (· iexact H10); iintro H10
  rw [wp_bind]; iapply (wp_ld c M12 _ _ _); isplitl [H12]; (· iexact H12); iintro H12
  rw [wp_bind]; iapply (wp_ld c M13 _ _ _); isplitl [H13]; (· iexact H13); iintro H13
  rw [wp_bind]; iapply (wp_ld c M13 _ _ _); isplitl [H13]; (· iexact H13); iintro H13
  rw [wp_bind]; iapply (wp_st c M13 _ _ _ _); isplitl [H13]; (· iexact H13); iintro H13
  rw [wp_bind]; iapply (wp_ld c M14 _ _ _); isplitl [H14]; (· iexact H14); iintro H14
  rw [wp_pure]
  imodintro
  isplitr; · ipureintro; trivial
  isplitl [H2]; (· iexact H2)
  isplitl [H3]; (· iexact H3)
  isplitl [H4]; (· iexact H4)
  isplitl [H5]; (· iexact H5)
  isplitl [H6]; (· iexact H6)
  isplitl [H7]; (· iexact H7)
  isplitl [H8]; (· iexact H8)
  isplitl [H9]; (· iexact H9)
  isplitl [H10]; (· iexact H10)
  isplitl [H11]; (· iexact H11)
  isplitl [H12]; (· iexact H12)
  isplitl [H13]; (· iexact H13)
  iexact H14

set_option maxHeartbeats 1000000 in
theorem part2_wp (hv : k1_chk1 (word (F := F) i tb)) :
    Held (F := F) c M2 M3 M4 M5 M6 M7 M8 M9 M10 M11 M12 M13 M14 tb x bat wih whh bias o σ
    ⊢ wp frame (wpE (defs₀ (F := F)) Variants.none (c : Thread nD τ) none) Set.univ (k1_part2 (F := F) i M2 h2 M3 h3 M4 h4 M5 h5 M6 h6 M7 h7 M8 h8 M9 h9 M10 h10 M11 h11 M12 h12 M13 h13 M14 h14)
      fun r => iprop(∃ v28, ⌜r = ⟨BitVec.ofNat 32 (i 0).val, BitVec.ofNat 32 (i 1).val, word (F := F) i tb, hv, v28, k1_pay15 x, k1_pay16 (F := F) bat, k1_pay17 (F := F) (word (F := F) i tb)⟩⌝
        ∗ Held (F := F) c M2 M3 M4 M5 M6 M7 M8 M9 M10 M11 M12 M13 M14 tb x bat wih whh bias o (opening i wih whh bias σ)) := by
  rw [k1_part2_eq_skeleton]
  unfold k1_part2_skel
  dsimp only
  by_cases hf : condFirst i = 1#1 <;> by_cases hs : condStart i = 1#1
  · unfold opening Held
    rw [dif_pos hf, if_pos hf, if_pos hs]
    try dsimp only [init, start]
    iintro ⟨H2, H3, H4, H5, H6, H7, H8, H9, H10, H11, H12, H13, H14⟩
    rw [wp_bind]; iapply (wp_ld c M9 _ _ _); isplitl [H9]; (· iexact H9); iintro H9
    rw [wp_bind]; iapply (wp_st c M9 _ _ _ _); isplitl [H9]; (· iexact H9); iintro H9
    rw [wp_bind]; iapply (wp_ld c M10 _ _ _); isplitl [H10]; (· iexact H10); iintro H10
    rw [wp_bind]; iapply (wp_st c M10 _ _ _ _); isplitl [H10]; (· iexact H10); iintro H10
    rw [wp_bind]; iapply (wp_ld c M11 _ _ _); isplitl [H11]; (· iexact H11); iintro H11
    rw [wp_bind]; iapply (wp_st c M11 _ _ _ _); isplitl [H11]; (· iexact H11); iintro H11
    rw [dif_pos hs]
    rw [wp_bind]
    rw [k1_part1_eq_skeleton]
    unfold k1_part1_skel
    rw [wp_bind]; iapply (wp_ld c M9 _ _ _); isplitl [H9]; (· iexact H9); iintro H9
    rw [wp_bind]; iapply (wp_ld c M5 _ _ _); isplitl [H5]; (· iexact H5); iintro H5
    rw [wp_bind]; iapply (wp_ld c M10 _ _ _); isplitl [H10]; (· iexact H10); iintro H10
    rw [wp_bind]; iapply (wp_ld c M6 _ _ _); isplitl [H6]; (· iexact H6); iintro H6
    rw [wp_bind]; iapply (wp_ld c M7 _ _ _); isplitl [H7]; (· iexact H7); iintro H7
    rw [wp_bind]; iapply (wp_ld c M11 _ _ _); isplitl [H11]; (· iexact H11); iintro H11
    rw [wp_bind]; iapply (wp_ld c M10 _ _ _); isplitl [H10]; (· iexact H10); iintro H10
    rw [wp_bind]; iapply (wp_st c M10 _ _ _ _); isplitl [H10]; (· iexact H10); iintro H10
    rw [wp_bind]; iapply (wp_ld c M11 _ _ _); isplitl [H11]; (· iexact H11); iintro H11
    rw [wp_bind]; iapply (wp_st c M11 _ _ _ _); isplitl [H11]; (· iexact H11); iintro H11
    rw [wp_bind]; iapply (wp_ld c M12 _ _ _); isplitl [H12]; (· iexact H12); iintro H12
    rw [wp_bind]; iapply (wp_st c M12 _ _ _ _); isplitl [H12]; (· iexact H12); iintro H12
    rw [wp_pure]
    imodintro
    rw [wp_bind]; iapply (wp_ld c M13 _ _ _); isplitl [H13]; (· iexact H13); iintro H13
    rw [wp_bind]; iapply (wp_st c M13 _ _ _ _); isplitl [H13]; (· iexact H13); iintro H13
    rw [wp_bind]; iapply (wp_ld c M14 _ _ _); isplitl [H14]; (· iexact H14); iintro H14
    rw [wp_bind]; iapply (wp_st c M14 _ _ _ _); isplitl [H14]; (· iexact H14); iintro H14
    rw [wp_bind]
    iapply (wp_word c M2 _ _ _); isplitl [H2]; (· iexact H2); iintro H2
    rw [wp_bind]
    iapply (wp_assume (defs := defs₀ (F := F)) Variants.none (c : Thread nD τ) none Set.univ hv)
    rw [wp_ret]
    imodintro
    rw [wp_bind]; iapply (wp_ld c M3 _ _ _); isplitl [H3]; (· iexact H3); iintro H3
    rw [wp_bind]; iapply (wp_ld c M4 _ _ _); isplitl [H4]; (· iexact H4); iintro H4
    rw [wp_pure]
    imodintro
    iexists _
    try simp only [ld_zero (s := S512x256) _ _ z2, put_zero (s := S512x256) _ _ _ z2, ld_zero (s := S512x128) _ _ z2, put_zero (s := S512x128) _ _ _ z2, ld_zero (s := S592x128) _ _ z2, put_zero (s := S592x128) _ _ _ z2, ld_zero (s := S592x1) _ _ z2, put_zero (s := S592x1) _ _ _ z2, ld_zero (s := S2048x128) _ _ z2, put_zero (s := S2048x128) _ _ _ z2, ld_zero (s := S1x512) _ _ z2, put_zero (s := S1x512) _ _ _ z2, ld_zero (s := S1x1x2048) _ _ z3]
    isplitr; · ipureintro; rfl
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexact H9)
    isplitl [H10]; (· iexact H10)
    isplitl [H11]; (· iexact H11)
    isplitl [H12]; (· iexact H12)
    isplitl [H13]; (· iexact H13)
    iexact H14
  · unfold opening Held
    rw [dif_pos hf, if_pos hf, if_neg hs]
    try dsimp only [init, start]
    iintro ⟨H2, H3, H4, H5, H6, H7, H8, H9, H10, H11, H12, H13, H14⟩
    rw [wp_bind]; iapply (wp_ld c M9 _ _ _); isplitl [H9]; (· iexact H9); iintro H9
    rw [wp_bind]; iapply (wp_st c M9 _ _ _ _); isplitl [H9]; (· iexact H9); iintro H9
    rw [wp_bind]; iapply (wp_ld c M10 _ _ _); isplitl [H10]; (· iexact H10); iintro H10
    rw [wp_bind]; iapply (wp_st c M10 _ _ _ _); isplitl [H10]; (· iexact H10); iintro H10
    rw [wp_bind]; iapply (wp_ld c M11 _ _ _); isplitl [H11]; (· iexact H11); iintro H11
    rw [wp_bind]; iapply (wp_st c M11 _ _ _ _); isplitl [H11]; (· iexact H11); iintro H11
    rw [dif_neg hs]
    rw [wp_bind]
    iapply (wp_word c M2 _ _ _); isplitl [H2]; (· iexact H2); iintro H2
    rw [wp_bind]
    iapply (wp_assume (defs := defs₀ (F := F)) Variants.none (c : Thread nD τ) none Set.univ hv)
    rw [wp_ret]
    imodintro
    rw [wp_bind]; iapply (wp_ld c M3 _ _ _); isplitl [H3]; (· iexact H3); iintro H3
    rw [wp_bind]; iapply (wp_ld c M4 _ _ _); isplitl [H4]; (· iexact H4); iintro H4
    rw [wp_pure]
    imodintro
    iexists _
    try simp only [ld_zero (s := S512x256) _ _ z2, put_zero (s := S512x256) _ _ _ z2, ld_zero (s := S512x128) _ _ z2, put_zero (s := S512x128) _ _ _ z2, ld_zero (s := S592x128) _ _ z2, put_zero (s := S592x128) _ _ _ z2, ld_zero (s := S592x1) _ _ z2, put_zero (s := S592x1) _ _ _ z2, ld_zero (s := S2048x128) _ _ z2, put_zero (s := S2048x128) _ _ _ z2, ld_zero (s := S1x512) _ _ z2, put_zero (s := S1x512) _ _ _ z2, ld_zero (s := S1x1x2048) _ _ z3]
    isplitr; · ipureintro; rfl
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexact H9)
    isplitl [H10]; (· iexact H10)
    isplitl [H11]; (· iexact H11)
    isplitl [H12]; (· iexact H12)
    isplitl [H13]; (· iexact H13)
    iexact H14
  · unfold opening Held
    rw [dif_neg hf, if_neg hf, if_pos hs]
    try dsimp only [init, start]
    iintro ⟨H2, H3, H4, H5, H6, H7, H8, H9, H10, H11, H12, H13, H14⟩
    rw [dif_pos hs]
    rw [wp_bind]
    rw [k1_part1_eq_skeleton]
    unfold k1_part1_skel
    rw [wp_bind]; iapply (wp_ld c M9 _ _ _); isplitl [H9]; (· iexact H9); iintro H9
    rw [wp_bind]; iapply (wp_ld c M5 _ _ _); isplitl [H5]; (· iexact H5); iintro H5
    rw [wp_bind]; iapply (wp_ld c M10 _ _ _); isplitl [H10]; (· iexact H10); iintro H10
    rw [wp_bind]; iapply (wp_ld c M6 _ _ _); isplitl [H6]; (· iexact H6); iintro H6
    rw [wp_bind]; iapply (wp_ld c M7 _ _ _); isplitl [H7]; (· iexact H7); iintro H7
    rw [wp_bind]; iapply (wp_ld c M11 _ _ _); isplitl [H11]; (· iexact H11); iintro H11
    rw [wp_bind]; iapply (wp_ld c M10 _ _ _); isplitl [H10]; (· iexact H10); iintro H10
    rw [wp_bind]; iapply (wp_st c M10 _ _ _ _); isplitl [H10]; (· iexact H10); iintro H10
    rw [wp_bind]; iapply (wp_ld c M11 _ _ _); isplitl [H11]; (· iexact H11); iintro H11
    rw [wp_bind]; iapply (wp_st c M11 _ _ _ _); isplitl [H11]; (· iexact H11); iintro H11
    rw [wp_bind]; iapply (wp_ld c M12 _ _ _); isplitl [H12]; (· iexact H12); iintro H12
    rw [wp_bind]; iapply (wp_st c M12 _ _ _ _); isplitl [H12]; (· iexact H12); iintro H12
    rw [wp_pure]
    imodintro
    rw [wp_bind]; iapply (wp_ld c M13 _ _ _); isplitl [H13]; (· iexact H13); iintro H13
    rw [wp_bind]; iapply (wp_st c M13 _ _ _ _); isplitl [H13]; (· iexact H13); iintro H13
    rw [wp_bind]; iapply (wp_ld c M14 _ _ _); isplitl [H14]; (· iexact H14); iintro H14
    rw [wp_bind]; iapply (wp_st c M14 _ _ _ _); isplitl [H14]; (· iexact H14); iintro H14
    rw [wp_bind]
    iapply (wp_word c M2 _ _ _); isplitl [H2]; (· iexact H2); iintro H2
    rw [wp_bind]
    iapply (wp_assume (defs := defs₀ (F := F)) Variants.none (c : Thread nD τ) none Set.univ hv)
    rw [wp_ret]
    imodintro
    rw [wp_bind]; iapply (wp_ld c M3 _ _ _); isplitl [H3]; (· iexact H3); iintro H3
    rw [wp_bind]; iapply (wp_ld c M4 _ _ _); isplitl [H4]; (· iexact H4); iintro H4
    rw [wp_pure]
    imodintro
    iexists _
    try simp only [ld_zero (s := S512x256) _ _ z2, put_zero (s := S512x256) _ _ _ z2, ld_zero (s := S512x128) _ _ z2, put_zero (s := S512x128) _ _ _ z2, ld_zero (s := S592x128) _ _ z2, put_zero (s := S592x128) _ _ _ z2, ld_zero (s := S592x1) _ _ z2, put_zero (s := S592x1) _ _ _ z2, ld_zero (s := S2048x128) _ _ z2, put_zero (s := S2048x128) _ _ _ z2, ld_zero (s := S1x512) _ _ z2, put_zero (s := S1x512) _ _ _ z2, ld_zero (s := S1x1x2048) _ _ z3]
    isplitr; · ipureintro; rfl
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexact H9)
    isplitl [H10]; (· iexact H10)
    isplitl [H11]; (· iexact H11)
    isplitl [H12]; (· iexact H12)
    isplitl [H13]; (· iexact H13)
    iexact H14
  · unfold opening Held
    rw [dif_neg hf, if_neg hf, if_neg hs]
    try dsimp only [init, start]
    iintro ⟨H2, H3, H4, H5, H6, H7, H8, H9, H10, H11, H12, H13, H14⟩
    rw [dif_neg hs]
    rw [wp_bind]
    iapply (wp_word c M2 _ _ _); isplitl [H2]; (· iexact H2); iintro H2
    rw [wp_bind]
    iapply (wp_assume (defs := defs₀ (F := F)) Variants.none (c : Thread nD τ) none Set.univ hv)
    rw [wp_ret]
    imodintro
    rw [wp_bind]; iapply (wp_ld c M3 _ _ _); isplitl [H3]; (· iexact H3); iintro H3
    rw [wp_bind]; iapply (wp_ld c M4 _ _ _); isplitl [H4]; (· iexact H4); iintro H4
    rw [wp_pure]
    imodintro
    iexists _
    try simp only [ld_zero (s := S512x256) _ _ z2, put_zero (s := S512x256) _ _ _ z2, ld_zero (s := S512x128) _ _ z2, put_zero (s := S512x128) _ _ _ z2, ld_zero (s := S592x128) _ _ z2, put_zero (s := S592x128) _ _ _ z2, ld_zero (s := S592x1) _ _ z2, put_zero (s := S592x1) _ _ _ z2, ld_zero (s := S2048x128) _ _ z2, put_zero (s := S2048x128) _ _ _ z2, ld_zero (s := S1x512) _ _ z2, put_zero (s := S1x512) _ _ _ z2, ld_zero (s := S1x1x2048) _ _ z3]
    isplitr; · ipureintro; rfl
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexact H9)
    isplitl [H10]; (· iexact H10)
    isplitl [H11]; (· iexact H11)
    isplitl [H12]; (· iexact H12)
    isplitl [H13]; (· iexact H13)
    iexact H14

/-- The body at a point: the scratch buffers step, the inputs stay, and the output takes the query with the readout where
    the point writes it. -/
theorem body_wp (hv : k1_chk1 (word (F := F) i tb)) :
    Held (F := F) c M2 M3 M4 M5 M6 M7 M8 M9 M10 M11 M12 M13 M14 tb x bat wih whh bias o σ
    ⊢ wp frame (wpE (defs₀ (F := F)) Variants.none (c : Thread nD τ) none) Set.univ (cc1__tc_body (F := F) i M2 h2 M3 h3 M4 h4 M5 h5 M6 h6 M7 h7 M8 h8 M9 h9 M10 h10 M11 h11 M12 h12 M13 h13 M14 h14)
      fun _ => Held (F := F) c M2 M3 M4 M5 M6 M7 M8 M9 M10 M11 M12 M13 M14 tb x bat wih whh bias (if k1_cond4 i = 1#1 then (closing i (block x bat (word (F := F) i tb) hv (opening i wih whh bias σ))).qs else o) (closing i (block x bat (word (F := F) i tb) hv (opening i wih whh bias σ))) := by
  rw [cc1__tc_body_eq_skeleton]
  unfold cc1__tc_body_skel
  refine wp_mid c _ (part2_wp (F := F) c i M2 h2 M3 h3 M4 h4 M5 h5 M6 h6 M7 h7 M8 h8 M9 h9 M10 h10 M11 h11 M12 h12 M13 h13 M14 h14 tb x bat wih whh bias o σ hv) fun r => ?_
  refine ex_pure fun v28 hr => ?_
  subst hr
  dsimp only
  generalize opening i wih whh bias σ = σ'
  refine wp_mid c _ (part3_wp (F := F) c i M2 h2 M3 h3 M4 h4 M5 h5 M6 h6 M7 h7 M8 h8 M9 h9 M10 h10 M11 h11 M12 h12 M13 h13 M14 h14 tb x bat wih whh bias o σ' _ hv v28 _ _ _) fun r => ?_
  refine pure_l fun hr => ?_
  subst hr
  dsimp only
  by_cases hl : condLast i = 1#1 <;> by_cases he : k1_cond4 i = 1#1
  · unfold closing Held
    rw [if_pos hl, if_pos he]
    dsimp only [block, finish]
    iintro ⟨H2, H3, H4, H5, H6, H7, H8, H9, H10, H11, H12, H13, H14⟩
    rw [wp_bind]; iapply (wp_ld c M14 _ _ _); isplitl [H14]; (· iexact H14); iintro H14
    rw [wp_bind]; iapply (wp_st c M14 _ _ _ _); isplitl [H14]; (· iexact H14); iintro H14
    rw [wp_bind]; iapply (wp_ld c M12 _ _ _); isplitl [H12]; (· iexact H12); iintro H12
    rw [wp_bind]; iapply (wp_st c M12 _ _ _ _); isplitl [H12]; (· iexact H12); iintro H12
    rw [dif_pos hl]
    rw [wp_bind]; iapply (wp_ld c M14 _ _ _); isplitl [H14]; (· iexact H14); iintro H14
    rw [wp_bind]; iapply (wp_ld c M13 _ _ _); isplitl [H13]; (· iexact H13); iintro H13
    rw [wp_bind]; iapply (wp_ld c M10 _ _ _); isplitl [H10]; (· iexact H10); iintro H10
    rw [wp_bind]; iapply (wp_ld c M9 _ _ _); isplitl [H9]; (· iexact H9); iintro H9
    rw [wp_bind]; iapply (wp_st c M9 _ _ _ _); isplitl [H9]; (· iexact H9); iintro H9
    rw [dif_pos he]
    rw [wp_bind]; iapply (wp_ld c M9 _ _ _); isplitl [H9]; (· iexact H9); iintro H9
    rw [wp_bind]; iapply (wp_ld c M8 _ _ _); isplitl [H8]; (· iexact H8); iintro H8
    rw [wp_bind]; iapply (wp_st c M8 _ _ _ _); isplitl [H8]; (· iexact H8); iintro H8
    rw [wp_pure]
    imodintro
    try simp only [ld_zero (s := S512x256) _ _ z2, put_zero (s := S512x256) _ _ _ z2, ld_zero (s := S512x128) _ _ z2, put_zero (s := S512x128) _ _ _ z2, ld_zero (s := S592x128) _ _ z2, put_zero (s := S592x128) _ _ _ z2, ld_zero (s := S592x1) _ _ z2, put_zero (s := S592x1) _ _ _ z2, ld_zero (s := S2048x128) _ _ z2, put_zero (s := S2048x128) _ _ _ z2, ld_zero (s := S1x512) _ _ z2, put_zero (s := S1x512) _ _ _ z2, ld_zero (s := S1x1x2048) _ _ z3]
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexact H9)
    isplitl [H10]; (· iexact H10)
    isplitl [H11]; (· iexact H11)
    isplitl [H12]; (· iexact H12)
    isplitl [H13]; (· iexact H13)
    iexact H14
  · unfold closing Held
    rw [if_pos hl, if_neg he]
    dsimp only [block, finish]
    iintro ⟨H2, H3, H4, H5, H6, H7, H8, H9, H10, H11, H12, H13, H14⟩
    rw [wp_bind]; iapply (wp_ld c M14 _ _ _); isplitl [H14]; (· iexact H14); iintro H14
    rw [wp_bind]; iapply (wp_st c M14 _ _ _ _); isplitl [H14]; (· iexact H14); iintro H14
    rw [wp_bind]; iapply (wp_ld c M12 _ _ _); isplitl [H12]; (· iexact H12); iintro H12
    rw [wp_bind]; iapply (wp_st c M12 _ _ _ _); isplitl [H12]; (· iexact H12); iintro H12
    rw [dif_pos hl]
    rw [wp_bind]; iapply (wp_ld c M14 _ _ _); isplitl [H14]; (· iexact H14); iintro H14
    rw [wp_bind]; iapply (wp_ld c M13 _ _ _); isplitl [H13]; (· iexact H13); iintro H13
    rw [wp_bind]; iapply (wp_ld c M10 _ _ _); isplitl [H10]; (· iexact H10); iintro H10
    rw [wp_bind]; iapply (wp_ld c M9 _ _ _); isplitl [H9]; (· iexact H9); iintro H9
    rw [wp_bind]; iapply (wp_st c M9 _ _ _ _); isplitl [H9]; (· iexact H9); iintro H9
    rw [dif_neg he]
    rw [wp_pure]
    imodintro
    try simp only [ld_zero (s := S512x256) _ _ z2, put_zero (s := S512x256) _ _ _ z2, ld_zero (s := S512x128) _ _ z2, put_zero (s := S512x128) _ _ _ z2, ld_zero (s := S592x128) _ _ z2, put_zero (s := S592x128) _ _ _ z2, ld_zero (s := S592x1) _ _ z2, put_zero (s := S592x1) _ _ _ z2, ld_zero (s := S2048x128) _ _ z2, put_zero (s := S2048x128) _ _ _ z2, ld_zero (s := S1x512) _ _ z2, put_zero (s := S1x512) _ _ _ z2, ld_zero (s := S1x1x2048) _ _ z3]
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexact H9)
    isplitl [H10]; (· iexact H10)
    isplitl [H11]; (· iexact H11)
    isplitl [H12]; (· iexact H12)
    isplitl [H13]; (· iexact H13)
    iexact H14
  · unfold closing Held
    rw [if_neg hl, if_pos he]
    dsimp only [block, finish]
    iintro ⟨H2, H3, H4, H5, H6, H7, H8, H9, H10, H11, H12, H13, H14⟩
    rw [wp_bind]; iapply (wp_ld c M14 _ _ _); isplitl [H14]; (· iexact H14); iintro H14
    rw [wp_bind]; iapply (wp_st c M14 _ _ _ _); isplitl [H14]; (· iexact H14); iintro H14
    rw [wp_bind]; iapply (wp_ld c M12 _ _ _); isplitl [H12]; (· iexact H12); iintro H12
    rw [wp_bind]; iapply (wp_st c M12 _ _ _ _); isplitl [H12]; (· iexact H12); iintro H12
    rw [dif_neg hl]
    rw [dif_pos he]
    rw [wp_bind]; iapply (wp_ld c M9 _ _ _); isplitl [H9]; (· iexact H9); iintro H9
    rw [wp_bind]; iapply (wp_ld c M8 _ _ _); isplitl [H8]; (· iexact H8); iintro H8
    rw [wp_bind]; iapply (wp_st c M8 _ _ _ _); isplitl [H8]; (· iexact H8); iintro H8
    rw [wp_pure]
    imodintro
    try simp only [ld_zero (s := S512x256) _ _ z2, put_zero (s := S512x256) _ _ _ z2, ld_zero (s := S512x128) _ _ z2, put_zero (s := S512x128) _ _ _ z2, ld_zero (s := S592x128) _ _ z2, put_zero (s := S592x128) _ _ _ z2, ld_zero (s := S592x1) _ _ z2, put_zero (s := S592x1) _ _ _ z2, ld_zero (s := S2048x128) _ _ z2, put_zero (s := S2048x128) _ _ _ z2, ld_zero (s := S1x512) _ _ z2, put_zero (s := S1x512) _ _ _ z2, ld_zero (s := S1x1x2048) _ _ z3]
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexact H9)
    isplitl [H10]; (· iexact H10)
    isplitl [H11]; (· iexact H11)
    isplitl [H12]; (· iexact H12)
    isplitl [H13]; (· iexact H13)
    iexact H14
  · unfold closing Held
    rw [if_neg hl, if_neg he]
    dsimp only [block, finish]
    iintro ⟨H2, H3, H4, H5, H6, H7, H8, H9, H10, H11, H12, H13, H14⟩
    rw [wp_bind]; iapply (wp_ld c M14 _ _ _); isplitl [H14]; (· iexact H14); iintro H14
    rw [wp_bind]; iapply (wp_st c M14 _ _ _ _); isplitl [H14]; (· iexact H14); iintro H14
    rw [wp_bind]; iapply (wp_ld c M12 _ _ _); isplitl [H12]; (· iexact H12); iintro H12
    rw [wp_bind]; iapply (wp_st c M12 _ _ _ _); isplitl [H12]; (· iexact H12); iintro H12
    rw [dif_neg hl]
    rw [dif_neg he]
    rw [wp_pure]
    imodintro
    try simp only [ld_zero (s := S512x256) _ _ z2, put_zero (s := S512x256) _ _ _ z2, ld_zero (s := S512x128) _ _ z2, put_zero (s := S512x128) _ _ _ z2, ld_zero (s := S592x128) _ _ z2, put_zero (s := S592x128) _ _ _ z2, ld_zero (s := S592x1) _ _ z2, put_zero (s := S592x1) _ _ _ z2, ld_zero (s := S2048x128) _ _ z2, put_zero (s := S2048x128) _ _ _ z2, ld_zero (s := S1x512) _ _ z2, put_zero (s := S1x512) _ _ _ z2, ld_zero (s := S1x1x2048) _ _ z3]
    isplitl [H2]; (· iexact H2)
    isplitl [H3]; (· iexact H3)
    isplitl [H4]; (· iexact H4)
    isplitl [H5]; (· iexact H5)
    isplitl [H6]; (· iexact H6)
    isplitl [H7]; (· iexact H7)
    isplitl [H8]; (· iexact H8)
    isplitl [H9]; (· iexact H9)
    isplitl [H10]; (· iexact H10)
    isplitl [H11]; (· iexact H11)
    isplitl [H12]; (· iexact H12)
    isplitl [H13]; (· iexact H13)
    iexact H14

end Body

end Cert.Proof.Tc

end
-- ==== Proof.Region.lean ====
/-
  The TensorCore call over its grid of 4 rounds by 57 blocks: the values of its scratch buffers before every point, and the
  region of the program that it is.
-/
module

public import proofs.«01_k».proof.Proof.TcBody
public import proofs.«01_k».proof.Proof.Gen.KernelIdeal.Launch
public import Idealize.ShloMosaic.Lib.Pipeline.RegionArraysTS

@[expose] public section

noncomputable section

namespace Cert.Proof.Tc

open Cert.KernelIdeal Cert.KernelIdeal.Gen
open Cert.Proof.Sc (UU)
open Idealize.ShloMosaic Idealize.ShloMosaic.TcCoe Idealize.ShloMosaic.Tactic
open Idealize.ShloMosaic.SparseCore.Cfg (HIx)
open Idealize.ShloMosaic.Pipeline (Dat Cfg Window BodyObligation BodyObligationLoose)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The table of window starts, as the pipeline takes it: any contents are admissible. -/
def adm (tb : S57.Idx → BitVec 32) : (p : Fin 1) → (pcfgs (F := F) p).Adm :=
  fun _ => ⟨fun k => match k with | 0 => tb, trivial⟩

/-- Every word of the table starts a window inside the 592 rows. -/
def TableOK (tb : S57.Idx → BitVec 32) : Prop := ∀ j, k1_chk1 (tb j)

section Points

variable (tb : S57.Idx → BitVec 32) (htb : TableOK tb) (W : (c : Dev nD) → Valuation τ sig (Elt F)) (c : Dev nD)

/-- The pipeline's configuration at the table. -/
abbrev cfgT : Cfg sig Λ₀ := Pipeline.pin (pcfgs (F := F)) (adm tb) 0

/-- A window's array before the region. -/
abbrev arr0 (w : Fin 6) : Buf (Elt F) (((cfgT (F := F) tb).win w).arr.view.loc (c : Thread nD τ)) := W c (Proc.devRef .tc (Pipeline.arrRef spec1 w))

/-- The part of a window's array that is its block at a point. -/
abbrev blkOf (w : Fin 6) (t : Fin (cfgT (F := F) tb).N) : (((cfgT (F := F) tb).win w).xblock ((cfgT (F := F) tb).grid.coords t)).Idx → Elt F ((cfgT (F := F) tb).win w).elt :=
  (((cfgT (F := F) tb).win w).blk t).view.read (Elt F) (arr0 tb W c w)

theorem word_ok (tb : S57.Idx → BitVec 32) (htb : TableOK tb) (i : grid1.Coords) : k1_chk1 (word (F := F) i tb) := htb _

/-- One point's effect on the scratch buffers. -/
def point (t : Fin (cfgT (F := F) tb).N) (σ : St F) : St F :=
  closing (grid1.coords t) (block (blkOf tb W c 0 t) (blkOf tb W c 1 t) (word (F := F) (grid1.coords t) tb) (word_ok (F := F) tb htb (grid1.coords t))
    (opening (grid1.coords t) (blkOf tb W c 2 t) (blkOf tb W c 3 t) (blkOf tb W c 4 t) σ))

/-- The scratch buffers before the point `n`, from zeros before the first. -/
def traj : ℕ → St F
  | 0 => ⟨fun _ => Scalar.ofBits .f32 0#32, fun _ => Scalar.ofBits .f32 0#32, fun _ => Scalar.ofBits .f32 0#32, fun _ => Scalar.ofBits .f32 0#32,
      fun _ => Scalar.ofBits .f32 0#32, fun _ => Scalar.ofBits .f32 0#32⟩
  | n + 1 => if h : n < (cfgT (F := F) tb).N then point tb htb W c ⟨n, h⟩ (traj n) else traj n

theorem traj_succ (t : Fin (cfgT (F := F) tb).N) : traj tb htb W c (t.val + 1) = point tb htb W c t (traj tb htb W c t.val) := by
  rw [traj, dif_pos t.isLt]

theorem start_init (wih : S512x256.Idx → F .f32) (whh : S512x128.Idx → F .f32) (bias : S1x512.Idx → F .f32) (σ σ' : St F) :
    start wih whh bias (init σ) = start wih whh bias (init σ') := rfl

/-- The first point forgets what the scratch buffers held. -/
theorem point_first (t : Fin (cfgT (F := F) tb).N) (ht : t.val = 0) (σ σ' : St F) : point tb htb W c t σ = point tb htb W c t σ' := by
  have hN : (cfgT (F := F) tb).N = 228 := N_1
  obtain rfl : t = ⟨0, by rw [hN]; decide⟩ := Fin.ext ht
  unfold point opening
  have h1 : condFirst (grid1.coords ⟨0, by rw [N_1]; decide⟩) = 1#1 := by decide
  have h2 : condStart (grid1.coords ⟨0, by rw [N_1]; decide⟩) = 1#1 := by decide
  rw [if_pos h2, if_pos h1, if_pos h2, if_pos h1, start_init _ _ _ σ σ']

/-- The six scratch buffers held at their values. -/
def Scr (σ : St F) : sProp 𝕄 :=
  iprop(ownsTc c (Memref.whole cc1_scratch0) fullShare (Val := Elt F) σ.qs ∗ ownsTc c (Memref.whole cc1_scratch1) fullShare (Val := Elt F) σ.hp
    ∗ ownsTc c (Memref.whole cc1_scratch2) fullShare (Val := Elt F) σ.c ∗ ownsTc c (Memref.whole cc1_scratch3) fullShare (Val := Elt F) σ.m
    ∗ ownsTc c (Memref.whole cc1_scratch4) fullShare (Val := Elt F) σ.d ∗ ownsTc c (Memref.whole cc1_scratch5) fullShare (Val := Elt F) σ.s)

/-- What the region's invariant holds before the point `n`: the scratch buffers at the values of the points before (at any
    before the first), and the table. -/
def Inv (n : ℕ) : sProp 𝕄 :=
  iprop((∃ σ : St F, ⌜n ≠ 0 → σ = traj tb htb W c n⌝ ∗ Scr c σ) ∗ ownsTc c (Memref.whole main_v67) fullShare (Val := Elt F) tb)

/-- The region's proof data: the arrays as found, every input's block left in place, the output's block the query with the
    readout. Nothing is owed, and the waits recorded stay at the first eight levels. -/
def dat : Dat τ (Elt F) (HIx 1) ℕ UU ℕ (cfgT (F := F) tb) c where
  A w := arr0 tb W c w
  after w t := match w with
    | ⟨0, _⟩ => blkOf tb W c 0 t
    | ⟨1, _⟩ => blkOf tb W c 1 t
    | ⟨2, _⟩ => blkOf tb W c 2 t
    | ⟨3, _⟩ => blkOf tb W c 3 t
    | ⟨4, _⟩ => blkOf tb W c 4 t
    | ⟨5, _⟩ => (traj tb htb W c (t.val + 1)).qs
  Φ t := Inv tb htb W c t.val
  q _ := fullShare
  owed _ := 0
  recorded _ := {p | (sc (F := F)).lev ((c : Thread nD τ), p.1) p.2 ≤ 8}

theorem before0 (t : Fin (cfgT (F := F) tb).N) (d) : (dat tb htb W c).before 0 t d = blkOf tb W c 0 t :=
  (Dat.before_in_eq_fetched (dat tb htb W c) 0 rfl (fun _ => rfl) (fun _ _ _ => rfl) (fun t => rfl) t d).trans rfl
theorem before1 (t : Fin (cfgT (F := F) tb).N) (d) : (dat tb htb W c).before 1 t d = blkOf tb W c 1 t :=
  (Dat.before_in_eq_fetched (dat tb htb W c) 1 rfl (fun _ => rfl) (fun _ _ _ => rfl) (fun t => rfl) t d).trans rfl
theorem before2 (t : Fin (cfgT (F := F) tb).N) (d) : (dat tb htb W c).before 2 t d = blkOf tb W c 2 t :=
  (Dat.before_in_eq_fetched (dat tb htb W c) 2 rfl (fun _ => rfl) (fun _ _ _ => rfl) (fun t => rfl) t d).trans rfl
theorem before3 (t : Fin (cfgT (F := F) tb).N) (d) : (dat tb htb W c).before 3 t d = blkOf tb W c 3 t :=
  (Dat.before_in_eq_fetched (dat tb htb W c) 3 rfl (fun _ => rfl) (fun _ _ _ => rfl) (fun t => rfl) t d).trans rfl
theorem before4 (t : Fin (cfgT (F := F) tb).N) (d) : (dat tb htb W c).before 4 t d = blkOf tb W c 4 t :=
  (Dat.before_in_eq_fetched (dat tb htb W c) 4 rfl (fun _ => rfl) (fun _ _ _ => rfl) (fun t => rfl) t d).trans rfl

/-- A point that does not store the result does not write it back: only the last point does. -/
theorem flush_live (t : Fin (cfgT (F := F) tb).N) (hf : ((cfgT (F := F) tb).win 5).flush t = true) : k1_cond4 (grid1.coords t) = 1#1 := by
  have hN : (cfgT (F := F) tb).N = 228 := N_1
  unfold Window.flush at hf
  rw [Bool.and_eq_true, Bool.or_eq_true, decide_eq_true_eq, decide_eq_true_eq] at hf
  rcases hf.2 with h | ⟨h, hne⟩
  · have ht : t.val = 227 := by have h' : t.val + 1 = 228 := h.trans hN; omega
    obtain rfl : t = ⟨227, by rw [hN]; decide⟩ := Fin.ext ht
    have h4 : k1_cond4 (grid1.coords (⟨227, by rw [N_1]; decide⟩ : Fin grid1.N)) = 1#1 := by decide
    exact h4
  · exact absurd rfl hne

/-- The effect of a point on the values of the points before, whatever the scratch buffers hold before the first. -/
theorem point_traj (t : Fin (cfgT (F := F) tb).N) (σ : St F) (hσ : t.val ≠ 0 → σ = traj tb htb W c t.val) :
    point tb htb W c t σ = traj tb htb W c (t.val + 1) := by
  rw [traj_succ]
  by_cases h0 : t.val = 0
  · exact point_first tb htb W c t h0 _ _
  · rw [hσ h0]

/-- The body at a point: its buffers at their blocks, the scratch buffers taken one point on. -/
theorem body_at (t : Fin (cfgT (F := F) tb).N) (s0 : Fin 2) (s1 : Fin 2) (s2 s3 s4 s5 : Fin 1) (o : S512x256.Idx → F .f32) (σ : St F)
    (hσ : t.val ≠ 0 → σ = traj tb htb W c t.val) :
    Held (F := F) c (Memref.whole main_v67) (stage1_0 s0) (stage1_1 s1) (stage1_2 s2) (stage1_3 s3) (stage1_4 s4) (stage1_5 s5)
      (Memref.whole cc1_scratch0) (Memref.whole cc1_scratch1) (Memref.whole cc1_scratch2) (Memref.whole cc1_scratch3) (Memref.whole cc1_scratch4) (Memref.whole cc1_scratch5)
      tb (blkOf tb W c 0 t) (blkOf tb W c 1 t) (blkOf tb W c 2 t) (blkOf tb W c 3 t) (blkOf tb W c 4 t) o σ
    ⊢ wp frame (wpE (defs₀ (F := F)) Variants.none (c : Thread nD τ) none) Set.univ
      (cc1__tc_body (F := F) (grid1.coords t) (Memref.whole main_v67) (Memref.isWhole_whole _) (stage1_0 s0) (hstage1_0 s0) (stage1_1 s1) (hstage1_1 s1)
        (stage1_2 s2) (hstage1_2 s2) (stage1_3 s3) (hstage1_3 s3) (stage1_4 s4) (hstage1_4 s4) (stage1_5 s5) (hstage1_5 s5)
        (Memref.whole cc1_scratch0) (Memref.isWhole_whole _) (Memref.whole cc1_scratch1) (Memref.isWhole_whole _)
        (Memref.whole cc1_scratch2) (Memref.isWhole_whole _) (Memref.whole cc1_scratch3) (Memref.isWhole_whole _)
        (Memref.whole cc1_scratch4) (Memref.isWhole_whole _) (Memref.whole cc1_scratch5) (Memref.isWhole_whole _))
      fun _ => Held (F := F) c (Memref.whole main_v67) (stage1_0 s0) (stage1_1 s1) (stage1_2 s2) (stage1_3 s3) (stage1_4 s4) (stage1_5 s5)
        (Memref.whole cc1_scratch0) (Memref.whole cc1_scratch1) (Memref.whole cc1_scratch2) (Memref.whole cc1_scratch3) (Memref.whole cc1_scratch4) (Memref.whole cc1_scratch5)
        tb (blkOf tb W c 0 t) (blkOf tb W c 1 t) (blkOf tb W c 2 t) (blkOf tb W c 3 t) (blkOf tb W c 4 t)
        (if k1_cond4 (grid1.coords t) = 1#1 then (traj tb htb W c (t.val + 1)).qs else o) (traj tb htb W c (t.val + 1)) := by
  rw [← point_traj tb htb W c t σ hσ]
  exact body_wp (F := F) c (grid1.coords t) _ _ _ _ _ _ _ _ _ _ _ _ _ _ _ _ _ _ _ _ _ _ _ _ _ _ _ _ _ _ _ _ _ _ (word_ok (F := F) tb htb (grid1.coords t))

theorem Phi_eq (n : Fin ((cfgT (F := F) tb).N + 1)) : (dat tb htb W c).Φ n = Inv tb htb W c n.val := rfl

/-- The result's block after a point: stored at the last point, else as it was found. -/
theorem out_after (t : Fin (cfgT (F := F) tb).N) (d5 : S512x256.Idx → F .f32) :
    ownsTc c (spec1_5.stage ((cfgT (F := F) tb).slots t 5)) fullShare (Val := Elt F)
      (if k1_cond4 (grid1.coords t) = 1#1 then (traj tb htb W c (t.val + 1)).qs else (dat tb htb W c).before 5 t d5)
    ⊢ ((match (cfgT (F := F) tb).idle 5 ((cfgT (F := F) tb).grid.coords t) with
        | true =>
          match ((cfgT (F := F) tb).win 5).flush t with
          | false => iprop(∃ d, owns (c : Thread nD τ) (((cfgT (F := F) tb).win 5).stage ((cfgT (F := F) tb).slots t 5)) fullShare ((dat tb htb W c).before 5 t d))
          | true => owns (c : Thread nD τ) (((cfgT (F := F) tb).win 5).stage ((cfgT (F := F) tb).slots t 5)) fullShare ((dat tb htb W c).after 5 t)
        | false => owns (c : Thread nD τ) (((cfgT (F := F) tb).win 5).stage ((cfgT (F := F) tb).slots t 5)) fullShare ((dat tb htb W c).after 5 t)) : sProp 𝕄) := by
  by_cases h4 : k1_cond4 (grid1.coords t) = 1#1
  · have hid : (cfgT (F := F) tb).idle 5 ((cfgT (F := F) tb).grid.coords t) = false := by
      show (!(k1_cond4 (grid1.coords t) == 1#1)) = false
      rw [h4]; rfl
    rw [hid]
    refine (BIBase.Entails.of_eq (congrArg (fun X => (ownsTc c (spec1_5.stage ((cfgT (F := F) tb).slots t 5)) fullShare (Val := Elt F) X : sProp 𝕄)) (if_pos h4))).trans ?_
    exact BIBase.Entails.rfl
  · have hid : (cfgT (F := F) tb).idle 5 ((cfgT (F := F) tb).grid.coords t) = true := by
      show (!(k1_cond4 (grid1.coords t) == 1#1)) = true
      rw [Bool.not_eq_true', beq_eq_false_iff_ne]; exact h4
    have hfl : ((cfgT (F := F) tb).win 5).flush t = false := by
      cases h : ((cfgT (F := F) tb).win 5).flush t
      · rfl
      · exact absurd (flush_live tb t h) h4
    rw [hid, hfl]
    refine (BIBase.Entails.of_eq (congrArg (fun X => (ownsTc c (spec1_5.stage ((cfgT (F := F) tb).slots t 5)) fullShare (Val := Elt F) X : sProp 𝕄)) (if_neg h4))).trans ?_
    iintro H
    iexists d5
    iexact H

set_option maxHeartbeats 1000000 in
/-- The body at a point, from the invariant and the windows' buffers. -/
theorem body_obligation : BodyObligation (dat tb htb W c) (defs₀ (F := F)) Variants.none none Set.univ := fun t => by
  rw [bigSep_W1, bigSep_W1]
  iintro ⟨HΦ, Howes, ⟨%d0, H0⟩, ⟨%d1, H1⟩, ⟨%d2, H2⟩, ⟨%d3, H3⟩, ⟨%d4, H4⟩, ⟨%d5, H5⟩⟩
  --A
  rw [before0 tb htb W c t d0, before1 tb htb W c t d1, before2 tb htb W c t d2, before3 tb htb W c t d3, before4 tb htb W c t d4]
  --B
  simp only [Phi_eq, Fin.val_castSucc, Fin.val_succ]
  --C
  unfold Inv Scr
  icases HΦ with ⟨⟨%σ, %hσ, Hqs, Hhp, Hc, Hm, Hd, Hs⟩, Htb⟩
  --D
  have hb := body_at tb htb W c t ((cfgT (F := F) tb).slots t 0) ((cfgT (F := F) tb).slots t 1) ((cfgT (F := F) tb).slots t 2)
    ((cfgT (F := F) tb).slots t 3) ((cfgT (F := F) tb).slots t 4) ((cfgT (F := F) tb).slots t 5) ((dat tb htb W c).before 5 t d5) σ hσ
  --E
  iapply (wp_wand_r _ _ _)
  isplitl [Htb H0 H1 H2 H3 H4 H5 Hqs Hhp Hc Hm Hd Hs]
  · iapply hb
    --F
    unfold Held
    isplitl [Htb]; (· iexact Htb)
    isplitl [H0]; (· iexact H0)
    isplitl [H1]; (· iexact H1)
    isplitl [H2]; (· iexact H2)
    isplitl [H3]; (· iexact H3)
    isplitl [H4]; (· iexact H4)
    isplitl [H5]; (· iexact H5)
    isplitl [Hqs]; (· iexact Hqs)
    isplitl [Hhp]; (· iexact Hhp)
    isplitl [Hc]; (· iexact Hc)
    isplitl [Hm]; (· iexact Hm)
    isplitl [Hd]; (· iexact Hd)
    iexact Hs
  --G
  unfold Held
  iintro %_ ⟨Htb, H0, H1, H2, H3, H4, H5, Hqs, Hhp, Hc, Hm, Hd, Hs⟩
  --H
  isplitl [Htb Hqs Hhp Hc Hm Hd Hs]
  · isplitr [Htb]; swap; (· iexact Htb)
    iexists traj tb htb W c (t.val + 1)
    isplitr; · ipureintro; exact fun _ => rfl
    isplitl [Hqs]; (· iexact Hqs)
    isplitl [Hhp]; (· iexact Hhp)
    isplitl [Hc]; (· iexact Hc)
    isplitl [Hm]; (· iexact Hm)
    isplitl [Hd]; (· iexact Hd)
    iexact Hs
  isplitl [Howes]; (· iexact Howes)
  isplitl [H0]; (· iexact H0)
  isplitl [H1]; (· iexact H1)
  isplitl [H2]; (· iexact H2)
  isplitl [H3]; (· iexact H3)
  isplitl [H4]; (· iexact H4)
  exact out_after tb htb W c t d5

end Points

section Region

variable (tb : S57.Idx → BitVec 32) (htb : TableOK tb) (W : (c : Dev nD) → Valuation τ sig (Elt F))

/-- The proof data of the program's one TensorCore call. -/
def pdats : (p : Fin 1) → (c : Dev nD) → Dat τ (Elt F) (HIx 1) ℕ UU ℕ (Pipeline.pin (pcfgs (F := F)) (adm tb) p) c
  | ⟨0, _⟩ => fun c => dat tb htb W c

theorem Phi_first (c : Dev nD) :
    iprop(Pipeline.prefHeld pre1 c (fun _ => fullShare) (adm (F := F) tb 0).1 ∗ Pipeline.scopedRest (Ix := HIx 1) (Name := ℕ) (U := UU) (Lvl := ℕ) (Val := Elt F) spec1 c)
      ⊢ (dat tb htb W c).Φ 0 := by
  rw [Phi_eq, scopedRest1_eq]
  unfold Inv Scr Pipeline.prefHeld
  rw [show (Finset.univ : Finset (Fin pre1.K)) = {0} from rfl, BI.bigSep_singleton]
  iintro ⟨Htb, ⟨%f0, H0⟩, ⟨%f1, H1⟩, ⟨%f2, H2⟩, ⟨%f3, H3⟩, ⟨%f4, H4⟩, ⟨%f5, H5⟩⟩
  isplitr [Htb]
  · iexists ⟨f0, f1, f2, f3, f4, f5⟩
    isplitr; · ipureintro; exact fun h => absurd rfl h
    unfold ownsTc
    rw [owns_whole, owns_whole, owns_whole, owns_whole, owns_whole, owns_whole]
    isplitl [H0]; (· iexact H0)
    isplitl [H1]; (· iexact H1)
    isplitl [H2]; (· iexact H2)
    isplitl [H3]; (· iexact H3)
    isplitl [H4]; (· iexact H4)
    iexact H5
  unfold ownsTc
  rw [owns_whole]
  iexact Htb

theorem Phi_last (c : Dev nD) :
    (dat tb htb W c).Φ (Fin.last (cfgT (F := F) tb).N)
      ⊢ iprop(Pipeline.prefHeld pre1 c (fun _ => fullShare) (adm (F := F) tb 0).1 ∗ Pipeline.scopedRest (Ix := HIx 1) (Name := ℕ) (U := UU) (Lvl := ℕ) (Val := Elt F) spec1 c) := by
  rw [Phi_eq, scopedRest1_eq]
  unfold Inv Scr Pipeline.prefHeld
  rw [show (Finset.univ : Finset (Fin pre1.K)) = {0} from rfl, BI.bigSep_singleton]
  unfold ownsTc
  simp only [owns_whole]
  iintro ⟨⟨%σ, -, H0, H1, H2, H3, H4, H5⟩, Htb⟩
  isplitl [Htb]; (· iexact Htb)
  isplitl [H0]; (· iexists σ.qs; iexact H0)
  isplitl [H1]; (· iexists σ.hp; iexact H1)
  isplitl [H2]; (· iexists σ.c; iexact H2)
  isplitl [H3]; (· iexists σ.m; iexact H3)
  isplitl [H4]; (· iexists σ.d; iexact H4)
  iexists σ.s; iexact H5

/-- The valuation after the call: the result's array as the write-backs leave it. -/
abbrev W' (c : Dev nD) : Valuation τ sig (Elt F) := Pipeline.afterRegion (dat tb htb W c) (W c)

/-- The waits recorded on a thread are at most at the first eight levels. -/
abbrev owesLow (c : Dev nD) : sProp 𝕄 :=
  iprop(∃ Wd, ⌜(sc (F := F)).WBelow (c : Thread nD τ) Wd 8⌝ ∗ owes (c : Thread nD τ) (0 : CellTallies nD τ sig (HIx 1)) Wd)

theorem arrs_sub : Pipeline.arrRefs (τ := τ) spec1 ⊆ Pipeline.ucRefs τ sig := Pipeline.arrRefs_sub_ucRefs spec1 (by decide)
theorem tbls_sub : Pipeline.tblRefs (τ := τ) pre1 ⊆ Pipeline.ucRefs τ sig := Pipeline.tblRefs_sub_ucRefs pre1 (by decide)

/-- The TensorCore call as a region of the program: entered with every buffer outside the scopes at `W`, left with them at `W'`. -/
def reg (L : GSem nD τ sig → Finset (HIx 1)) (lv : GSem nD τ sig → HIx 1 → ℕ)
    (hT : ∀ c, tb = W c (Proc.devRef .tc main_v67)) :
    Pipeline.RegionSeg (pcfgs (F := F)) (adm tb) (pdats tb htb W) none defs₀ Variants.none L lv 0 where
  win := (launch1 (F := F)).win.to₀
  block_pos := (launch1 (F := F)).block_pos
  stage_whole := (launch1 (F := F)).stage_whole
  K := PEmpty
  osem k := k.elim
  ho := Pipeline.OwnSemFacts.none _
  hbody c := (body_obligation tb htb W c).loose
  hwaits := Pipeline.hwaits_of_owed_zero _ _ _ _ L lv 0 fun _ _ => rfl
  pre c := iprop(StableHlo.held (c.tc : Thread nD τ) (Pipeline.ucRefs τ sig) (W c) ∗ owesLow c)
  post c := iprop(StableHlo.held (c.tc : Thread nD τ) (Pipeline.ucRefs τ sig) (W' tb htb W c) ∗ owesLow c)
  X _ := BI.emp
  Y c := Pipeline.prefHeld pre1 c (fun _ => fullShare) (adm (F := F) tb 0).1
  Z c := StableHlo.held (c.tc : Thread nD τ) ((Pipeline.ucRefs τ sig \ Pipeline.arrRefs spec1) \ Pipeline.tblRefs pre1) (W c)
  hentry c := by
    have hsh : ∀ w, (pdats tb htb W 0 c).share w = fullShare := (pdats tb htb W 0 c).share_full fun _ => rfl
    rw [Pipeline.ownSems0_none,
      StableHlo.held_sub_split (c.tc : Thread nD τ) arrs_sub (W c),
      StableHlo.held_sub_split (c.tc : Thread nD τ) (Pipeline.tblRefs_sub_sdiff spec1 pre1 preFacts1.disj tbls_sub) (W c),
      ← Pipeline.prefHeld_held pre1 preFacts1.inj c (adm (F := F) tb 0).1 (W c) (fun k => match k with | 0 => hT c),
      ← Pipeline.arrays_held (pcfgs (F := F)) (adm tb) (pdats tb htb W) 0 launch1 c hsh ((pdats tb htb W 0 c).arrAt · 0) (W c) (fun w => rfl)]
    iintro ⟨⟨⟨Ha, Ht, Hu⟩, HO⟩, -, -⟩
    imodintro
    isplitl [Ha]; · iexact Ha
    isplitl [Ht]; · iexact Ht
    isplitl [HO]
    · icases HO with ⟨%Wd, %hWd, HO⟩
      iexists Wd; isplitr; · ipureintro; exact fun p hp => Or.inl (hWd p hp)
      iexact HO
    isplitr; · iempintro
    iexact Hu
  hin c := by
    refine BIBase.Entails.trans ?_ (Phi_first tb htb W c)
    iintro ⟨-, H⟩
    iexact H
  hout c := by
    refine (Phi_last tb htb W c).trans ?_
    rw [Pipeline.ownSems0_none]
    iintro ⟨H, Hr⟩
    isplitl [H]; · iexact H
    isplitr; · iempintro
    iexact Hr
  hexit c := by
    have hsh : ∀ w, (pdats tb htb W 0 c).share w = fullShare := (pdats tb htb W 0 c).share_full fun _ => rfl
    rw [StableHlo.held_sub_split (c.tc : Thread nD τ) arrs_sub (W' tb htb W c),
      StableHlo.held_sub_split (c.tc : Thread nD τ) (Pipeline.tblRefs_sub_sdiff spec1 pre1 preFacts1.disj tbls_sub) (W' tb htb W c),
      ← Pipeline.prefHeld_held pre1 preFacts1.inj c (adm (F := F) tb 0).1 (W' tb htb W c)
        (fun k => match k with | 0 => (hT c).trans (Pipeline.afterRegion_of_not_arr (pdats tb htb W 0 c) (W c) (preFacts1.disj 0)).symm),
      ← Pipeline.arrays_held (pcfgs (F := F)) (adm tb) (pdats tb htb W) 0 launch1 c hsh ((pdats tb htb W 0 c).arrAt · (cfgT (F := F) tb).N) (W' tb htb W c)
        (fun w => (Pipeline.afterRegion_arr (pdats tb htb W 0 c) (W c) (launch1 (F := F)).win.arr_inj w).symm),
      StableHlo.held_congr (c.tc : Thread nD τ) (S := (Pipeline.ucRefs τ sig \ Pipeline.arrRefs spec1) \ Pipeline.tblRefs pre1) (V := W' tb htb W c) (V' := W c)
        (fun b hb => Pipeline.afterRegion_off (pdats tb htb W 0 c) (W c) (Pipeline.ucRefs τ sig) b (Finset.mem_sdiff.mp hb).1)]
    iintro ⟨Ha, HO, Ht, Hu⟩
    imodintro
    isplitl [Ha Ht Hu]
    · isplitl [Ha]; · iexact Ha
      isplitl [Ht]; · iexact Ht
      iexact Hu
    icases HO with ⟨%Wd, %hWd, HO⟩
    iexists Wd; isplitr; swap; (· iexact HO)
    ipureintro
    intro p hp
    rcases hWd hp with h | ⟨w, s, rfl⟩
    · exact h
    · exact Nat.zero_le _

end Region

end Cert.Proof.Tc
-- ==== Proof.Ranges.lean ====
/-
  What holds of the host's tables whatever the segment numbers are: every row number is a row of `x`, and every window
  starts inside the 592 rows.
-/
module

public import proofs.«01_k».proof.Proof.Host
public import proofs.«01_k».proof.Proof.Region
public import Idealize.ShloMosaic.Lib.IndicatorCount
public import Idealize.ShloMosaic.Lib.WordArith
public import Idealize.ShloMosaic.PureOps.Reduce

@[expose] public section

set_option maxRecDepth 65536

noncomputable section

namespace Cert.Proof.Host

open Cert.KernelIdeal Cert.KernelIdeal.Gen
open Idealize.ShloMosaic Idealize.ShloMosaic.TcCoe Idealize.SL.Sem Idealize.ShloMosaic.StableHlo

/-- A word clipped to `[0, 99999]` is below 100000. -/
theorem clip_lt (v : BitVec 32) : (IntOp.minsi 99999#32 (IntOp.maxsi 0#32 v)).toNat < 100000 := by
  have h : 2 * (IntOp.maxsi 0#32 v).toNat < 2 ^ 32 := WordArith.two_mul_toNat_maxsi_zero_lt v
  generalize IntOp.maxsi 0#32 v = w at h ⊢
  have e : w.toInt = w.toNat := by rw [BitVec.toInt_eq_toNat_cond]; split <;> omega
  by_cases hc : (99999#32).slt w = true
  · rw [show IntOp.minsi 99999#32 w = 99999#32 from if_pos hc]; decide
  · rw [show IntOp.minsi 99999#32 w = w from if_neg hc]
    rw [BitVec.slt_eq_decide, decide_eq_true_eq, e] at hc
    have : (99999#32).toInt = 99999 := by decide
    omega

/-- Every padded row reads a row of `x`. -/
theorem bSrc_ap (b : IVec S100000 32) (i : S116736.Idx) :
    bSrc b i = IntOp.minsi 99999#32 (IntOp.maxsi 0#32 (select (bReal b) (moved (bShift b)) wrapped i)) := by
  unfold bSrc src minsi maxsi broadcastInDim constantI
  rfl
theorem bSrc_lt (b : IVec S100000 32) (i : S116736.Idx) : (bSrc b i).toNat < 100000 := by
  rw [bSrc_ap]; exact clip_lt _

theorem bLists_ok (b : IVec S100000 32) (j : S32x38x96.Idx) : (bLists b j).toNat < 100000 := by
  unfold bLists shapeCast
  exact bSrc_lt b _

/-- The sum of a table of bits along one axis is the number of ones. -/
theorem count_ap {s t u : Shape} {a : Fin s.rank} (p : s.Idx → BitVec 1) (init : u.Idx → BitVec 32) (h' : s.ReducesTo [a] t) (h : s.Reduces [a] t)
    (hu : 0 < u.numel) (h0 : init (Shape.Idx.first hu) = 0#32) (j : t.Idx) :
    Host.reduce IntOp.addi (extui 32 p) init h' hu j = BitVec.ofNat 32 (Finset.univ.filter fun k : Fin (s.size a) => p (h.lift j k) = 1#1).card := by
  rw [Host.reduce_eq_fold_single _ _ _ h' h hu j, h0]
  exact IndicatorCount.fold_addi_setWidth_eq_card (fun k => p (h.lift j k)) Finset.univ

theorem seg_red : S512x3648.Reduces [0] S3648 := by decide

theorem bSeg_lt (b : IVec S100000 32) (j : S3648.Idx) : (bSeg b j).toNat ≤ 512 := by
  show (pageSeg (bPstart b) j).toNat ≤ 512
  unfold pageSeg ended
  rw [count_ap _ _ _ seg_red _ rfl]
  have := (Finset.univ.filter fun k : Fin (S512x3648.size 0) => (cmpi .sle (broadcastInDim S512x3648 ![0, 1] bcast_S512x1_S512x3648_0_1 (broadcastInDim S512x1 ![0] bcast_S512_S512x1_0 (extractStridedSlice S512 ![1] (bPstart b) slices_S513_S512_1))) (broadcastInDim S512x3648 ![0, 1] bcast_S1x3648_S512x3648_0_1 (broadcastInDim S1x3648 ![1] bcast_S3648_S1x3648_1 cpos))) (seg_red.lift j k) = 1#1).card_le_univ
  rw [BitVec.toNat_ofNat]
  refine (Nat.mod_le _ _).trans (this.trans ?_)
  rw [Fintype.card_fin]; decide

theorem bBases_lt (b : IVec S100000 32) (j : S57.Idx) : (bBases b j).toNat < 512 := by
  have h : ∀ v : BitVec 32, v.toNat ≤ 512 → (IntOp.minsi v 511#32).toNat < 512 := fun v hv => by
    rw [WordArith.toNat_minsi_of_lt v _ (by omega) (by decide)]; simp
  unfold bBases bases minsi Host.slice broadcastInDim constantI
  exact h _ (bSeg_lt b _)

theorem chk_all : ∀ v : Fin 512, k1_chk1 (BitVec.ofNat 32 v.val) := by decide +kernel

/-- Every block's window starts inside the 592 rows. -/
theorem bBases_ok (b : IVec S100000 32) : Tc.TableOK (bBases b) := fun j => by
  have key : ∀ v : BitVec 32, v.toNat < 512 → k1_chk1 v := fun v hv => by
    have h := chk_all ⟨v.toNat, hv⟩
    rwa [BitVec.ofNat_toNat, BitVec.setWidth_eq] at h
  exact key _ (bBases_lt b j)

end Cert.Proof.Host

end
-- ==== Proof.HostRun.lean ====
/-
  @main as stretches of host operations around its two kernel calls.
-/
module

public import proofs.«01_k».proof.Proof.Host
import all proofs.«01_k».proof.KernelIdeal

@[expose] public section

set_option Elab.async false

noncomputable section

namespace Cert.Proof.Host

open Cert.KernelIdeal Cert.KernelIdeal.Gen
open Idealize.ShloMosaic Idealize.ShloMosaic.TcCoe Idealize.SL.Sem Idealize.ShloMosaic.StableHlo

variable {F : FTy → Type} [FloatOps F]

/-- Lines of operations one after the other, the last in tail position, are one line. -/
theorem chainK_seq (xs : List (List (HloOp τ sig (Elt F)))) (y : List (HloOp τ sig (Elt F))) :
    (Pipeline.chainK (xs.map seq) (seq y) : Prog (TpuEff nD τ sig (Elt F) (SparseCore.Sig (Pipeline.Sig Λ₀ (Fin 1) fun p => (pcfgs (F := F) p).Adm) 1) .tc) PUnit)
      = seq (xs.flatten ++ y) := by
  induction xs with
  | nil => rfl
  | cons x xs ih => simp only [List.map_cons, List.flatten_cons, List.append_assoc, seq_append, ← ih]; rfl

/-- Lines of operations one after the other, then something else. -/
theorem chainK_seq_then (xs : List (List (HloOp τ sig (Elt F))))
    (q : Prog (TpuEff nD τ sig (Elt F) (SparseCore.Sig (Pipeline.Sig Λ₀ (Fin 1) fun p => (pcfgs (F := F) p).Adm) 1) .tc) PUnit) :
    Pipeline.chainK (xs.map seq) q = (seq xs.flatten >>= fun _ => q) := by
  induction xs with
  | nil => simp only [List.map_nil, List.flatten_nil, seq, pure_bind]; rfl
  | cons x xs ih => simp only [List.map_cons, List.flatten_cons, seq_append, bind_assoc, ← ih]; rfl

theorem main_part0_chain (d : Dev nD) :
    main_part0 (F := F) d = Pipeline.chainK [seq (opsA), seq (opsB.take 7), seq ((opsB.drop 7).take 17), seq (opsB.drop 24), seq (opsC.take 2), seq ((opsC.drop 2).take 3), seq (opsC.drop 5), seq (opsD.take 12), seq ((opsD.drop 12).take 4), seq ((opsD.drop 16).take 4), seq ((opsD.drop 20).take 4)] (seq (opsD.drop 24)) := by
  chain_rfl
theorem main_part1_chain (d : Dev nD) :
    main_part1 (F := F) d = Pipeline.chainK [seq (opsG.take 11), seq (opsG.drop 11), seq (opsH.take 1), seq ((opsH.drop 1).take 2), seq ((opsH.drop 3).take 6), seq ((opsH.drop 9).take 4), seq ((opsH.drop 13).take 3), seq (opsH.drop 16)]
      ((sc (F := F)).run d 0 >>= fun _ => Pipeline.chain [seq opsZ, Prog.lift (.customCall (SparseCore.inner (Pipeline.entry 0)) ())]) := by
  chain_rfl

/-- @main's first window is the first stretch. -/
theorem main_part0_eq (d : Dev nD) : main_part0 (F := F) d = seq ops0 := by
  rw [main_part0_chain]
  exact (chainK_seq [opsA, opsB.take 7, (opsB.drop 7).take 17, opsB.drop 24, opsC.take 2, (opsC.drop 2).take 3, opsC.drop 5, opsD.take 12, (opsD.drop 12).take 4, (opsD.drop 16).take 4, (opsD.drop 20).take 4] (opsD.drop 24)).trans (congrArg seq (by chain_rfl))
/-- @main's second window is the second stretch, the SparseCore call, the last stretch and the TensorCore call. -/
theorem main_part1_eq (d : Dev nD) :
    main_part1 (F := F) d = (seq ops1 >>= fun _ => (sc (F := F)).run d 0 >>= fun _ =>
      Pipeline.chain [seq opsZ, Prog.lift (.customCall (SparseCore.inner (Pipeline.entry 0)) ())]) := by
  rw [main_part1_chain]
  refine (chainK_seq_then [opsG.take 11, opsG.drop 11, opsH.take 1, (opsH.drop 1).take 2, (opsH.drop 3).take 6, (opsH.drop 9).take 4, (opsH.drop 13).take 3, opsH.drop 16] _).trans ?_
  exact congrArg (fun l => seq l >>= _) (by chain_rfl)

end Cert.Proof.Host

end
-- ==== Proof.Run.lean ====
/-
  The whole program's run, for any float values: the host's tables, the SparseCore call, the TensorCore call. It ends with
  every argument unchanged, every semaphore counter at zero, and the result at what the region leaves.
-/
module

public import proofs.«01_k».proof.Proof.Ranges
public import proofs.«01_k».proof.Proof.HostRun
public import proofs.«01_k».proof.Proof.Sc

@[expose] public section

noncomputable section

namespace Cert.Proof.Run

open Cert.KernelIdeal Cert.KernelIdeal.Gen
open Cert.Proof.Sc (UH UP UU EH K D 𝒱₀ 𝒱 v₀ facts xLoc sLoc oLoc gathered P)
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The values at every stage -/

section Stages

variable (m : (ℓ : Loc nD τ sig) → Buf (Elt F) ℓ)

/-- The buffers at the launch. -/
def V0 (d : Dev nD) : Valuation τ sig (Elt F) := fun b => m (d, b)
/-- The buffers when the SparseCore call is made. -/
def V1 (d : Dev nD) : Valuation τ sig (Elt F) := Host.before (V0 m d)
/-- The table of rows. -/
def X (d : Dev nD) : Buf (Elt F) (xLoc d) := V1 m d (Proc.devRef .tc main_arg0)
/-- The row numbers. -/
def Sv (d : Dev nD) : Buf (Elt F) (sLoc d) := V1 m d (Proc.devRef .tc main_v68)
/-- The gathered rows' buffer before the call. -/
def O0 (d : Dev nD) : Buf (Elt F) (oLoc d) := V1 m d (Proc.devRef .tc main_v69)
/-- The buffers after the SparseCore call. -/
def V2 (d : Dev nD) : Valuation τ sig (Elt F) := Function.update (V1 m d) (Proc.devRef .tc main_v69) (gathered (X m d) (Sv m d))
/-- The buffers when the TensorCore call is made. -/
def V3 (d : Dev nD) : Valuation τ sig (Elt F) := StableHlo.after Host.opsZ (V2 m d)
/-- The table of the blocks' first segments. -/
def tb : S57.Idx → BitVec 32 := Host.bBases (Host.bOf (V0 m 0))

theorem tb_ok : Tc.TableOK (tb m) := Host.bBases_ok _

/-- The buffers at the end. -/
def V4 (d : Dev nD) : Valuation τ sig (Elt F) := Tc.W' (tb m) (tb_ok m) (V3 m) d

theorem V3_keep (d : Dev nD) (r : Ref sig .tc) (h : r ∉ Host.opsZ_W) (h' : r ≠ main_v69) : V3 m d (Proc.devRef .tc r) = V1 m d (Proc.devRef .tc r) := by
  unfold V3 V2
  rw [Host.afterZ_keep _ r h]
  exact Function.update_of_ne (fun e => h' (Proc.devRef_injective _ e)) _ _

theorem tb_eq (d : Dev nD) : tb m = V3 m d (Proc.devRef .tc main_v67) := by
  rw [V3_keep m d main_v67 (by decide) (by decide), show d = 0 from Subsingleton.elim _ _]
  exact (Host.before_v67 (V0 m 0)).symm

theorem rows_ok : Sc.RowsOK (Sv m) := fun d j => by
  unfold Sv V1
  rw [Host.before_v68]
  exact Host.bLists_ok _ j

end Stages

/-! ## The ghost state of the two calls -/

/-- The TensorCore call's staging cells live in the middle component. -/
def EP : Emb UP 𝕄 :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

variable (m : (ℓ : Loc nD τ sig) → Buf (Elt F) ℓ) (ρ : Dev nD → PrngReg)

/-- The pipeline at its table. -/
abbrev cfgs := Pipeline.pin (pcfgs (F := F)) (Tc.adm (tb m))

def u₀ : UU :=
  (initOf (K (F := F)).hsCells (K (F := F)).hsToks,
    (initOf (Pipeline.cells (nD := nD) (τ := τ) (cfgs m) (cellOf_inj (Tc.adm (tb m)))) (Pipeline.launchToks (nD := nD) (τ := τ) (cfgs m) (cellOf_inj (Tc.adm (tb m)))), 1))

/-- What the TensorCore of a device is dealt for its call. -/
abbrev G (d : Dev nD) : sProp 𝕄 := iprop(Pipeline.cellsGhost (cfgs m) EP 0 d ∗ Pipeline.toksInit (cfgs m) EP 0 d)

theorem split_u (a : UH) (b : UP) (c : Counters) : (ownU ((a, (b, c)) : UU) : sProp 𝕄) ⊢ iprop(BI.own (EH a) ∗ BI.own (EP (F := F) b)) := by
  iintro H
  ihave H := (ownU_pair a (b, c)) $$ H
  icases H with ⟨Ha, Hb⟩
  ihave Hb := (own_pair_emb (embR : Emb (UP × Counters) 𝕄) b c) $$ Hb
  icases Hb with ⟨Hb, -⟩
  isplitl [Ha]; · iexact Ha
  iexact Hb

theorem hu₀ : (ownU (u₀ m) : sProp 𝕄)
    ⊢ |={Set.univ}=> iprop(BI.own (EH (initOf (K (F := F)).hsCells (K (F := F)).hsToks)) ∗ (bigSep Finset.univ fun d : Dev nD => G m d)
        ∗ bigSep Finset.univ fun thr : Thread nD τ => bigSep Finset.univ fun q : Fin 1 => (P (X m) (Sv m) (O0 m)).x q thr) := by
  have hx : (bigSep Finset.univ fun thr : Thread nD τ => bigSep Finset.univ fun q : Fin 1 => (P (X m) (Sv m) (O0 m)).x q thr)
      = (iprop(emp) : sProp 𝕄) :=
    (bigSep_congr fun _ _ => bigSep_univ_of_subsingleton (0 : Fin 1)).trans (bigSep_emp_const _)
  have hG : (bigSep Finset.univ fun d : Dev nD => G m d)
      = iprop((bigSep Finset.univ fun c : Dev nD => bigSep Finset.univ fun p => Pipeline.cellsGhost (cfgs m) EP p c)
          ∗ (bigSep Finset.univ fun c : Dev nD => bigSep Finset.univ fun p => (Pipeline.toksInit (cfgs m) EP p c : sProp 𝕄))) := by
    rw [bigSep_sep']
    exact congr_arg₂ _ (bigSep_congr fun c _ => (bigSep_univ_of_subsingleton (Φ := fun p : Fin 1 => (Pipeline.cellsGhost (cfgs m) EP p c : sProp 𝕄)) (0 : Fin 1)).symm)
      (bigSep_congr fun c _ => (bigSep_univ_of_subsingleton (Φ := fun p : Fin 1 => (Pipeline.toksInit (cfgs m) EP p c : sProp 𝕄)) (0 : Fin 1)).symm)
  rw [hx, hG]
  unfold u₀
  iintro Hu
  ihave H := (split_u (F := F) _ _ _) $$ Hu
  icases H with ⟨HH, HP⟩
  imod (Pipeline.fund_ghost (cfgs m) EP (cellOf_inj (Tc.adm (tb m)))) $$ HP with HG
  imodintro
  isplitl [HH]; · iexact HH
  isplitl [HG]; · iexact HG
  iempintro

/-! ## @main on the TensorCore -/

/-- The three buffers of the SparseCore call. -/
def scRefs : Finset (DevRef τ sig) := {Proc.devRef .tc main_arg0, Proc.devRef .tc main_v68, Proc.devRef .tc main_v69}
theorem scRefs_sub : scRefs ⊆ Pipeline.ucRefs τ sig := by decide

theorem held_three (d : Dev nD) (V : Valuation τ sig (Elt F)) :
    (StableHlo.held (d.tc : Thread nD τ) scRefs V : sProp 𝕄)
      = iprop((xLoc d ↦{fullShare} V (Proc.devRef .tc main_arg0)) ∗ (sLoc d ↦{fullShare} V (Proc.devRef .tc main_v68)) ∗ (oLoc d ↦{fullShare} V (Proc.devRef .tc main_v69))) := by
  unfold StableHlo.held scRefs
  rw [SparseCore.bigSep_insert' (by decide), SparseCore.bigSep_insert' (by decide), bigSep_singleton]

theorem V2_keep (d : Dev nD) (b : DevRef τ sig) (h : b ≠ Proc.devRef .tc main_v69) : V2 m d b = V1 m d b := Function.update_of_ne h _ _
theorem V2_out (d : Dev nD) : V2 m d (Proc.devRef .tc main_v69) = gathered (X m d) (Sv m d) := Function.update_self _ _ _

/-- The buffers held when the SparseCore call is made, the call's three apart. -/
theorem held_before (d : Dev nD) :
    (StableHlo.held (d.tc : Thread nD τ) (Pipeline.ucRefs τ sig) (V1 m d) : sProp 𝕄)
      = iprop(((xLoc d ↦{fullShare} X m d) ∗ (sLoc d ↦{fullShare} Sv m d) ∗ (oLoc d ↦{fullShare} O0 m d))
          ∗ StableHlo.held (d.tc : Thread nD τ) (Pipeline.ucRefs τ sig \ scRefs) (V1 m d)) := by
  rw [StableHlo.held_sub_split (d.tc : Thread nD τ) scRefs_sub, held_three]; rfl
/-- The buffers held when it has returned, the call's three apart. -/
theorem held_after (d : Dev nD) :
    (StableHlo.held (d.tc : Thread nD τ) (Pipeline.ucRefs τ sig) (V2 m d) : sProp 𝕄)
      = iprop(((xLoc d ↦{fullShare} X m d) ∗ (sLoc d ↦{fullShare} Sv m d) ∗ (oLoc d ↦{fullShare} gathered (X m d) (Sv m d)))
          ∗ StableHlo.held (d.tc : Thread nD τ) (Pipeline.ucRefs τ sig \ scRefs) (V1 m d)) := by
  have hr : (StableHlo.held (d.tc : Thread nD τ) (Pipeline.ucRefs τ sig \ scRefs) (V2 m d) : sProp 𝕄)
      = StableHlo.held (d.tc : Thread nD τ) (Pipeline.ucRefs τ sig \ scRefs) (V1 m d) :=
    StableHlo.held_congr _ fun b hb => V2_keep m d b fun e => by
      subst e
      exact (Finset.mem_sdiff.mp hb).2 (by decide)
  rw [StableHlo.held_sub_split (d.tc : Thread nD τ) scRefs_sub, held_three, hr, V2_out,
    V2_keep m d (Proc.devRef .tc main_arg0) (by decide), V2_keep m d (Proc.devRef .tc main_v68) (by decide)]
  rfl

abbrev FIN (d : Dev nD) : sProp 𝕄 := StableHlo.held (d.tc : Thread nD τ) (Pipeline.ucRefs τ sig) (V4 m d)

/-- What the TensorCore owes once the SparseCore call has returned: nothing. -/
theorem owes_out (d : Dev nD) :
    ((K (F := F)).tcSt EH d 1 : sProp 𝕄) ⊢ iprop(Tc.owesLow d ∗ (Tc.owesLow d -∗ (K (F := F)).tcSt EH d 1)) := by
  unfold SparseCore.Cfg.tcSt
  rw [(K (F := F)).Otc_end d (le_refl 1)]
  iintro ⟨HO, H⟩
  isplitl [HO]; · iexact HO
  iintro HO
  isplitl [HO]; · iexact HO
  iexact H

theorem region_lift : (Prog.lift (.customCall (SparseCore.inner (Pipeline.entry 0)) ()) :
      Prog (TpuEff nD τ sig (Elt F) (SparseCore.Sig (Pipeline.Sig Λ₀ (Fin 1) fun p => (pcfgs (F := F) p).Adm) 1) .tc) PUnit)
    = SparseCore.liftProg (.op (.customCall (Pipeline.entry 0) ()) fun _ => .ret ⟨⟩) := rfl

theorem reg_pre (d : Dev nD) : (Tc.reg (tb m) (tb_ok m) (V3 m) (K (F := F)).L (K (F := F)).lev (tb_eq m)).pre d
    = iprop(StableHlo.held (d.tc : Thread nD τ) (Pipeline.ucRefs τ sig) (V3 m d) ∗ Tc.owesLow d) := rfl
theorem reg_post (d : Dev nD) : (Tc.reg (tb m) (tb_ok m) (V3 m) (K (F := F)).L (K (F := F)).lev (tb_eq m)).post d
    = iprop(StableHlo.held (d.tc : Thread nD τ) (Pipeline.ucRefs τ sig) (V4 m d) ∗ Tc.owesLow d) := rfl

/-- The TensorCore call under the program's labels. -/
theorem region_wp (κ : GSem nD τ sig → ℕ) (d : Dev nD) (Q : PUnit → sProp 𝕄) :
    iprop((iprop(boundary (T d) ∗ StableHlo.held (d.tc : Thread nD τ) (Pipeline.ucRefs τ sig) (V4 m d) ∗ Tc.owesLow d) -∗ Q ⟨⟩)
        ∗ boundary (T d) ∗ (StableHlo.held (d.tc : Thread nD τ) (Pipeline.ucRefs τ sig) (V3 m d) ∗ Tc.owesLow d)
        ∗ levAts (K (F := F)).L (K (F := F)).lev ∗ G m d)
      ⊢ wp frame (wpE ((K (F := F)).defs (D (F := F))) 𝒱 (T d) none) Set.univ (Prog.lift (.customCall (SparseCore.inner (Pipeline.entry 0)) ())) Q := by
  rw [region_lift]
  refine BIBase.Entails.trans ?_ ((K (F := F)).wp_liftProg (D (F := F)) 𝒱 (T d) Set.univ none _ Q)
  have h := (Pipeline.RegionSeg.wp (pcfgs (F := F)) (Tc.adm (tb m)) (Tc.pdats (tb m) (tb_ok m) (V3 m)) none (cellOf_inj (Tc.adm (tb m))) EP defs₀ 𝒱₀
    (K (F := F)).L (K (F := F)).lev (Tc.reg (tb m) (tb_ok m) (V3 m) (K (F := F)).L (K (F := F)).lev (tb_eq m)) d none (fun u h => absurd h (Option.not_mem_none u)) (fun _ => .ret ⟨⟩) Q)
  rw [reg_pre, reg_post] at h
  refine BIBase.Entails.trans ?_ h
  iintro ⟨Hk, Hb, Hp, Hl, Hg, Ht⟩
  isplitl [Hk]
  · iintro ⟨Hb, Hp, HO⟩
    rw [wp_ret]
    imodintro
    iapply Hk
    isplitl [Hb]; · iexact Hb
    isplitl [Hp]; · iexact Hp
    iexact HO
  isplitl [Hb]; · iexact Hb
  isplitl [Hp]; · iexact Hp
  isplitl [Hl]; · iexact Hl
  isplitl [Hg]; · iexact Hg
  iexact Ht

theorem hub_eq (d : Dev nD) : (unscopedBufs d (fun b => m ((SparseCore.T d : Thread nD τ).loc b)) : sProp 𝕄)
    = StableHlo.held (d.tc : Thread nD τ) (Pipeline.ucRefs τ sig) (V0 m d) :=
  (show (unscopedBufs d (fun b => m ((SparseCore.T d : Thread nD τ).loc b)) : sProp 𝕄) = unscopedBufs d (fun b => V0 m d (Proc.devRef .tc b)) from rfl).trans
    (Pipeline.unscopedBufs_held d (V0 m d))

/-- @main on a device's TensorCore: the host's tables, the SparseCore call, the bias, the TensorCore call. -/
theorem hmain (κ : GSem nD τ sig → ℕ) (d : Dev nD) :
    iprop((K (F := F)).ctx EH (P (X m) (Sv m) (O0 m)) κ ∗ (K (F := F)).tcSt EH d 0 ∗ (K (F := F)).tcRes m ρ d ∗ G m d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [hub_eq m d]
  rw [show main (F := F) d = (main_part0 d >>= fun _ => main_part1 d) from rfl, Host.main_part0_eq, Host.main_part1_eq]
  have h0 := StableHlo.wp_seq (defs := (K (F := F)).defs (D (F := F))) 𝒱 none Set.univ d (Pipeline.ucRefs τ sig)
    (fun _ => StableHlo.seq Host.ops1 >>= fun _ => (sc (F := F)).run d 0 >>= fun _ =>
      Pipeline.chain [StableHlo.seq Host.opsZ, Prog.lift (.customCall (SparseCore.inner (Pipeline.entry 0)) ())])
    (K := fun _ => iprop((K (F := F)).tcSt EH d 1 ∗ FIN m d ∗ boundary (T d) ∗ (K (F := F)).tcSems0 d)) (Ix := HIx 1) (Name := ℕ) (U := UU) (Lvl := ℕ)
    Host.ops0 Host.ops0_bufs Host.ops0_fresh (V0 m d)
  have h1 := StableHlo.wp_seq (defs := (K (F := F)).defs (D (F := F))) 𝒱 none Set.univ d (Pipeline.ucRefs τ sig)
    (fun _ => (sc (F := F)).run d 0 >>= fun _ =>
      Pipeline.chain [StableHlo.seq Host.opsZ, Prog.lift (.customCall (SparseCore.inner (Pipeline.entry 0)) ())])
    (K := fun _ => iprop((K (F := F)).tcSt EH d 1 ∗ FIN m d ∗ boundary (T d) ∗ (K (F := F)).tcSems0 d)) (Ix := HIx 1) (Name := ℕ) (U := UU) (Lvl := ℕ)
    Host.ops1 Host.ops1_bufs Host.ops1_fresh (StableHlo.after Host.ops0 (V0 m d))
  have h2 := StableHlo.wp_seq (defs := (K (F := F)).defs (D (F := F))) 𝒱 none Set.univ d (Pipeline.ucRefs τ sig)
    (fun _ => Pipeline.chain [Prog.lift (.customCall (SparseCore.inner (Pipeline.entry 0)) ())])
    (K := fun _ => iprop((K (F := F)).tcSt EH d 1 ∗ FIN m d ∗ boundary (T d) ∗ (K (F := F)).tcSems0 d)) (Ix := HIx 1) (Name := ℕ) (U := UU) (Lvl := ℕ)
    Host.opsZ Host.opsZ_bufs' Host.opsZ_fresh' (V2 m d)
  rw [show StableHlo.after Host.ops1 (StableHlo.after Host.ops0 (V0 m d)) = V1 m d from rfl] at h1
  rw [show StableHlo.after Host.opsZ (V2 m d) = V3 m d from rfl] at h2
  iintro ⟨#Hctx, Hst, ⟨Hb, Hh, Hts, -⟩, HG⟩
  iapply h0 $$ [Hb Hh]
  · isplitl [Hb] <;> iassumption
  iintro ⟨Hb, Hh⟩
  iapply h1 $$ [Hb Hh]
  · isplitl [Hb] <;> iassumption
  iintro ⟨Hb, Hh⟩
  ihave Hh := (Entails.of_eq (held_before m d)) $$ Hh
  icases Hh with ⟨Hsc, Hrest⟩
  rw [wp_bind]
  iapply ((K (F := F)).wp_run (D (F := F)) 𝒱 (EH := EH) (P := P (X m) (Sv m) (O0 m)) κ d 0)
  isplitr; · iexact Hctx
  isplitl [Hst]; · iexact Hst
  isplitl [Hsc]
  · rw [Sc.st_whole]; iexact Hsc
  iintro ⟨Hst, Hdn⟩
  ihave Hdn := (Entails.of_eq (Sc.dn_whole (X m) (Sv m) (O0 m) d)) $$ Hdn
  ihave Hh := (Entails.of_eq (held_after m d).symm) $$ [Hdn Hrest]
  · isplitl [Hdn] <;> iassumption
  rw [Pipeline.chain_cons]
  iapply h2 $$ [Hb Hh]
  · isplitl [Hb] <;> iassumption
  iintro ⟨Hb, Hh⟩
  rw [Pipeline.chain_cons, Pipeline.chain_nil, wp_bind]
  ihave Hst := (show ((K (F := F)).tcSt EH d ((0 : Fin 1).val + 1) : sProp 𝕄) ⊢ _ from owes_out d) $$ Hst
  icases Hst with ⟨HO, Hback⟩
  ihave Hlev := ((K (F := F)).ctx_levAts κ) $$ Hctx
  iapply (region_wp m κ d _)
  isplitl [Hback Hts]
  · iintro ⟨Hb, Hh, HO⟩
    rw [wp_pure]
    imodintro
    isplitl [HO Hback]; · iapply Hback; iexact HO
    isplitl [Hh]; · iexact Hh
    isplitl [Hb] <;> iassumption
  isplitl [Hb]; · iexact Hb
  isplitl [Hh HO]; · isplitl [Hh] <;> iassumption
  isplitl [Hlev]; · iexact Hlev
  iexact HG

/-- A final state holds the buffers at `V4`. -/
def fq (d : Dev nD) (s' : Phys nD τ sig (Elt F)) : Prop := ∀ b : {b : DevRef τ sig // b ∈ Pipeline.ucRefs τ sig}, s'.mem.mem (d, b.1) = V4 m d b.1

theorem hfin (d : Dev nD) (s' : Phys nD τ sig (Elt F)) : iprop(FIN m d ∗ SI s') ⊢ (⌜fq m d s'⌝ : sProp 𝕄) := by
  refine (Laws.forall_intro fun b : {b : DevRef τ sig // b ∈ Pipeline.ucRefs τ sig} => ?_).trans Laws.pure_forall.2
  have hb : (StableHlo.held (d.tc : Thread nD τ) (Pipeline.ucRefs τ sig) (V4 m d) : sProp 𝕄) ⊢ ((d, b.1) ↦{fullShare} V4 m d b.1 : sProp 𝕄) := by
    unfold StableHlo.held
    exact bigSep_elim (Φ := fun b => ((d, b) ↦{fullShare} V4 m d b : sProp 𝕄)) b.2
  iintro ⟨Hh, HSI⟩
  ihave Hp := hb $$ Hh
  ihave H := (SI_pointsTo_agree (st := s') (ℓ := (d, b.1)) (I := Finset.univ) (q := fullShare) (f := V4 m d b.1)) $$ [HSI Hp]
  · isplitl [HSI] <;> iassumption
  icases H with %h
  ipureintro; exact funext fun i => h i (Finset.mem_univ i)

/-- What the run ends with. -/
def Ends : PUnit × MemSt nD τ sig (Elt F) → Prop := fun r =>
  (∀ (d : Dev nD) (b : DevRef τ sig), b ∈ Pipeline.ucRefs τ sig → r.2.mem (d, b) = V4 m d b) ∧ r.2.sem = fun _ => 0

/-- The program runs, and ends with every buffer outside the scopes at `V4` and every semaphore counter at zero. -/
theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P (X m) (Sv m) (O0 m)) (A := ∅) facts v₀
    (fun q hq => match q with | 0 => nomatch hq)
    (fun q _ => match q with | 0 => Sc.tileObl (X m) (Sv m) (O0 m) facts (rows_ok m))
    (fun q _ => match q with | 0 => SparseCore.Cfg.VecSplit.of_plain (Sc.vecSplit (X m) (Sv m) (O0 m)))
    m ρ main (fun d => G m d) (FIN m) (u₀ m) (sep_elim_left.trans (hu₀ m)) (hmain m ρ) (fq m) (hfin m) (Ends m)
    (fun _ h hz => ⟨fun d b hb => h d ⟨b, hb⟩, hz⟩)

theorem arrs_inj : Function.Injective (Pipeline.arrRef spec1) := by decide

/-- An argument ends as it began. -/
theorem V4_arg (d : Dev nD) (r : Ref sig .tc) (hw : ∀ w, Pipeline.arrRef spec1 w = r → ((Tc.cfgT (F := F) (tb m)).win w).isOut = false)
    (hZ : r ∉ Host.opsZ_W) (h69 : r ≠ main_v69) (hA : r ∉ Host.opsA_W) (hB : r ∉ Host.opsB_W) (hC : r ∉ Host.opsC_W) (hD : r ∉ Host.opsD_W)
    (hG : r ∉ Host.opsG_W) (hH : r ∉ Host.opsH_W) : V4 m d (Proc.devRef .tc r) = m (d, Proc.devRef .tc r) := by
  unfold V4 Tc.W'
  rw [Pipeline.afterRegion_keeps (Tc.dat (tb m) (tb_ok m) (V3 m) d) (V3 m d) arrs_inj (fun w => rfl) r hw, V3_keep m d r hZ h69]
  exact Host.before_keep (V0 m d) r hA hB hC hD hG hH

theorem isOut_iff (w : Fin 6) : ((Tc.cfgT (F := F) (tb m)).win w).isOut = false ↔ w ≠ 5 := by
  fin_cases w <;> simp <;> rfl

/-- Every argument ends as it began. -/
theorem args_kept {r : PUnit × MemSt nD τ sig (Elt F)} (h : Ends m r) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5) := by
  have key : ∀ r' : Ref sig .tc, (∀ w, Pipeline.arrRef spec1 w = r' → w ≠ 5) → r' ∉ Host.opsZ_W → r' ≠ main_v69 → r' ∉ Host.opsA_W → r' ∉ Host.opsB_W →
      r' ∉ Host.opsC_W → r' ∉ Host.opsD_W → r' ∉ Host.opsG_W → r' ∉ Host.opsH_W → Proc.devRef .tc r' ∈ Pipeline.ucRefs τ sig →
      r.2.mem (d, Proc.devRef .tc r') = m (d, Proc.devRef .tc r') :=
    fun r' hw hZ h69 hA hB hC hD hG hH hu =>
      (h.1 d _ hu).trans (V4_arg m d r' (fun w e => (isOut_iff m w).mpr (hw w e)) hZ h69 hA hB hC hD hG hH)
  exact ⟨key main_arg0 (by decide) (by decide) (by decide) (by decide) (by decide) (by decide) (by decide) (by decide) (by decide) (by decide),
    key main_arg1 (by decide) (by decide) (by decide) (by decide) (by decide) (by decide) (by decide) (by decide) (by decide) (by decide),
    key main_arg2 (by decide) (by decide) (by decide) (by decide) (by decide) (by decide) (by decide) (by decide) (by decide) (by decide),
    key main_arg3 (by decide) (by decide) (by decide) (by decide) (by decide) (by decide) (by decide) (by decide) (by decide) (by decide),
    key main_arg4 (by decide) (by decide) (by decide) (by decide) (by decide) (by decide) (by decide) (by decide) (by decide) (by decide),
    key main_arg5 (by decide) (by decide) (by decide) (by decide) (by decide) (by decide) (by decide) (by decide) (by decide) (by decide)⟩

end Cert.Proof.Run

end
-- ==== Proof.Frames.lean ====
/-
  The frames of the three programs: each runs, leaves its arguments unchanged and ends with every semaphore counter at zero.
-/
module

public import proofs.«01_k».proof.Proof.Run
public import proofs.«01_k».proof.Proof.Gen.Kernel
public import proofs.«01_k».proof.Proof.Gen.ReferenceIdeal.Run
public import proofs.«01_k».proof.Proof.Gen.Pre_sorted_segments
public import proofs.«01_k».proof.Defs
import all proofs.«01_k».proof.Kernel
import all proofs.«01_k».proof.KernelIdeal
public import Idealize.ShloMosaic.Adequacy
public import Idealize.ShloMosaic.Init

@[expose] public section

set_option Elab.async false

noncomputable section

namespace Cert.Proof.Run

open Idealize.ShloMosaic Idealize.SL.Sem

/-- The kernel runs over any float values, leaves its arguments and ends with every counter at zero. -/
theorem frame_any {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (Cert.KernelIdeal.threads (F := F)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run Cert.KernelIdeal.defs _ _).mono (fun _ h => ⟨fun c => args_kept m h c, h.2⟩) (run_main m g)

/-- The kernel at the ideal reading runs, leaves its arguments and ends with every counter at zero. -/
theorem frame_i : Cert.quiescent_KernelIdeal := fun m ρ _ => frame_any (F := Ideal) m ρ
/-- The same where the precondition holds. -/
theorem frame_i_pre : Cert.quiescent_KernelIdeal_pre_sorted_segments := fun m ρ _ => frame_any (F := Ideal) m ρ

/-- The kernel at the machine's words runs, leaves its arguments and ends with every counter at zero. -/
theorem frame_k : Cert.quiescent_Kernel := fun m ρ _ => Eq.mp (by chain_rfl) (frame_any (F := Bits) m ρ)

/-- The reference at the ideal reading runs, leaves its arguments, and has no semaphore counter. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem frame_r_pre : Cert.quiescent_ReferenceIdeal_pre_sorted_segments := fun m ρ _ => frame_r m ρ trivial

end Cert.Proof.Run

end
-- ==== Proof.Lay.lean ====
/-
  The page layout over the natural numbers: segments of a sorted list of segment numbers, each rounded up to whole pages
  of 32 rows, laid one after the other.
-/
module

public import Idealize.ShloMosaic.Lib.Pointwise

@[expose] public section

namespace Cert.Proof.Lay

open Finset

/-- For a property that holds on a first part of `Fin n` only, an index has it exactly when it is below the count. -/
theorem lt_count {n : ℕ} (P : Fin n → Prop) [DecidablePred P] (h : ∀ i j, i ≤ j → P j → P i) (i : Fin n) :
    P i ↔ i.val < (univ.filter P).card := by
  constructor
  · intro hi
    have : (Finset.Iic i).card ≤ (univ.filter P).card := card_le_card fun j hj => by
      simp only [mem_Iic] at hj
      simp only [mem_filter, mem_univ, true_and]
      exact h j i hj hi
    rw [Fin.card_Iic] at this
    omega
  · intro hi
    by_contra hn
    have : (univ.filter P).card ≤ (Finset.Iio i).card := card_le_card fun j hj => by
      simp only [mem_filter, mem_univ, true_and] at hj
      simp only [mem_Iio]
      by_contra hc
      exact hn (h i j (not_lt.mp hc) hj)
    rw [Fin.card_Iio] at this
    omega

variable {N : ℕ} (B : Fin N → ℕ)

/-- The first position of the segment `s`. -/
def st (s : ℕ) : ℕ := (univ.filter fun i : Fin N => B i < s).card
/-- The size of the segment `s`. -/
def cnt (s : ℕ) : ℕ := st B (s + 1) - st B s
/-- The size rounded up to whole pages. -/
def pad (s : ℕ) : ℕ := (cnt B s + 31) / 32 * 32
/-- The first padded position of the segment `s`. -/
def ps (s : ℕ) : ℕ := ∑ u ∈ range s, pad B u
/-- How many of the first `s` segments are empty. -/
def emp (s : ℕ) : ℕ := ((range s).filter fun u => cnt B u = 0).card
/-- The segment of the page `p`. -/
def seg (p : ℕ) : ℕ := (univ.filter fun u : Fin 512 => ps B (u.val + 1) ≤ 32 * p).card
/-- The end of the last segment begun by the page `p`. -/
def pe (p : ℕ) : ℕ := univ.sup fun u : Fin 512 => if ps B u.val ≤ 32 * p then ps B u.val + cnt B u.val else 0
/-- The shift of the last segment begun by the page `p`. -/
def sh (p : ℕ) : ℕ := univ.sup fun u : Fin 512 => if ps B u.val ≤ 32 * p then ps B u.val - st B u.val else 0

theorem st_mono : Monotone (st B) := fun s t h => card_le_card fun i hi => by
  simp only [mem_filter, mem_univ, true_and] at hi ⊢; omega
theorem st_zero : st B 0 = 0 := by simp [st]
theorem st_le (s : ℕ) : st B s ≤ N := (card_le_univ _).trans (Fintype.card_fin N).le
theorem st_succ (s : ℕ) : st B (s + 1) = st B s + cnt B s := by
  have := st_mono B (Nat.le_succ s); simp only [cnt, Nat.succ_eq_add_one] at *; omega

theorem lt_st (hB : Monotone B) (s : ℕ) (i : Fin N) : B i < s ↔ i.val < st B s :=
  lt_count (fun i => B i < s) (fun i j h hj => (hB h).trans_lt hj) i

theorem eq_seg (hB : Monotone B) (s : ℕ) (i : Fin N) : B i = s ↔ st B s ≤ i.val ∧ i.val < st B s + cnt B s := by
  have h1 := lt_st B hB s i
  have h2 := lt_st B hB (s + 1) i
  rw [st_succ] at h2
  omega

theorem cnt_le_pad (s : ℕ) : cnt B s ≤ pad B s := by simp only [pad]; omega
theorem pad_le (s : ℕ) : pad B s ≤ cnt B s + 31 := by simp only [pad]; omega
theorem ps_zero : ps B 0 = 0 := rfl
theorem ps_succ (s : ℕ) : ps B (s + 1) = ps B s + pad B s := sum_range_succ _ _
theorem ps_mono : Monotone (ps B) := monotone_nat_of_le_succ fun s => by rw [ps_succ]; omega
theorem ps_dvd (s : ℕ) : 32 ∣ ps B s := dvd_sum fun u _ => ⟨_, Nat.mul_comm _ _⟩
theorem ps_le (s : ℕ) : ps B s ≤ st B s + 31 * s := by
  induction s with
  | zero => simp [ps_zero]
  | succ n ih => rw [ps_succ, st_succ]; have := pad_le B n; omega
theorem st_le_ps (s : ℕ) : st B s ≤ ps B s := by
  induction s with
  | zero => simp [st_zero]
  | succ n ih => rw [ps_succ, st_succ]; have := cnt_le_pad B n; omega
theorem shift_mono : Monotone fun s => ps B s - st B s := monotone_nat_of_le_succ fun s => by
  show ps B s - st B s ≤ ps B (s + 1) - st B (s + 1)
  rw [ps_succ, st_succ]; have := cnt_le_pad B s; have := st_le_ps B s; omega

theorem lt_seg (p : ℕ) (u : Fin 512) : ps B (u.val + 1) ≤ 32 * p ↔ u.val < seg B p :=
  lt_count (fun u : Fin 512 => ps B (u.val + 1) ≤ 32 * p) (fun i j h hj => (ps_mono B (by have := Fin.le_def.mp h; omega)).trans hj) u
theorem seg_le (p : ℕ) : seg B p ≤ 512 := (card_le_univ _).trans (Fintype.card_fin 512).le

/-- A page inside a segment's padded rows: its segment, end and shift. -/
theorem page {s p : ℕ} (hs : s < 512) (h1 : ps B s ≤ 32 * p) (h2 : 32 * p < ps B (s + 1)) :
    seg B p = s ∧ pe B p = ps B s + cnt B s ∧ sh B p = ps B s - st B s := by
  refine ⟨?_, ?_, ?_⟩
  · refine le_antisymm (not_lt.mp fun h => ?_) (not_lt.mp fun h => ?_)
    · have := (lt_seg B p ⟨s, hs⟩).mpr h; simp only at this; omega
    · obtain ⟨t, rfl⟩ : ∃ t, s = t + 1 := ⟨s - 1, by omega⟩
      have := (lt_seg B p ⟨t, by omega⟩).mp h1; simp only at this; omega
  · refine le_antisymm (Finset.sup_le fun u _ => ?_) (le_trans (by simp only [h1, if_true]; exact le_rfl) (Finset.le_sup (f := fun u : Fin 512 => if ps B u.val ≤ 32 * p then ps B u.val + cnt B u.val else 0) (mem_univ (⟨s, hs⟩ : Fin 512))))
    split
    · rename_i hu
      have : u.val ≤ s := by
        by_contra hc
        have := ps_mono B (show s + 1 ≤ u.val by omega); omega
      rcases this.lt_or_eq with h | h
      · have a := ps_mono B (show u.val + 1 ≤ s by omega)
        rw [ps_succ] at a; have := cnt_le_pad B u.val; omega
      · rw [h]
    · omega
  · refine le_antisymm (Finset.sup_le fun u _ => ?_) (le_trans (by simp only [h1, if_true]; exact le_rfl) (Finset.le_sup (f := fun u : Fin 512 => if ps B u.val ≤ 32 * p then ps B u.val - st B u.val else 0) (mem_univ (⟨s, hs⟩ : Fin 512))))
    split
    · rename_i hu
      have : u.val ≤ s := by
        by_contra hc
        have := ps_mono B (show s + 1 ≤ u.val by omega); omega
      exact shift_mono B this
    · omega

/-- A page is inside some segment's padded rows or after all of them. -/
theorem page_cases (p : ℕ) : (∃ s, s < 512 ∧ ps B s ≤ 32 * p ∧ 32 * p < ps B (s + 1)) ∨ ps B 512 ≤ 32 * p := by
  by_cases h : ps B 512 ≤ 32 * p
  · exact .inr h
  · left
    have hl : seg B p < 512 := by
      by_contra hc
      have := (lt_seg B p ⟨511, by omega⟩).mpr (by simp only; omega)
      exact h this
    refine ⟨seg B p, hl, ?_, ?_⟩
    · rcases Nat.eq_zero_or_pos (seg B p) with h0 | h0
      · rw [h0, ps_zero]; omega
      · have := (lt_seg B p ⟨seg B p - 1, by omega⟩).mpr (by simp only; omega)
        simpa only [show seg B p - 1 + 1 = seg B p by omega] using this
    · by_contra hc
      have := (lt_seg B p ⟨seg B p, hl⟩).mp (not_lt.mp hc)
      simp only at this; omega

theorem pe_last {p : ℕ} (h : ps B 512 ≤ 32 * p) : pe B p ≤ 32 * p := Finset.sup_le fun u _ => by
  split
  · have a := ps_mono B (show u.val + 1 ≤ 512 by have := u.isLt; omega)
    rw [ps_succ] at a; have := cnt_le_pad B u.val; omega
  · omega

/-- The segment of the padded row `j`, 512 for padding. -/
def segN (j : ℕ) : ℕ := if j < pe B (j / 32) then seg B (j / 32) else 512

theorem segN_le (j : ℕ) : segN B j ≤ 512 := by
  unfold segN; split
  · exact seg_le B _
  · exact le_rfl

/-- The padded rows of a segment. -/
theorem segN_eq {s : ℕ} (hs : s < 512) (j : ℕ) : segN B j = s ↔ ps B s ≤ j ∧ j < ps B s + cnt B s := by
  obtain ⟨q, hq⟩ := ps_dvd B s
  unfold segN
  constructor
  · intro h
    split at h
    · rename_i hr
      rcases page_cases B (j / 32) with ⟨u, hu, h1, h2⟩ | h1
      · obtain ⟨a, b, -⟩ := page B hu h1 h2
        obtain rfl : u = s := by omega
        rw [b] at hr; omega
      · have := pe_last B h1; omega
    · omega
  · rintro ⟨h1, h2⟩
    have h3 := ps_succ B s
    have h4 := cnt_le_pad B s
    obtain ⟨a, b, -⟩ := page B (p := j / 32) hs (by omega) (by omega)
    rw [if_pos (by omega), a]

/-- A row of a segment has moved by the segment's shift. -/
theorem sh_eq {s : ℕ} (hs : s < 512) (j : ℕ) (h1 : ps B s ≤ j) (h2 : j < ps B s + cnt B s) :
    j < pe B (j / 32) ∧ sh B (j / 32) = ps B s - st B s := by
  obtain ⟨q, hq⟩ := ps_dvd B s
  have h3 := ps_succ B s
  have h4 := cnt_le_pad B s
  obtain ⟨-, b, c⟩ := page B (p := j / 32) hs (by omega) (by omega)
  exact ⟨by omega, c⟩

theorem emp_succ (s : ℕ) : emp B (s + 1) = emp B s + if cnt B s = 0 then 1 else 0 := by
  unfold emp
  rw [range_add_one, filter_insert]
  split
  · rw [card_insert_of_notMem (by simp)]
  · rfl

theorem growth (a k : ℕ) : ps B a + 32 * emp B a + 32 * k ≤ ps B (a + k) + 32 * emp B (a + k) := by
  induction k with
  | zero => simp
  | succ n ih =>
    rw [← Nat.add_assoc, ps_succ, emp_succ]
    have : 32 ≤ pad B (a + n) + 32 * (if cnt B (a + n) = 0 then 1 else 0) := by
      split
      · omega
      · simp only [pad]; omega
    omega

/-- The segments of 64 pages on from the page `p` lie in a window of 73 from the page's own. -/
theorem window (he : ∀ a, a + 72 ≤ 512 → emp B (a + 72) ≤ emp B a + 9) {s p j : ℕ} (hs : s < 512) (h1 : 32 * p ≤ j) (h2 : j < 32 * p + 2048) (hj : segN B j = s) :
    seg B p ≤ s ∧ s ≤ seg B p + 72 := by
  obtain ⟨a, b⟩ := (segN_eq B hs j).mp hj
  have h3 := ps_succ B s
  have h4 := cnt_le_pad B s
  obtain ⟨q, hq⟩ := ps_dvd B s
  have hle : seg B p ≤ s := by
    by_contra hc
    have := (lt_seg B p ⟨s, hs⟩).mpr (by simp only; omega)
    simp only at this; omega
  refine ⟨hle, ?_⟩
  rcases Nat.lt_or_ge s (seg B p + 73) with h | h
  · omega
  · have g := growth B (seg B p + 1) 72
    have e1 := he (seg B p + 1) (by omega)
    have e3 := ps_mono B (show seg B p + 1 + 72 ≤ s by omega)
    have e2 : 32 * p < ps B (seg B p + 1) := by
      by_contra hc
      have := (lt_seg B p ⟨seg B p, by omega⟩).mp (not_lt.mp hc)
      simp only at this; omega
    obtain ⟨r, hr⟩ := ps_dvd B (seg B p + 1)
    omega

end Cert.Proof.Lay

end
-- ==== Proof.Words.lean ====
/-
  The host's tables as natural numbers: where the segment numbers are sorted and below 512, each table holds the words of
  the layout over the naturals.
-/
module

public import proofs.«01_k».proof.Proof.Ranges
public import proofs.«01_k».proof.Proof.Lay
public import Idealize.ShloMosaic.Lib.Routing.Words

@[expose] public section

set_option maxRecDepth 65536

noncomputable section

namespace Cert.Proof.Words

open Cert.KernelIdeal Cert.KernelIdeal.Gen
open Cert.Proof.Host Cert.Proof.Lay
open Idealize.ShloMosaic

/-! ## Words of small naturals -/

theorem slt_iff {a b : ℕ} (ha : a < 2 ^ 31) (hb : b < 2 ^ 31) : IntOp.cmpi .slt (BitVec.ofNat 32 a) (BitVec.ofNat 32 b) = 1#1 ↔ a < b :=
  WordCmp.cmpi_slt_ofNat_eq_one_iff (w := 32) ha hb
theorem sle_iff {a b : ℕ} (ha : a < 2 ^ 31) (hb : b < 2 ^ 31) : IntOp.cmpi .sle (BitVec.ofNat 32 a) (BitVec.ofNat 32 b) = 1#1 ↔ a ≤ b :=
  WordCmp.cmpi_sle_ofNat_eq_one_iff (w := 32) ha hb

theorem sel_iff {α : Type} {c : BitVec 1} {p : Prop} [Decidable p] (h : c = 1#1 ↔ p) (x y : α) : Scalar.select c x y = if p then x else y := by
  by_cases hp : p
  · rw [if_pos hp, h.mpr hp]; rfl
  · rw [if_neg hp]
    rcases BitVec.eq_zero_or_eq_one c with hc | hc
    · rw [hc]; rfl
    · exact absurd (h.mp hc) hp

theorem sub_word {a b : ℕ} (h : b ≤ a) (ha : a < 2 ^ 31) : BitVec.ofNat 32 a - BitVec.ofNat 32 b = BitVec.ofNat 32 (a - b) := by
  apply BitVec.eq_of_toNat_eq
  simp only [BitVec.toNat_sub, BitVec.toNat_ofNat]
  omega

theorem maxsi_word {a b : ℕ} (ha : a < 2 ^ 31) (hb : b < 2 ^ 31) : IntOp.maxsi (BitVec.ofNat 32 a) (BitVec.ofNat 32 b) = BitVec.ofNat 32 (max a b) := by
  unfold IntOp.maxsi
  have h := slt_iff ha hb
  have h' : IntOp.cmpi .slt (BitVec.ofNat 32 a) (BitVec.ofNat 32 b) = BitVec.ofBool ((BitVec.ofNat 32 a).slt (BitVec.ofNat 32 b)) := rfl
  have := slt_iff hb ha
  have h'' : IntOp.cmpi .slt (BitVec.ofNat 32 b) (BitVec.ofNat 32 a) = BitVec.ofBool ((BitVec.ofNat 32 b).slt (BitVec.ofNat 32 a)) := rfl
  rw [h', WordArith.ofBool_eq_one_iff] at h
  rw [h'', WordArith.ofBool_eq_one_iff] at this
  split <;> rename_i hc <;> simp only [h, this] at hc <;> congr 1 <;> omega

theorem maxsi_least (x : BitVec 32) : IntOp.maxsi x 2147483648#32 = x := by
  unfold IntOp.maxsi
  by_cases h : x = 2147483648#32
  · subst h; decide
  · have e : (2147483648#32 : BitVec 32).toInt = -2147483648 := by decide
    have := BitVec.le_toInt x
    split <;> rename_i hc <;> rw [BitVec.slt_eq_decide, decide_eq_true_eq, e] at hc <;> first | rfl | (apply BitVec.eq_of_toInt_eq; rw [e]; omega)

/-- The greatest word of a list of small naturals. -/
theorem fold_max {ι : Type} [DecidableEq ι] (f : ι → ℕ) (hf : ∀ i, f i < 2 ^ 31) (S : Finset ι) :
    Finset.fold IntOp.maxsi 2147483648#32 (fun i => BitVec.ofNat 32 (f i)) S = if S = ∅ then 2147483648#32 else BitVec.ofNat 32 (S.sup f) := by
  induction S using Finset.induction_on with
  | empty => rfl
  | insert a S ha ih =>
    rw [Finset.fold_insert ha, ih, if_neg (Finset.insert_ne_empty a S)]
    split
    · rename_i h; subst h
      rw [maxsi_least]; simp
    · rw [maxsi_word (hf a) ((Finset.sup_lt_iff (by norm_num)).mpr fun i _ => hf i), Finset.sup_insert]

theorem minsi_word {a b : ℕ} (ha : a < 2 ^ 31) (hb : b < 2 ^ 31) : IntOp.minsi (BitVec.ofNat 32 a) (BitVec.ofNat 32 b) = BitVec.ofNat 32 (min a b) := by
  apply BitVec.eq_of_toNat_eq
  rw [WordArith.toNat_minsi_of_lt _ _ (by rw [BitVec.toNat_ofNat]; omega) (by rw [BitVec.toNat_ofNat]; omega)]
  simp only [BitVec.toNat_ofNat]
  rw [Nat.mod_eq_of_lt (by omega), Nat.mod_eq_of_lt (by omega), Nat.mod_eq_of_lt (by omega)]

/-! ## The tables -/

variable (b : IVec S100000 32)

/-- The segment numbers as naturals. -/
def nat (i : Fin 100000) : ℕ := (b (ix1 i)).toNat

theorem starts_red : S513x100000.Reduces [1] S513 := by decide
theorem lift1 (s : Fin 513) (k : Fin 100000) : starts_red.lift (ix1 s) k = ix2 s k := by
  funext a; match a with
  | ⟨0, _⟩ => rfl
  | ⟨1, _⟩ => rfl
theorem lift0 (p : Fin 3648) (k : Fin 512) : seg_red.lift (ix1 p) k = ix2 k p := by
  funext a; match a with
  | ⟨0, _⟩ => rfl
  | ⟨1, _⟩ => rfl

section
variable (hb : ∀ i, nat b i < 512)
include hb

theorem word (i : Fin 100000) : b (ix1 i) = BitVec.ofNat 32 (nat b i) := by
  unfold nat; rw [BitVec.ofNat_toNat, BitVec.setWidth_eq]

theorem starts_ap (s : Fin 513) : starts b (ix1 s) = BitVec.ofNat 32 (st (nat b) s.val) := by
  unfold starts st
  rw [count_ap _ _ _ starts_red _ rfl]
  refine congrArg (BitVec.ofNat 32) (congrArg Finset.card (Finset.ext fun k => ?_))
  refine (Finset.mem_filter.trans (and_congr_right fun _ => ?_)).trans (Finset.mem_filter (s := Finset.univ) (p := fun i : Fin 100000 => nat b i < s.val) (a := (k : Fin 100000))).symm
  refine (iff_of_eq (congrArg (· = 1#1) (congrArg _ (lift1 s k)))).trans ?_
  pointwise
  have key : ∀ i : Fin 100000, IntOp.cmpi .slt (b (ix1 i)) (BitVec.ofNat 32 s.val) = 1#1 ↔ nat b i < s.val := fun i => by
    rw [word b hb]
    exact slt_iff (by have := hb i; omega) (by have := s.isLt; omega)
  exact key k

theorem st_small (s : ℕ) : st (nat b) s ≤ 100000 := st_le (nat b) s
theorem cnt_small (s : ℕ) : cnt (nat b) s ≤ 100000 := (Nat.sub_le _ _).trans (st_le (nat b) _)
theorem ps_small {s : ℕ} (hs : s ≤ 512) : ps (nat b) s ≤ 115872 := by
  have := ps_le (nat b) s; have := st_le (nat b) s; omega

theorem counts_ap (s : Fin 512) : bCounts b (ix1 s) = BitVec.ofNat 32 (cnt (nat b) s.val) := by
  have h1 := starts_ap b hb ⟨1 + s.val, by omega⟩
  have h0 := starts_ap b hb ⟨s.val, by omega⟩
  unfold bCounts counts
  pointwise
  rw [h1, h0]
  refine (sub_word (st_mono _ (by simp only; omega)) ((st_small b hb _).trans_lt (by norm_num))).trans ?_
  simp only [cnt, Nat.add_comm]

theorem padded_ap (s : Fin 512) : padded (bCounts b) (ix1 s) = BitVec.ofNat 32 (pad (nat b) s.val) := by
  have hc := counts_ap b hb s
  have hs := cnt_small b hb s.val
  unfold padded
  have hd := Routing.pyDiv_ap bcast_S_S512 (subi (addi (bCounts b) (broadcastInDim S512 ![] bcast_S_S512 (constantI S_ 32 32#32))) (broadcastInDim S512 ![] bcast_S_S512 (constantI S_ 32 1#32)))
    (constantI S_ 32 32#32) (ix1 s) (a := cnt (nat b) s.val + 31) (b := 32) (by
      pointwise
      rw [hc]
      show (_ + 32#32) - 1#32 = _
      apply BitVec.eq_of_toNat_eq
      simp only [BitVec.toNat_sub, BitVec.toNat_add, BitVec.toNat_ofNat]
      omega) rfl (by omega) (by norm_num) (by norm_num)
  refine (congrArg (fun v => IntOp.muli v 32#32) hd).trans ?_
  show BitVec.ofNat 32 _ * BitVec.ofNat 32 32 = _
  rw [← BitVec.ofNat_mul]
  rfl

theorem pstart_ap (s : Fin 513) : bPstart b (ix1 s) = BitVec.ofNat 32 (ps (nat b) s.val) := by
  unfold bPstart pstart
  pointwise
  split
  · rename_i h
    rw [show s.val = 0 by omega]; rfl
  · rename_i h
    refine (Routing.cumsum1 (N := 512) (Nm1 := 511) rfl (padded (bCounts b)) (pad (nat b)) (padded_ap b hb) _ rfl _ _ ⟨s.val - 1, by have := s.isLt; omega⟩).trans ?_
    refine congrArg (BitVec.ofNat 32) ?_
    simp only [show s.val - 1 + 1 = s.val by omega]
    rw [← List.sum_toFinset _ (List.nodup_range), List.toFinset_range]
    rfl

theorem cpos_ap (p : Fin 3648) : IntOp.muli (BitVec.ofNat 32 p.val) 32#32 = BitVec.ofNat 32 (32 * p.val) := by
  show BitVec.ofNat 32 _ * BitVec.ofNat 32 32 = _
  rw [← BitVec.ofNat_mul, Nat.mul_comm]

theorem begun_ap (p : Fin 3648) (k : Fin 513) :
    IntOp.cmpi .sle (bPstart b (ix1 k)) (IntOp.muli (BitVec.ofNat 32 p.val) 32#32) = 1#1 ↔ ps (nat b) k.val ≤ 32 * p.val := by
  rw [pstart_ap b hb, cpos_ap b hb]
  exact sle_iff ((ps_small b hb (by have := k.isLt; omega)).trans_lt (by norm_num)) (by have := p.isLt; omega)

theorem ite_small {c : Prop} [Decidable c] {n : ℕ} (h : n ≤ 215872) : (if c then n else 0) < 2 ^ 31 := by split <;> omega

theorem pageShift_ap (p : Fin 3648) : bShift b (ix1 p) = BitVec.ofNat 32 (sh (nat b) p.val) := by
  unfold bShift pageShift dshift cpos
  rw [Host.reduce_eq_fold_single _ _ _ _ seg_red]
  refine (Finset.fold_congr (g := fun k : Fin 512 => BitVec.ofNat 32 (if ps (nat b) k.val ≤ 32 * p.val then ps (nat b) k.val - st (nat b) k.val else 0)) fun k _ => ?_).trans
    ((fold_max (fun k : Fin 512 => if ps (nat b) k.val ≤ 32 * p.val then ps (nat b) k.val - st (nat b) k.val else 0)
      (fun k => ite_small b hb ((Nat.sub_le _ _).trans ((ps_small b hb (by have := k.isLt; omega)).trans (by norm_num)))) Finset.univ).trans
      (if_neg (Finset.univ_nonempty (α := Fin 512)).ne_empty))
  refine (congrArg _ (lift0 p k)).trans ?_
  pointwise
  rw [sel_iff (begun_ap b hb p ⟨k.val, by have := k.isLt; omega⟩), pstart_ap b hb ⟨k.val, by have := k.isLt; omega⟩, starts_ap b hb ⟨k.val, by have := k.isLt; omega⟩]
  split
  · exact sub_word (st_le_ps _ _) ((ps_small b hb (by have := k.isLt; simp only; omega)).trans_lt (by norm_num))
  · rfl

theorem pageEnd_ap (p : Fin 3648) : bEnd b (ix1 p) = BitVec.ofNat 32 (pe (nat b) p.val) := by
  unfold bEnd pageEnd estart cpos
  rw [Host.reduce_eq_fold_single _ _ _ _ seg_red]
  refine (Finset.fold_congr (g := fun k : Fin 512 => BitVec.ofNat 32 (if ps (nat b) k.val ≤ 32 * p.val then ps (nat b) k.val + cnt (nat b) k.val else 0)) fun k _ => ?_).trans
    ((fold_max (fun k : Fin 512 => if ps (nat b) k.val ≤ 32 * p.val then ps (nat b) k.val + cnt (nat b) k.val else 0)
      (fun k => ite_small b hb (by have := cnt_small b hb k.val; have := ps_small b hb (s := k.val) (by have := k.isLt; omega); omega)) Finset.univ).trans
      (if_neg (Finset.univ_nonempty (α := Fin 512)).ne_empty))
  refine (congrArg _ (lift0 p k)).trans ?_
  pointwise
  rw [sel_iff (begun_ap b hb p ⟨k.val, by have := k.isLt; omega⟩), pstart_ap b hb ⟨k.val, by have := k.isLt; omega⟩, counts_ap b hb]
  split
  · exact (BitVec.ofNat_add _ _).symm
  · rfl

theorem seg_ap (p : Fin 3648) : bSeg b (ix1 p) = BitVec.ofNat 32 (seg (nat b) p.val) := by
  show pageSeg (bPstart b) (ix1 p) = _
  unfold pageSeg ended seg cpos
  rw [count_ap _ _ _ seg_red _ rfl]
  refine congrArg (BitVec.ofNat 32) (congrArg Finset.card (Finset.filter_congr fun k _ => ?_))
  refine (iff_of_eq (congrArg (· = 1#1) (congrArg _ (lift0 p k)))).trans ?_
  pointwise
  have := begun_ap b hb p ⟨1 + k.val, by have := k.isLt; change k.val < 512 at this; omega⟩
  rw [this]
  simp only [Nat.add_comm]

theorem pe_small (p : ℕ) : pe (nat b) p < 2 ^ 31 := (Finset.sup_lt_iff (by norm_num)).mpr fun k _ =>
  ite_small b hb (by have := cnt_small b hb k.val; have := ps_small b hb (s := k.val) (by have := k.isLt; omega); omega)

theorem real_ap (j : Fin 116736) : bReal b (ix1 j) = 1#1 ↔ j.val < pe (nat b) (j.val / 32) := by
  have e : bReal b (ix1 j) = IntOp.cmpi .slt (BitVec.ofNat 32 j.val) (bEnd b (ix1 ⟨j.val / 32, by omega⟩)) := by
    unfold bReal realRow
    pointwise
  rw [e, pageEnd_ap b hb]
  exact slt_iff (by have := j.isLt; omega) (pe_small b hb _)

/-- The segment that a padded row is labelled with. -/
theorem segOf_ap (j : Fin 116736) : bSegOf b (ix1 j) = BitVec.ofNat 32 (segN (nat b) j.val) := by
  have e : bSegOf b (ix1 j) = Scalar.select (bReal b (ix1 j)) (bSeg b (ix1 ⟨j.val / 32, by omega⟩)) 512#32 := by
    unfold bSegOf segOf
    pointwise
  unfold segN
  rw [e, sel_iff (real_ap b hb j), seg_ap b hb]
  split <;> rfl

/-- The row that a padded row of a segment reads. -/
theorem src_ap (j : Fin 116736) (s : ℕ) (hs : s < 512) (h1 : ps (nat b) s ≤ j.val) (h2 : j.val < ps (nat b) s + cnt (nat b) s) :
    (bSrc b (ix1 j)).toNat = j.val - ps (nat b) s + st (nat b) s := by
  obtain ⟨hr, he⟩ := sh_eq (nat b) hs j.val h1 h2
  have hl := st_le_ps (nat b) s
  have hn : st (nat b) s + cnt (nat b) s ≤ 100000 := by rw [← st_succ]; exact st_small b hb _
  have hj := j.isLt
  unfold bSrc src moved
  pointwise
  rw [sel_iff (real_ap b hb j), if_pos hr, pageShift_ap b hb]
  simp only [he]
  have e : IntOp.subi (BitVec.ofNat 32 j.val) (BitVec.ofNat 32 (ps (nat b) s - st (nat b) s)) = BitVec.ofNat 32 (j.val - (ps (nat b) s - st (nat b) s)) :=
    sub_word (by omega) (by omega)
  rw [e, show (0#32 : BitVec 32) = BitVec.ofNat 32 0 from rfl, maxsi_word (by norm_num) (by omega), show (99999#32 : BitVec 32) = BitVec.ofNat 32 99999 from rfl,
    minsi_word (by norm_num) (by omega), BitVec.toNat_ofNat]
  omega

theorem bases_ap (n : Fin 57) : bBases b (ix1 n) = BitVec.ofNat 32 (min (seg (nat b) (64 * n.val)) 511) := by
  unfold bBases bases
  pointwise
  rw [seg_ap b hb]
  exact minsi_word ((seg_le _ _).trans_lt (by norm_num)) (by norm_num)
end

end Cert.Proof.Words

end
-- ==== Proof.Online.lean ====
/-
  The running softmax over the extended reals: the greatest score, the denominator and the weighted sum of a set of rows,
  and what joining another set of rows does to them.
-/
module

public import Idealize.ShloMosaic.Lib.Pointwise

@[expose] public section

noncomputable section

namespace Cert.Proof.Online

open Finset Idealize.ShloMosaic

theorem coe_sum {ι : Type} (S : Finset ι) (f : ι → ℝ) : ((∑ i ∈ S, f i : ℝ) : EReal) = ∑ i ∈ S, (f i : EReal) := by
  induction S using Finset.cons_induction with
  | empty => rfl
  | cons a S ha ih => rw [sum_cons, sum_cons, EReal.coe_add, ih]

theorem div_coe' (a : ℝ) {b : ℝ} (hb : b ≠ 0) : Ideal.div (a : EReal) (b : EReal) = ((a / b : ℝ) : EReal) := by
  unfold Ideal.div
  rw [if_neg (by simpa using hb), ← EReal.coe_inv, ← EReal.coe_mul, div_eq_mul_inv]

theorem exp_sub_coe (a b : ℝ) : Ideal.exp ((a : EReal) - (b : EReal)) = ((Real.exp (a - b) : ℝ) : EReal) := by
  rw [← EReal.coe_sub]; rfl

theorem exp_bot : Ideal.exp ⊥ = 0 := rfl
theorem exp_sub_top (a : EReal) : Ideal.exp (a - ⊤) = 0 := by
  rw [sub_eq_add_neg, EReal.neg_top, EReal.add_bot, exp_bot]
theorem exp_bot_sub (a : EReal) : Ideal.exp (⊥ - a) = 0 := by
  rw [sub_eq_add_neg, EReal.bot_add, exp_bot]
theorem exp_nonneg (a : EReal) : 0 ≤ Ideal.exp a := by
  induction a with
  | bot => exact le_rfl
  | top => exact le_top
  | coe r => exact EReal.coe_nonneg.mpr (Real.exp_pos r).le

/-- A real factor that is not negative goes into a sum of extended reals. -/
theorem sum_mul_real {ι : Type} (S : Finset ι) (f : ι → EReal) {r : ℝ} (hr : 0 ≤ r) : (∑ i ∈ S, f i) * (r : EReal) = ∑ i ∈ S, f i * (r : EReal) := by
  induction S using Finset.cons_induction with
  | empty => rw [sum_empty, sum_empty, zero_mul]
  | cons a S ha ih =>
    rw [sum_cons, sum_cons, ← ih, EReal.right_distrib_of_nonneg_of_ne_top (EReal.coe_nonneg.mpr hr) (EReal.coe_ne_top r)]

variable {α : Type}

/-- The greatest score, `⊥` of no rows. -/
def mx (J : Finset α) (e : α → EReal) : EReal := J.sup e
/-- The sum of `x` weighted by the exponentials of the scores, relative to the greatest. -/
def sm (J : Finset α) (e x : α → EReal) : EReal := ∑ j ∈ J, Ideal.exp (e j - mx J e) * x j

theorem le_mx {J : Finset α} (e : α → EReal) {j : α} (h : j ∈ J) : e j ≤ mx J e := le_sup h

variable [DecidableEq α]

theorem mx_union (J K : Finset α) (e : α → EReal) : mx (J ∪ K) e = max (mx J e) (mx K e) := sup_union

/-- The factor that carries a sum relative to the greatest score of `J` to the greatest of `J ∪ K`. -/
def scale (m m' : EReal) : EReal := if ⊥ < m then Ideal.exp (m - m') else 0

theorem scale_term {m m' a : EReal} (hm : m ≤ m') (r : ℝ) (hr : m = (r : EReal)) (ha : a ≤ m) : Ideal.exp (a - m) * Ideal.exp (m - m') = Ideal.exp (a - m') := by
  subst hr
  induction a with
  | bot => rw [exp_bot_sub, exp_bot_sub, zero_mul]
  | top => exact absurd ha (not_le.mpr (EReal.coe_lt_top r))
  | coe q =>
    induction m' with
    | bot => exact absurd hm (not_le.mpr (EReal.bot_lt_coe r))
    | top => rw [exp_sub_top, exp_sub_top, mul_zero]
    | coe p =>
      rw [exp_sub_coe, exp_sub_coe, exp_sub_coe, ← EReal.coe_mul, ← Real.exp_add]
      congr 2
      ring

theorem exp_real {m m' : EReal} (hm : m ≤ m') (r : ℝ) (hr : m = (r : EReal)) : ∃ c : ℝ, 0 ≤ c ∧ Ideal.exp (m - m') = (c : EReal) := by
  subst hr
  induction m' with
  | bot => exact absurd hm (not_le.mpr (EReal.bot_lt_coe r))
  | top => exact ⟨0, le_rfl, exp_sub_top _⟩
  | coe p => exact ⟨_, (Real.exp_pos _).le, exp_sub_coe _ _⟩

theorem scale_mul (J K : Finset α) (e x : α → EReal) :
    sm J e x * scale (mx J e) (mx (J ∪ K) e) = ∑ j ∈ J, Ideal.exp (e j - mx (J ∪ K) e) * x j := by
  have hle : mx J e ≤ mx (J ∪ K) e := sup_mono subset_union_left
  generalize mx (J ∪ K) e = m' at hle ⊢
  have hj : ∀ j ∈ J, e j ≤ mx J e := fun j h => le_mx e h
  unfold sm
  generalize mx J e = m at hle hj ⊢
  unfold scale
  induction m with
  | bot =>
    rw [if_neg (lt_irrefl _), mul_zero]
    refine (sum_eq_zero fun j h => ?_).symm
    rw [le_bot_iff.mp (hj j h), exp_bot_sub, zero_mul]
  | top =>
    rw [top_le_iff.mp hle, exp_sub_top, ite_self, mul_zero]
    refine (sum_eq_zero fun j h => ?_).symm
    rw [exp_sub_top, zero_mul]
  | coe r =>
    rw [if_pos (EReal.bot_lt_coe r)]
    obtain ⟨c, hc, ec⟩ := exp_real hle r rfl
    rw [ec, sum_mul_real _ _ hc]
    refine sum_congr rfl fun j h => ?_
    rw [mul_right_comm, ← ec, scale_term hle r rfl (hj j h)]

/-- Joining the rows `K`: the weighted sum is scaled and `K`'s terms are added. -/
theorem sm_union {J K : Finset α} (hd : Disjoint J K) (e x : α → EReal) :
    sm J e x * scale (mx J e) (mx (J ∪ K) e) + ∑ k ∈ K, Ideal.exp (e k - mx (J ∪ K) e) * x k = sm (J ∪ K) e x := by
  rw [scale_mul, sm, sum_union hd]

/-! ### Dividing the sum, or each weight -/

/-- The greatest score where it is finite, else zero. -/
def low (m : EReal) : EReal := if max m (-m) < ⊤ then m else 0

theorem div_eps {ε : ℝ} (hε : 0 < ε) (a : ℝ) (ha : 0 ≤ a) (b : EReal) : Ideal.div b ((a : EReal) + (ε : EReal)) = b * (((a + ε)⁻¹ : ℝ) : EReal) := by
  unfold Ideal.div
  rw [← EReal.coe_add, if_neg, ← EReal.coe_inv]
  intro h
  have := EReal.coe_eq_zero.mp h
  linarith

theorem zero_div' {d : EReal} (hd : d ≠ 0) : Ideal.div 0 d = 0 := by
  unfold Ideal.div
  rw [if_neg hd, zero_mul]

theorem div_top (b : EReal) : Ideal.div b ⊤ = 0 := by
  unfold Ideal.div
  rw [if_neg (by decide), EReal.inv_top, mul_zero]

omit [DecidableEq α] in
/-- The weighted sum divided is the sum of the rows by their divided weights. -/
theorem div_sum (J : Finset α) (e x : α → EReal) {ε : ℝ} (hε : 0 < ε) :
    ∑ i ∈ J, Ideal.div (Ideal.exp (e i - low (mx J e))) (∑ j ∈ J, Ideal.exp (e j - low (mx J e)) + (ε : EReal)) * x i =
      Ideal.div (sm J e x) (sm J e (fun _ => 1) + (ε : EReal)) := by
  have hε' : (0 : EReal) + (ε : EReal) ≠ 0 := by
    rw [zero_add]; exact fun h => hε.ne' (EReal.coe_eq_zero.mp h)
  have hj : ∀ j ∈ J, e j ≤ mx J e := fun j h => le_mx e h
  have hat : J.Nonempty → ∃ j ∈ J, mx J e = e j := fun h => exists_mem_eq_sup J h e
  unfold sm
  simp only [mul_one]
  generalize mx J e = m at hj hat ⊢
  induction m with
  | bot =>
    have h0 : ∀ j ∈ J, e j = ⊥ := fun j h => le_bot_iff.mp (hj j h)
    have z : ∀ (a : EReal), ∀ j ∈ J, Ideal.exp (e j - a) = 0 := fun a j h => by rw [h0 j h, exp_bot_sub]
    rw [sum_congr rfl (z _), sum_congr rfl (z _), sum_const_zero, sum_congr rfl fun j h => congrArg (· * x j) (z ⊥ j h)]
    simp only [zero_mul, sum_const_zero]
    rw [zero_div' hε']
    exact sum_eq_zero fun j h => by rw [z _ j h, zero_div' hε', zero_mul]
  | top =>
    simp only [exp_sub_top, zero_mul, sum_const_zero]
    rw [zero_div' hε']
    refine sum_eq_zero fun i hi => ?_
    obtain ⟨j, hjJ, ej⟩ := hat ⟨i, hi⟩
    have el : low ⊤ = 0 := by unfold low; rw [if_neg]; simp
    have hs : ∑ j ∈ J, Ideal.exp (e j - low ⊤) = ⊤ := by
      refine top_le_iff.mp (le_trans ?_ (single_le_sum (f := fun j => Ideal.exp (e j - low ⊤)) (fun k _ => exp_nonneg _) hjJ))
      show ⊤ ≤ Ideal.exp (e j - low ⊤)
      rw [← ej, el, sub_zero]
      exact le_rfl
    rw [hs, EReal.top_add_coe, div_top, zero_mul]
  | coe r =>
    have el : low (r : EReal) = (r : EReal) := by
      unfold low
      rw [if_pos]
      rw [← EReal.coe_neg, max_lt_iff]
      exact ⟨EReal.coe_lt_top _, EReal.coe_lt_top _⟩
    have hw : ∀ j ∈ J, ∃ c : ℝ, 0 ≤ c ∧ Ideal.exp (e j - (r : EReal)) = (c : EReal) := fun j h => by
      have hle := hj j h
      generalize e j = a at hle ⊢
      induction a with
      | bot => exact ⟨0, le_rfl, exp_bot_sub _⟩
      | top => exact absurd hle (not_le.mpr (EReal.coe_lt_top r))
      | coe q => exact ⟨_, (Real.exp_pos _).le, exp_sub_coe _ _⟩
    have hD : ∃ D : ℝ, 0 ≤ D ∧ ∑ j ∈ J, Ideal.exp (e j - (r : EReal)) = (D : EReal) := by
      refine ⟨∑ j ∈ J, (Ideal.exp (e j - (r : EReal))).toReal, sum_nonneg fun j h => ?_, ?_⟩
      · obtain ⟨c, hc, ec⟩ := hw j h
        rw [ec, EReal.toReal_coe]; exact hc
      · rw [coe_sum]
        refine sum_congr rfl fun j h => ?_
        obtain ⟨c, hc, ec⟩ := hw j h
        rw [ec, EReal.toReal_coe]
    obtain ⟨D, hD0, eD⟩ := hD
    rw [el, eD, div_eps hε D hD0, sum_mul_real _ _ (by positivity)]
    refine sum_congr rfl fun i _ => ?_
    rw [div_eps hε D hD0, mul_right_comm]

theorem sup_filter {β : Type} (S : Finset β) (p : β → Prop) [DecidablePred p] (g : β → EReal) :
    (S.filter p).sup g = S.fold max ⊥ fun k => if p k then g k else ⊥ := by
  induction S using Finset.cons_induction with
  | empty => rfl
  | cons a S ha ih =>
    rw [fold_cons, filter_cons, ← ih]
    split
    · rw [sup_cons]
    · rw [max_eq_right bot_le]

end Cert.Proof.Online

end
-- ==== Proof.Block.lean ====
/-
  What a block of rows does to the running values, over the extended reals: each of the 80 segments of the window takes
  the rows of the block that carry its label.
-/
module

public import proofs.«01_k».proof.Proof.TcBody
public import proofs.«01_k».proof.Proof.Words
public import proofs.«01_k».proof.Proof.Online
public import Idealize.ShloMosaic.Lib.Pointwise

@[expose] public section

set_option maxRecDepth 65536

noncomputable section

namespace Cert.Proof.Block

open Cert.KernelIdeal Cert.KernelIdeal.Gen
open Idealize.ShloMosaic

/-! ### Constants -/

theorem bits_bot : Ideal.ofBits .f32 4286578688#32 = (⊥ : EReal) := by
  simp [Ideal.ofBits, Ideal.ieee]
theorem bits_top : Ideal.ofBits .f32 2139095040#32 = (⊤ : EReal) := by
  simp [Ideal.ofBits, Ideal.ieee]
theorem bits_eps : ∃ ε : ℝ, 0 < ε ∧ Ideal.ofBits .f32 0x24E69595#32 = (ε : EReal) := by
  have e : Ideal.ofBits .f32 0x24E69595#32 = (((1 : ℝ) * (2 ^ 23 + 6722965 : ℕ) * (2 : ℝ) ^ ((73 : ℤ) - 127 - 23) : ℝ) : EReal) := by
    simp [Ideal.ofBits, Ideal.ieee]
  exact ⟨_, by positivity, e⟩

theorem sel_eq {α : Type} {w : ℕ} (a b : BitVec w) (x y : α) : Scalar.select (IntOp.cmpi .eq a b) x y = if a = b then x else y := by
  refine Words.sel_iff ?_ x y
  rw [show IntOp.cmpi .eq a b = BitVec.ofBool (a == b) from rfl]
  by_cases h : a = b
  · simp [h]
  · rw [show (a == b) = false by simp [h]]
    simp [h]

/-! ### The payloads at a row of the window -/

section Read

variable (x : S2048x128.Idx → Ideal .f32) (bat : S1x1x2048.Idx → BitVec 32) (v : BitVec 32) (hw : S80x128.Idx → Ideal .f32) (mw dw : S80x1.Idx → Ideal .f32)
  (sw : S80x128.Idx → Ideal .f32)

/-- The greatest score of each row of the window after the block. -/
abbrev newMax : S80x1.Idx → EReal := k1_pay20 (F := Ideal) (k1_pay15 x) (k1_pay16 (F := Ideal) bat) (k1_pay17 (F := Ideal) v) hw mw

theorem newMax_ap (r : Fin 80) : newMax x bat v hw mw (ix2 r 0) = max (mw (ix2 r 0)) (Finset.fold max ⊥ (fun j : Fin 2048 =>
    if k1_pay17 (F := Ideal) v (ix2 r j) = bat (ix3 0 0 j) then ∑ c : Fin 128, hw (ix2 r c) * x (ix2 j c) else (⊥ : EReal)) Finset.univ) := by
  have e : newMax x bat v hw mw (ix2 r 0) = max (mw (ix2 r 0)) (Finset.fold max (Ideal.ofBits .f32 4286578688#32) (fun j : Fin 2048 =>
      Scalar.select (IntOp.cmpi .eq (k1_pay17 (F := Ideal) v (ix2 r j)) (bat (ix3 0 0 j))) (∑ c : Fin 128, hw (ix2 r c) * x (ix2 j c)) (Ideal.ofBits .f32 4286578688#32)) Finset.univ) := by
    unfold newMax
    pointwise [k1_pay20, k1_pay15, k1_pay16, k1_pay18, k1_pay19]
  rw [e, bits_bot]
  simp only [sel_eq]

theorem pay2_ap (r : Fin 80) (f : S80x1.Idx → Ideal .f32) : k1_pay2 (F := Ideal) f (ix2 r 0) = f (ix2 r 0) := by
  pointwise [k1_pay2]

/-- The weight that row `j` of the block gets in the window's row `r`. -/
abbrev weight : S80x2048.Idx → EReal := k1_pay22 (F := Ideal) (k1_pay15 x) (k1_pay16 (F := Ideal) bat) (k1_pay17 (F := Ideal) v) hw mw

theorem weight_ap (r : Fin 80) (j : Fin 2048) : weight x bat v hw mw (ix2 r j) =
    if k1_pay17 (F := Ideal) v (ix2 r j) = bat (ix3 0 0 j) then
      Ideal.exp (∑ r' : Fin 80, if k1_pay17 (F := Ideal) v (ix2 r' j) = bat (ix3 0 0 j) then ∑ c : Fin 128, hw (ix2 r' c) * x (ix2 j c) - newMax x bat v hw mw (ix2 r' 0) else (0 : EReal))
    else 0 := by
  have e : weight x bat v hw mw (ix2 r j) = Scalar.select (IntOp.cmpi .eq (k1_pay17 (F := Ideal) v (ix2 r j)) (bat (ix3 0 0 j)))
      (Ideal.exp (∑ r' : Fin 80, Scalar.select (IntOp.cmpi .eq (k1_pay17 (F := Ideal) v (ix2 r' j)) (bat (ix3 0 0 j))) (∑ c : Fin 128, hw (ix2 r' c) * x (ix2 j c) - newMax x bat v hw mw (ix2 r' 0)) (0 : EReal))) 0 := by
    unfold weight newMax
    pointwise [k1_pay22, k1_pay15, k1_pay16, k1_pay18, k1_pay19]
  rw [e]
  simp only [sel_eq]

theorem scale_ap (r : Fin 80) : k1_pay21 (F := Ideal) (k1_pay15 x) (k1_pay16 (F := Ideal) bat) (k1_pay17 (F := Ideal) v) hw mw (ix2 r 0) =
    Online.scale (mw (ix2 r 0)) (newMax x bat v hw mw (ix2 r 0)) := by
  have e : k1_pay21 (F := Ideal) (k1_pay15 x) (k1_pay16 (F := Ideal) bat) (k1_pay17 (F := Ideal) v) hw mw (ix2 r 0) =
      if Ideal.ofBits .f32 4286578688#32 < mw (ix2 r 0) then Ideal.exp (mw (ix2 r 0) - newMax x bat v hw mw (ix2 r 0)) else 0 := by
    unfold newMax
    pointwise [k1_pay21]
  rw [e, bits_bot]
  rfl

theorem den_ap (r : Fin 80) : k1_pay23 (F := Ideal) (k1_pay15 x) (k1_pay16 (F := Ideal) bat) (k1_pay17 (F := Ideal) v) hw mw dw (ix2 r 0) =
    dw (ix2 r 0) * Online.scale (mw (ix2 r 0)) (newMax x bat v hw mw (ix2 r 0)) + ∑ j : Fin 2048, weight x bat v hw mw (ix2 r j) := by
  rw [← scale_ap]
  unfold weight
  pointwise [k1_pay23]

theorem sum_ap (r : Fin 80) (c : Fin 128) : k1_pay1 (F := Ideal) (k1_pay24 (F := Ideal) (k1_pay15 x) (k1_pay16 (F := Ideal) bat) (k1_pay17 (F := Ideal) v) hw mw sw)
      (k1_pay25 (F := Ideal) (k1_pay15 x) (k1_pay16 (F := Ideal) bat) (k1_pay17 (F := Ideal) v) hw mw) (ix2 r c) =
    sw (ix2 r c) * Online.scale (mw (ix2 r 0)) (newMax x bat v hw mw (ix2 r 0)) + ∑ j : Fin 2048, weight x bat v hw mw (ix2 r j) * x (ix2 j c) := by
  have e : ∀ j : Fin 2048, k1_pay15 (F := Ideal) x (ix2 j c) = x (ix2 j c) := fun j => by pointwise [k1_pay15]
  rw [← scale_ap]
  simp only [← e]
  unfold weight
  pointwise [k1_pay1, k1_pay24, k1_pay25]

end Read

/-! ### The window of a base word -/

theorem off2 : ∀ n : Fin 512, k1_off2 (BitVec.ofNat 32 n.val) = ![n.val / 8 * 8, 0] := by decide +kernel
theorem off3 : ∀ n : Fin 512, k1_off3 (BitVec.ofNat 32 n.val) = ![n.val / 8 * 8, 0] := by decide +kernel

theorem base_word : ∀ n : Fin 512, Scalar.muli
    (Scalar.select
      (Scalar.andi
        (Scalar.cmpi .ne
          (Scalar.subi (Scalar.extui (Scalar.cmpi .sgt (BitVec.ofNat 32 n.val) 0#32)) (Scalar.extui (Scalar.cmpi .slt (BitVec.ofNat 32 n.val) 0#32)))
          (Scalar.subi (Scalar.extui (Scalar.cmpi .sgt 8#32 0#32)) (Scalar.extui (Scalar.cmpi .slt 8#32 0#32))) : BitVec 1)
        (Scalar.cmpi .ne (Scalar.remsi (BitVec.ofNat 32 n.val) 8#32) 0#32))
      (Scalar.subi (Scalar.divsi (BitVec.ofNat 32 n.val) 8#32) 1#32) (Scalar.divsi (BitVec.ofNat 32 n.val) 8#32)) 8#32 = BitVec.ofNat 32 (n.val / 8 * 8) := by decide +kernel

theorem row_word (n : Fin 512) (r : Fin 80) (j : Fin 2048) : k1_pay17 (F := Ideal) (BitVec.ofNat 32 n.val) (ix2 r j) = BitVec.ofNat 32 (n.val / 8 * 8 + r.val) := by
  have h := base_word n
  pointwise [k1_pay17]
  refine (congrArg _ h).trans ?_
  rw [Nat.add_comm, BitVec.ofNat_add]
  rfl

/-! ### Reading and overwriting a window -/

section Window

variable {V : Type} (n : Fin 512) (h : k1_chk1 (BitVec.ofNat 32 n.val))

theorem emb128 (r : Fin 80) (c : Fin 128) (q : Fin 592) (hq : q.val = n.val / 8 * 8 + r.val) : (Tc.win128 (BitVec.ofNat 32 n.val) h).emb (ix2 r c) = ix2 q c := by
  funext a
  apply Fin.ext
  have e := congrFun (off2 n) a
  show _ + 1 * _ = _
  fin_cases a
  · simp_all [ix2]
  · simp_all [ix2]

theorem emb1 (r : Fin 80) (q : Fin 592) (hq : q.val = n.val / 8 * 8 + r.val) : (Tc.win1 (BitVec.ofNat 32 n.val) h).emb (ix2 r 0) = ix2 q 0 := by
  funext a
  apply Fin.ext
  have e := congrFun (off3 n) a
  show _ + 1 * _ = _
  fin_cases a
  · simp_all [ix2]
  · simp_all [ix2]

theorem in128 (w : S80x128.Idx → V) (Y : S592x128.Idx → V) (r : Fin 80) (c : Fin 128) (q : Fin 592) (hq : q.val = n.val / 8 * 8 + r.val) :
    Tc.put (Tc.win128 (BitVec.ofNat 32 n.val) h) w Y (ix2 q c) = w (ix2 r c) := by
  rw [← emb128 n h r c q hq]
  exact Tc.put_emb (Tc.win128 (BitVec.ofNat 32 n.val) h) w Y (ix2 r c)

theorem in1 (w : S80x1.Idx → V) (Y : S592x1.Idx → V) (r : Fin 80) (q : Fin 592) (hq : q.val = n.val / 8 * 8 + r.val) :
    Tc.put (Tc.win1 (BitVec.ofNat 32 n.val) h) w Y (ix2 q 0) = w (ix2 r 0) := by
  rw [← emb1 n h r q hq]
  exact Tc.put_emb (Tc.win1 (BitVec.ofNat 32 n.val) h) w Y (ix2 r 0)

theorem out128 (w : S80x128.Idx → V) (Y : S592x128.Idx → V) (c : Fin 128) (q : Fin 592) (hq : ¬(n.val / 8 * 8 ≤ q.val ∧ q.val < n.val / 8 * 8 + 80)) :
    Tc.put (Tc.win128 (BitVec.ofNat 32 n.val) h) w Y (ix2 q c) = Y (ix2 q c) := by
  refine Tc.put_of_not (Tc.win128 (BitVec.ofNat 32 n.val) h) w Y _ fun i hi => hq ?_
  have e : k1_off2 (BitVec.ofNat 32 n.val) 0 = n.val / 8 * 8 := congrFun (off2 n) 0
  have hv : k1_off2 (BitVec.ofNat 32 n.val) 0 + 1 * (i 0).val = q.val := congrArg (fun y : S592x128.Idx => (y 0).val) hi
  have hl : (i 0).val < 80 := (i 0).isLt
  omega

theorem out1 (w : S80x1.Idx → V) (Y : S592x1.Idx → V) (q : Fin 592) (hq : ¬(n.val / 8 * 8 ≤ q.val ∧ q.val < n.val / 8 * 8 + 80)) :
    Tc.put (Tc.win1 (BitVec.ofNat 32 n.val) h) w Y (ix2 q 0) = Y (ix2 q 0) := by
  refine Tc.put_of_not (Tc.win1 (BitVec.ofNat 32 n.val) h) w Y _ fun i hi => hq ?_
  have e : k1_off3 (BitVec.ofNat 32 n.val) 0 = n.val / 8 * 8 := congrFun (off3 n) 0
  have hv : k1_off3 (BitVec.ofNat 32 n.val) 0 + 1 * (i 0).val = q.val := congrArg (fun y : S592x1.Idx => (y 0).val) hi
  have hl : (i 0).val < 80 := (i 0).isLt
  omega

end Window

/-! ### The running values -/

/-- The score of row `j` against the hidden state of segment `s`. -/
def score (H X : ℕ → Fin 128 → EReal) (s j : ℕ) : EReal := ∑ c : Fin 128, H s c * X j c

/-- The hidden states are `H`, and the running values of each segment `s` are those of the rows `J s`. -/
structure Inv (H X : ℕ → Fin 128 → EReal) (J : ℕ → Finset ℕ) (σ : Tc.St Ideal) : Prop where
  hp : ∀ q : Fin 592, q.val < 512 → ∀ c : Fin 128, σ.hp (ix2 q c) = H q.val c
  m : ∀ q : Fin 592, q.val < 512 → σ.m (ix2 q 0) = Online.mx (J q.val) (score H X q.val)
  d : ∀ q : Fin 592, q.val < 512 → σ.d (ix2 q 0) = Online.sm (J q.val) (score H X q.val) (fun _ => 1)
  s : ∀ q : Fin 592, q.val < 512 → ∀ c : Fin 128, σ.s (ix2 q c) = Online.sm (J q.val) (score H X q.val) (fun j => X j c)

/-- A block of rows joins to each segment's rows those of the block that carry its label. -/
theorem block_inv (n : Fin 512) (h : k1_chk1 (BitVec.ofNat 32 n.val)) {H X : ℕ → Fin 128 → EReal} {J : ℕ → Finset ℕ} {σ : Tc.St Ideal} (hσ : Inv H X J σ)
    (x : S2048x128.Idx → Ideal .f32) (bat : S1x1x2048.Idx → BitVec 32) (f : Fin 2048 ↪ ℕ) (g : ℕ → ℕ)
    (hx : ∀ k c, x (ix2 k c) = X (f k) c) (hbat : ∀ k, bat (ix3 0 0 k) = BitVec.ofNat 32 (g (f k))) (hg : ∀ k, g (f k) ≤ 512)
    (hwin : ∀ k, g (f k) < 512 → n.val / 8 * 8 ≤ g (f k) ∧ g (f k) < n.val / 8 * 8 + 80) (hdis : ∀ s k, f k ∉ J s) :
    Inv H X (fun s => J s ∪ (Finset.univ.filter fun k => g (f k) = s).map f) (Tc.block x bat (BitVec.ofNat 32 n.val) h σ) := by
  have hn := n.isLt
  set v := BitVec.ofNat 32 n.val with hv
  set hw : S80x128.Idx → Ideal .f32 := View.ld (Val := Elt Ideal) (e' := .f32) σ.hp (Tc.win128 v h) with hhw
  set mw : S80x1.Idx → Ideal .f32 := View.ld (Val := Elt Ideal) (e' := .f32) σ.m (Tc.win1 v h) with hmw
  set dw : S80x1.Idx → Ideal .f32 := View.ld (Val := Elt Ideal) (e' := .f32) σ.d (Tc.win1 v h) with hdw
  set sw : S80x128.Idx → Ideal .f32 := View.ld (Val := Elt Ideal) (e' := .f32) σ.s (Tc.win128 v h) with hsw
  -- a segment outside the window has no row in the block
  have hout : ∀ q : Fin 592, q.val < 512 → ¬(n.val / 8 * 8 ≤ q.val ∧ q.val < n.val / 8 * 8 + 80) →
      J q.val ∪ (Finset.univ.filter fun k => g (f k) = q.val).map f = J q.val := fun q hq ho => by
    rw [Finset.filter_false_of_mem, Finset.map_empty, Finset.union_empty]
    intro k _ hk
    exact ho (hk ▸ hwin k (hk ▸ hq))
  have hhit : ∀ (r : Fin 80) (k : Fin 2048), k1_pay17 (F := Ideal) v (ix2 r k) = bat (ix3 0 0 k) ↔ g (f k) = n.val / 8 * 8 + r.val := fun r k => by
    have hr := r.isLt
    have hk := hg k
    rw [hv, row_word, hbat]
    constructor
    · intro e
      have := congrArg BitVec.toNat e
      simp only [BitVec.toNat_ofNat] at this
      omega
    · intro e; rw [e]
  -- the scores of a row of the window
  have hsc : ∀ (r : Fin 80) (q : Fin 592), q.val = n.val / 8 * 8 + r.val → q.val < 512 → ∀ k, ∑ c : Fin 128, hw (ix2 r c) * x (ix2 k c) = score H X q.val (f k) := fun r q hq h5 k => by
    rw [score]
    refine Finset.sum_congr rfl fun c _ => ?_
    rw [hx, ← hσ.hp q h5 c, ← emb128 n h r c q hq]
    rfl
  have hm1 : ∀ (r : Fin 80) (q : Fin 592), q.val = n.val / 8 * 8 + r.val → q.val < 512 → mw (ix2 r 0) = Online.mx (J q.val) (score H X q.val) := fun r q hq h5 => by
    rw [← hσ.m q h5, ← emb1 n h r q hq]
    rfl
  have hd1 : ∀ (r : Fin 80) (q : Fin 592), q.val = n.val / 8 * 8 + r.val → q.val < 512 → dw (ix2 r 0) = Online.sm (J q.val) (score H X q.val) (fun _ => 1) := fun r q hq h5 => by
    rw [← hσ.d q h5, ← emb1 n h r q hq]
    rfl
  have hs1 : ∀ (r : Fin 80) (q : Fin 592), q.val = n.val / 8 * 8 + r.val → q.val < 512 → ∀ c, sw (ix2 r c) = Online.sm (J q.val) (score H X q.val) (fun j => X j c) := fun r q hq h5 c => by
    rw [← hσ.s q h5 c, ← emb128 n h r c q hq]
    rfl
  have hnew : ∀ (r : Fin 80) (q : Fin 592), q.val = n.val / 8 * 8 + r.val → q.val < 512 → newMax x bat v hw mw (ix2 r 0) =
      Online.mx (J q.val ∪ (Finset.univ.filter fun k => g (f k) = q.val).map f) (score H X q.val) := fun r q hq h5 => by
    rw [newMax_ap, Online.mx_union, hm1 r q hq h5]
    refine congrArg _ ?_
    rw [Online.mx, Finset.sup_map, Online.sup_filter]
    refine Finset.fold_congr fun k _ => ?_
    rw [hsc r q hq h5 k, hq]
    exact if_congr (hhit r k) rfl rfl
  have hwt : ∀ (r : Fin 80) (q : Fin 592), q.val = n.val / 8 * 8 + r.val → q.val < 512 → ∀ k, weight x bat v hw mw (ix2 r k) =
      if g (f k) = q.val then Ideal.exp (score H X q.val (f k) - Online.mx (J q.val ∪ (Finset.univ.filter fun k => g (f k) = q.val).map f) (score H X q.val)) else 0 := fun r q hq h5 k => by
    rw [weight_ap]
    by_cases hk : g (f k) = q.val
    · rw [if_pos ((hhit r k).mpr (hk.trans hq)), if_pos hk, Finset.sum_eq_single r, if_pos ((hhit r k).mpr (hk.trans hq)), hsc r q hq h5 k, hnew r q hq h5]
      · intro r' _ hr'
        rw [if_neg]
        intro hc
        have := (hhit r' k).mp hc
        exact hr' (Fin.ext (by omega))
      · intro hc; exact absurd (Finset.mem_univ r) hc
    · rw [if_neg hk, if_neg]
      intro hc
      exact hk (((hhit r k).mp hc).trans hq.symm)
  have hdj : ∀ s, Disjoint (J s) ((Finset.univ.filter fun k => g (f k) = s).map f) := fun s => by
    rw [Finset.disjoint_right]
    intro j hj
    obtain ⟨k, -, rfl⟩ := Finset.mem_map.mp hj
    exact hdis s k
  refine ⟨fun q hq c => hσ.hp q hq c, fun q hq => ?_, fun q hq => ?_, fun q hq c => ?_⟩
  · by_cases ho : n.val / 8 * 8 ≤ q.val ∧ q.val < n.val / 8 * 8 + 80
    · obtain ⟨r, hr⟩ : ∃ r : Fin 80, q.val = n.val / 8 * 8 + r.val := ⟨⟨q.val - n.val / 8 * 8, by omega⟩, by simp only []; omega⟩
      exact (in1 n h _ _ r q hr).trans ((pay2_ap r _).trans (hnew r q hr hq))
    · refine (out1 n h _ _ q ho).trans ?_
      simp only [hout q hq ho]
      exact hσ.m q hq
  · by_cases ho : n.val / 8 * 8 ≤ q.val ∧ q.val < n.val / 8 * 8 + 80
    · obtain ⟨r, hr⟩ : ∃ r : Fin 80, q.val = n.val / 8 * 8 + r.val := ⟨⟨q.val - n.val / 8 * 8, by omega⟩, by simp only []; omega⟩
      refine (in1 n h _ _ r q hr).trans ((den_ap x bat v hw mw dw r).trans ?_)
      rw [hnew r q hr hq, hm1 r q hr hq, hd1 r q hr hq, ← Online.sm_union (hdj q.val) (score H X q.val), Finset.sum_map, Finset.sum_filter]
      refine congrArg _ (Finset.sum_congr rfl fun k _ => ?_)
      exact (hwt r q hr hq k).trans (if_congr Iff.rfl (mul_one _).symm rfl)
    · refine (out1 n h _ _ q ho).trans ?_
      simp only [hout q hq ho]
      exact hσ.d q hq
  · by_cases ho : n.val / 8 * 8 ≤ q.val ∧ q.val < n.val / 8 * 8 + 80
    · obtain ⟨r, hr⟩ : ∃ r : Fin 80, q.val = n.val / 8 * 8 + r.val := ⟨⟨q.val - n.val / 8 * 8, by omega⟩, by simp only []; omega⟩
      refine (in128 n h _ _ r c q hr).trans ((sum_ap x bat v hw mw sw r c).trans ?_)
      rw [hnew r q hr hq, hm1 r q hr hq, hs1 r q hr hq, ← Online.sm_union (hdj q.val) (score H X q.val), Finset.sum_map, Finset.sum_filter]
      refine congrArg _ (Finset.sum_congr rfl fun k _ => ?_)
      refine (congrArg₂ (fun a b : EReal => a * b) (hwt r q hr hq k) (hx k c)).trans ?_
      split
      · rfl
      · exact zero_mul _
    · have e : (Tc.block x bat v h σ).s = Tc.put (Tc.win128 v h) _ σ.s := rfl
      rw [e, out128 n h _ σ.s c q ho]
      simp only [hout q hq ho]
      exact hσ.s q hq c

end Cert.Proof.Block

end
-- ==== Proof.Step.lean ====
/-
  One round of the pooling as functions of an index: the step of the recurrence, the attention over each segment's rows and
  the readout. The kernel and the reference both take four of these rounds from zeros.
-/
module

public import proofs.«01_k».proof.Proof.Online

@[expose] public section

noncomputable section

namespace Cert.Proof.Step

open Finset Idealize.ShloMosaic Cert.Proof.Online

/-- What the rounds read: the weights, the sum of the two biases, the rows, their labels, and the constant of the division. -/
structure Par where
  wih : Fin 512 → Fin 256 → EReal
  whh : Fin 512 → Fin 128 → EReal
  b : Fin 512 → EReal
  x : Fin 100000 → Fin 128 → EReal
  lab : Fin 100000 → ℕ
  eps : ℝ

/-- What a round carries to the next: the query with its readout, the hidden states and the cells. -/
@[ext] structure State where
  q : Fin 512 → Fin 256 → EReal
  h : Fin 512 → Fin 128 → EReal
  c : Fin 512 → Fin 128 → EReal

def zero : State := ⟨fun _ _ => 0, fun _ _ => 0, fun _ _ => 0⟩

variable (P : Par)

/-- The four gates before their activations, side by side. -/
def gate (σ : State) (s g : Fin 512) : EReal := ∑ k, σ.q s k * P.wih g k + ∑ k, σ.h s k * P.whh g k + P.b g

def cell (σ : State) (s : Fin 512) (k : Fin 128) : EReal :=
  Ideal.logistic (gate P σ s ⟨128 + k.val, by omega⟩) * σ.c s k + Ideal.logistic (gate P σ s ⟨k.val, by omega⟩) * Ideal.tanh (gate P σ s ⟨256 + k.val, by omega⟩)

def hid (σ : State) (s : Fin 512) (k : Fin 128) : EReal := Ideal.logistic (gate P σ s ⟨384 + k.val, by omega⟩) * Ideal.tanh (cell P σ s k)

/-- The rows that carry the label `s`. -/
def rows (s : Fin 512) : Finset (Fin 100000) := univ.filter fun i => P.lab i = s.val

/-- The score of row `i` against the hidden state `h`. -/
def sc (h : Fin 128 → EReal) (i : Fin 100000) : EReal := ∑ c, h c * P.x i c

/-- The readout of the segment `s` for the hidden states `h`. -/
def readout (h : Fin 512 → Fin 128 → EReal) (s : Fin 512) (c : Fin 128) : EReal :=
  Ideal.div (sm (rows P s) (sc P (h s)) (fun i => P.x i c)) (sm (rows P s) (sc P (h s)) (fun _ => 1) + (P.eps : EReal))

def next (σ : State) : State where
  q s k := if h : k.val < 128 then hid P σ s ⟨k.val, h⟩ else readout P (hid P σ) s ⟨k.val - 128, by omega⟩
  h := hid P σ
  c := cell P σ

end Cert.Proof.Step

end
-- ==== Proof.KStep.lean ====
/-
  What a round's first point and its last do to the kernel's scratch buffers, over the extended reals.
-/
module

public import proofs.«01_k».proof.Proof.Block
public import proofs.«01_k».proof.Proof.Step

@[expose] public section

set_option maxRecDepth 65536

noncomputable section

namespace Cert.Proof.KStep

open Cert.KernelIdeal Cert.KernelIdeal.Gen
open Idealize.ShloMosaic
open Cert.Proof.Block (Inv score)

/-! ### The payloads at an index -/

section Read

variable (q w : S512x256.Idx → Ideal .f32) (h u c : S512x128.Idx → Ideal .f32) (b : S1x512.Idx → Ideal .f32)

theorem gate_ap (s g : Fin 512) : k1_pay4 (F := Ideal) q w h u b (ix2 s g) =
    ∑ k : Fin 256, q (ix2 s k) * w (ix2 g k) + ∑ k : Fin 128, h (ix2 s k) * u (ix2 g k) + b (ix2 0 g) := by
  pointwise [k1_pay4]

theorem cell_ap (s : Fin 512) (k : Fin 128) : k1_pay5 (F := Ideal) q w h u b c (ix2 s k) =
    Ideal.logistic (k1_pay4 (F := Ideal) q w h u b (ix2 s ⟨128 + k.val, by omega⟩)) * c (ix2 s k) +
      Ideal.logistic (k1_pay4 (F := Ideal) q w h u b (ix2 s ⟨k.val, by omega⟩)) * Ideal.tanh (k1_pay4 (F := Ideal) q w h u b (ix2 s ⟨256 + k.val, by omega⟩)) := by
  pointwise [k1_pay5]

theorem cell_store (s : Fin 512) (k : Fin 128) : k1_pay7 (F := Ideal) q w h u b c (ix2 s k) = k1_pay5 (F := Ideal) q w h u b c (ix2 s k) := by
  pointwise [k1_pay7]

theorem hid_ap (s : Fin 512) (k : Fin 128) : k1_pay6 (F := Ideal) q w h u b c (ix2 s k) =
    Ideal.logistic (k1_pay4 (F := Ideal) q w h u b (ix2 s ⟨384 + k.val, by omega⟩)) * Ideal.tanh (k1_pay5 (F := Ideal) q w h u b c (ix2 s k)) := by
  pointwise [k1_pay6]

theorem query_ap (d : S512x1.Idx → Ideal .f32) (s : Fin 512) (k : Fin 256) : k1_pay3 (F := Ideal) h d u (ix2 s k) =
    if hk : k.val < 128 then u (ix2 s ⟨k.val, hk⟩) else Ideal.div (h (ix2 s ⟨k.val - 128, by omega⟩)) (d (ix2 s 0) + Ideal.ofBits .f32 0x24E69595#32) := by
  pointwise [k1_pay3]

theorem max_clear (s : Fin 592) : k1_pay8 (F := Ideal) (Scalar.ofBits .f32 0xFF800000#32) (ix2 s 0) = (⊥ : EReal) := by
  have e : k1_pay8 (F := Ideal) (Scalar.ofBits .f32 0xFF800000#32) (ix2 s 0) = Ideal.ofBits .f32 4286578688#32 := by pointwise [k1_pay8]
  rw [e, Block.bits_bot]

theorem den_clear (s : Fin 592) : k1_pay13 (F := Ideal) k1_pay9 (ix2 s 0) = (0 : EReal) := by pointwise [k1_pay13, k1_pay9]
theorem sum_clear (s : Fin 592) (k : Fin 128) : k1_pay14 (F := Ideal) (ix2 s k) = (0 : EReal) := by pointwise [k1_pay14]
theorem q_clear (s : Fin 512) (k : Fin 256) : k1_pay10 (F := Ideal) (ix2 s k) = (0 : EReal) := by pointwise [k1_pay10]
theorem h_clear (s : Fin 592) (k : Fin 128) : k1_pay11 (F := Ideal) (ix2 s k) = (0 : EReal) := by pointwise [k1_pay11]
theorem c_clear (s : Fin 512) (k : Fin 128) : k1_pay12 (F := Ideal) (ix2 s k) = (0 : EReal) := by pointwise [k1_pay12]

end Read

/-! ### The first 512 rows -/

theorem low_emb128 (s : Fin 512) (k : Fin 128) (q : Fin 592) (hq : q.val = s.val) : Tc.low128.emb (ix2 s k) = ix2 q k := by
  funext a
  apply Fin.ext
  show _ + 1 * _ = _
  fin_cases a
  · simp_all [ix2]
  · simp_all [ix2]

theorem low_emb1 (s : Fin 512) (q : Fin 592) (hq : q.val = s.val) : Tc.low1.emb (ix2 s 0) = ix2 q 0 := by
  funext a
  apply Fin.ext
  show _ + 1 * _ = _
  fin_cases a
  · simp_all [ix2]
  · simp_all [ix2]

/-- The row of the scratch buffers that holds the segment `s`. -/
abbrev up (s : Fin 512) : Fin 592 := ⟨s.val, by omega⟩

theorem ld128 (Y : S592x128.Idx → Ideal .f32) (s : Fin 512) (k : Fin 128) : View.ld (Val := Elt Ideal) (e' := .f32) Y Tc.low128 (ix2 s k) = Y (ix2 (up s) k) :=
  congrArg Y (low_emb128 s k (up s) rfl)
theorem ld1 (Y : S592x1.Idx → Ideal .f32) (s : Fin 512) : View.ld (Val := Elt Ideal) (e' := .f32) Y Tc.low1 (ix2 s 0) = Y (ix2 (up s) 0) :=
  congrArg Y (low_emb1 s (up s) rfl)

/-! ### The rounds -/

variable (P : Step.Par)

/-- The scratch buffers hold what a round starts from. -/
structure AtStart (σ : Tc.St Ideal) (S : Step.State) : Prop where
  q : ∀ s k, σ.qs (ix2 s k) = S.q s k
  h : ∀ s k, σ.hp (ix2 (up s) k) = S.h s k
  c : ∀ s k, σ.c (ix2 s k) = S.c s k

/-- The hidden states of the round that starts from `S`, by segment number. -/
def hidN (S : Step.State) (s : ℕ) (k : Fin 128) : EReal := if h : s < 512 then Step.hid P S ⟨s, h⟩ k else 0

/-- The scratch buffers within a round that started from `S`, the rows `J s` of each segment processed. -/
structure Within (X : ℕ → Fin 128 → EReal) (J : ℕ → Finset ℕ) (σ : Tc.St Ideal) (S : Step.State) : Prop where
  inv : Inv (hidN P S) X J σ
  c : ∀ s k, σ.c (ix2 s k) = Step.cell P S s k

variable {P} {wih : S512x256.Idx → Ideal .f32} {whh : S512x128.Idx → Ideal .f32} {bias : S1x512.Idx → Ideal .f32}

/-- The weights and the bias are those of the rounds. -/
structure Weights (P : Step.Par) (wih : S512x256.Idx → Ideal .f32) (whh : S512x128.Idx → Ideal .f32) (bias : S1x512.Idx → Ideal .f32) : Prop where
  hwih : ∀ g k, wih (ix2 g k) = P.wih g k
  hwhh : ∀ g k, whh (ix2 g k) = P.whh g k
  hb : ∀ g, bias (ix2 0 g) = P.b g

theorem start_within (hW : Weights P wih whh bias) {σ : Tc.St Ideal} {S : Step.State} (hσ : AtStart σ S) (X : ℕ → Fin 128 → EReal) :
    Within P X (fun _ => ∅) (Tc.start wih whh bias σ) S := by
  have hg : ∀ s g, k1_pay4 (F := Ideal) σ.qs wih (View.ld (Val := Elt Ideal) (e' := .f32) σ.hp Tc.low128) whh bias (ix2 s g) = Step.gate P S s g := fun s g => by
    have e : ∑ k : Fin 128, View.ld (Val := Elt Ideal) (e' := .f32) σ.hp Tc.low128 (ix2 s k) * whh (ix2 g k) = ∑ k : Fin 128, S.h s k * P.whh g k :=
      Finset.sum_congr rfl fun k _ => congrArg₂ (fun a b : EReal => a * b) ((ld128 σ.hp s k).trans (hσ.h s k)) (hW.hwhh g k)
    rw [gate_ap, Step.gate]
    simp only [hσ.q, hW.hwih, hW.hb]
    exact congrArg (fun a : EReal => _ + a + _) e
  have hc : ∀ s k, k1_pay5 (F := Ideal) σ.qs wih (View.ld (Val := Elt Ideal) (e' := .f32) σ.hp Tc.low128) whh bias σ.c (ix2 s k) = Step.cell P S s k := fun s k => by
    rw [cell_ap, Step.cell]
    simp only [hg, hσ.c]
  have hh : ∀ s k, k1_pay6 (F := Ideal) σ.qs wih (View.ld (Val := Elt Ideal) (e' := .f32) σ.hp Tc.low128) whh bias σ.c (ix2 s k) = Step.hid P S s k := fun s k => by
    rw [hid_ap, Step.hid]
    simp only [hg, hc]
  refine ⟨⟨fun q hq k => ?_, fun q _ => max_clear q, fun q _ => den_clear q, fun q _ k => sum_clear q k⟩, fun s k => (cell_store _ _ _ _ _ _ s k).trans (hc s k)⟩
  have e : (Tc.start wih whh bias σ).hp = Tc.put Tc.low128 (k1_pay6 (F := Ideal) σ.qs wih (View.ld (Val := Elt Ideal) (e' := .f32) σ.hp Tc.low128) whh bias σ.c) σ.hp := rfl
  rw [e, ← low_emb128 ⟨q.val, hq⟩ k q rfl]
  refine (Tc.put_emb Tc.low128 _ σ.hp (ix2 (⟨q.val, hq⟩ : Fin 512) k)).trans ?_
  rw [hh, hidN, dif_pos hq]

theorem block_c {X : ℕ → Fin 128 → EReal} {J : ℕ → Finset ℕ} {σ σ' : Tc.St Ideal} {S : Step.State} (h : Within P X J σ S) {J' : ℕ → Finset ℕ} (hi : Inv (hidN P S) X J' σ') (hc : σ'.c = σ.c) :
    Within P X J' σ' S := ⟨hi, fun s k => by rw [hc]; exact h.c s k⟩

/-- The end of a round, when the rows processed of each segment are all its rows. -/
theorem finish_start (hbits : Ideal.ofBits .f32 0x24E69595#32 = (P.eps : EReal)) {X : ℕ → Fin 128 → EReal} {J : ℕ → Finset ℕ} {σ : Tc.St Ideal} {S : Step.State}
    (h : Within P X J σ S)
    (hJ : ∀ (s : Fin 512) (y : (Fin 128 → EReal) → EReal), Online.sm (J s.val) (score (hidN P S) X s.val) (fun j => y (X j)) =
      Online.sm (Step.rows P s) (Step.sc P (Step.hid P S s)) (fun i => y (P.x i))) :
    AtStart (Tc.finish σ) (Step.next P S) := by
  have hh : ∀ s k, σ.hp (ix2 (up s) k) = Step.hid P S s k := fun s k => by
    rw [h.inv.hp (up s) s.isLt k, hidN, dif_pos s.isLt]
  refine ⟨fun s k => ?_, hh, h.c⟩
  refine (query_ap _ _ _ s k).trans ?_
  show _ = if h : k.val < 128 then Step.hid P S s ⟨k.val, h⟩ else Step.readout P (Step.hid P S) s ⟨k.val - 128, by omega⟩
  split
  · rw [ld128]; exact hh s _
  · rename_i hk
    rw [ld128, ld1, h.inv.s (up s) s.isLt, h.inv.d (up s) s.isLt, hJ s (fun v => v ⟨k.val - 128, by omega⟩), hJ s (fun _ => 1), hbits]
    rfl

theorem init_start (σ : Tc.St Ideal) : AtStart (Tc.init σ) Step.zero := ⟨q_clear, fun s k => h_clear (up s) k, c_clear⟩

end Cert.Proof.KStep

end
-- ==== Proof.Points.lean ====
/-
  The grid points of the TensorCore call: their coordinates, the conditions they meet, and the blocks they read.
-/
module

public import proofs.«01_k».proof.Proof.Region
public import proofs.«01_k».proof.Proof.KStep
public import Idealize.ShloMosaic.Lib.Pipeline.ValueKit

@[expose] public section

set_option maxRecDepth 65536

noncomputable section

namespace Cert.Proof.Points

open Cert.KernelIdeal Cert.KernelIdeal.Gen
open Idealize.ShloMosaic Idealize.ShloMosaic.TcCoe
open Cert.Proof.Tc

theorem first_all : ∀ t : Fin 228, condFirst (grid1.coords (t.cast N_1.symm)) = 1#1 ↔ t.val = 0 := by decide +kernel
theorem start_all : ∀ t : Fin 228, condStart (grid1.coords (t.cast N_1.symm)) = 1#1 ↔ t.val % 57 = 0 := by decide +kernel
theorem last_all : ∀ t : Fin 228, condLast (grid1.coords (t.cast N_1.symm)) = 1#1 ↔ t.val % 57 = 56 := by decide +kernel
theorem off_all : ∀ t : Fin 228, k1_off1 (grid1.coords (t.cast N_1.symm)) 0 = t.val % 57 := by decide +kernel

theorem map_all : ∀ t : Fin 228, cc1_transform_0 (grid1.coords (t.cast N_1.symm)) = ![t.val % 57, 0] ∧ cc1_transform_1 (grid1.coords (t.cast N_1.symm)) = ![t.val % 57, 0, 0] ∧
    cc1_transform_2 (grid1.coords (t.cast N_1.symm)) = ![0, 0] ∧ cc1_transform_3 (grid1.coords (t.cast N_1.symm)) = ![0, 0] ∧ cc1_transform_4 (grid1.coords (t.cast N_1.symm)) = ![0, 0] := by decide +kernel

variable (tb : S57.Idx → BitVec 32) (W : (c : Dev nD) → Valuation τ sig (Elt Ideal)) (c : Dev nD) (t : Fin (cfgT (F := Ideal) tb).N)

theorem N_T : (cfgT (F := Ideal) tb).N = 228 := N_1

theorem x_block (k : Fin 2048) (j : Fin 128) (q : Fin 116736) (hq : q.val = t.val % 57 * 2048 + k.val) :
    blkOf tb W c 0 t (ix2 k j) = W c (Proc.devRef .tc main_v69) (ix2 q j) := by
  refine congrArg (W c (Proc.devRef .tc main_v69)) (funext fun a => Fin.ext ((Pipeline.Window.rect_emb_val ((cfgT (F := Ideal) tb).win 0) t (ix2 k j) a).trans (Eq.symm ?_)))
  have e : cc1_transform_0 (grid1.coords t) = ![t.val % 57, 0] := (map_all (t.cast (N_T tb))).1
  have e0 : ((cfgT (F := Ideal) tb).win 0).index t (0 : Fin 2) = t.val % 57 := congrFun e 0
  have e1 : ((cfgT (F := Ideal) tb).win 0).index t (1 : Fin 2) = 0 := congrFun e 1
  match a with
  | ⟨0, _⟩ => show q.val = ((cfgT (F := Ideal) tb).win 0).index t (0 : Fin 2) * 2048 + k.val; rw [e0, hq]
  | ⟨1, _⟩ => show j.val = ((cfgT (F := Ideal) tb).win 0).index t (1 : Fin 2) * 128 + j.val; rw [e1]; omega

theorem seg_block (k : Fin 2048) (q : Fin 57) (hq : q.val = t.val % 57) :
    blkOf tb W c 1 t (ix3 0 0 k) = W c (Proc.devRef .tc main_v70) (ix3 q 0 k) := by
  refine congrArg (W c (Proc.devRef .tc main_v70)) (funext fun a => Fin.ext ((Pipeline.Window.rect_emb_val ((cfgT (F := Ideal) tb).win 1) t (ix3 0 0 k) a).trans (Eq.symm ?_)))
  have e : cc1_transform_1 (grid1.coords t) = ![t.val % 57, 0, 0] := (map_all (t.cast (N_T tb))).2.1
  have e0 : ((cfgT (F := Ideal) tb).win 1).index t (0 : Fin 3) = t.val % 57 := congrFun e 0
  have e1 : ((cfgT (F := Ideal) tb).win 1).index t (1 : Fin 3) = 0 := congrFun e 1
  have e2 : ((cfgT (F := Ideal) tb).win 1).index t (2 : Fin 3) = 0 := congrFun e 2
  match a with
  | ⟨0, _⟩ => show q.val = ((cfgT (F := Ideal) tb).win 1).index t (0 : Fin 3) * 1 + 0; rw [e0, hq]; omega
  | ⟨1, _⟩ => show 0 = ((cfgT (F := Ideal) tb).win 1).index t (1 : Fin 3) * 1 + 0; rw [e1]
  | ⟨2, _⟩ => show k.val = ((cfgT (F := Ideal) tb).win 1).index t (2 : Fin 3) * 2048 + k.val; rw [e2]; omega

theorem wih_block (g : Fin 512) (k : Fin 256) : blkOf tb W c 2 t (ix2 g k) = W c (Proc.devRef .tc main_arg2) (ix2 g k) := by
  refine congrArg (W c (Proc.devRef .tc main_arg2)) (funext fun a => Fin.ext ((Pipeline.Window.rect_emb_val ((cfgT (F := Ideal) tb).win 2) t (ix2 g k) a).trans (Eq.symm ?_)))
  have e : cc1_transform_2 (grid1.coords t) = ![0, 0] := (map_all (t.cast (N_T tb))).2.2.1
  have e0 : ((cfgT (F := Ideal) tb).win 2).index t (0 : Fin 2) = 0 := congrFun e 0
  have e1 : ((cfgT (F := Ideal) tb).win 2).index t (1 : Fin 2) = 0 := congrFun e 1
  match a with
  | ⟨0, _⟩ => show g.val = ((cfgT (F := Ideal) tb).win 2).index t (0 : Fin 2) * 512 + g.val; rw [e0]; omega
  | ⟨1, _⟩ => show k.val = ((cfgT (F := Ideal) tb).win 2).index t (1 : Fin 2) * 256 + k.val; rw [e1]; omega

theorem whh_block (g : Fin 512) (k : Fin 128) : blkOf tb W c 3 t (ix2 g k) = W c (Proc.devRef .tc main_arg3) (ix2 g k) := by
  refine congrArg (W c (Proc.devRef .tc main_arg3)) (funext fun a => Fin.ext ((Pipeline.Window.rect_emb_val ((cfgT (F := Ideal) tb).win 3) t (ix2 g k) a).trans (Eq.symm ?_)))
  have e : cc1_transform_3 (grid1.coords t) = ![0, 0] := (map_all (t.cast (N_T tb))).2.2.2.1
  have e0 : ((cfgT (F := Ideal) tb).win 3).index t (0 : Fin 2) = 0 := congrFun e 0
  have e1 : ((cfgT (F := Ideal) tb).win 3).index t (1 : Fin 2) = 0 := congrFun e 1
  match a with
  | ⟨0, _⟩ => show g.val = ((cfgT (F := Ideal) tb).win 3).index t (0 : Fin 2) * 512 + g.val; rw [e0]; omega
  | ⟨1, _⟩ => show k.val = ((cfgT (F := Ideal) tb).win 3).index t (1 : Fin 2) * 128 + k.val; rw [e1]; omega

theorem bias_block (g : Fin 512) : blkOf tb W c 4 t (ix2 0 g) = W c (Proc.devRef .tc main_v72) (ix2 0 g) := by
  refine congrArg (W c (Proc.devRef .tc main_v72)) (funext fun a => Fin.ext ((Pipeline.Window.rect_emb_val ((cfgT (F := Ideal) tb).win 4) t (ix2 0 g) a).trans (Eq.symm ?_)))
  have e : cc1_transform_4 (grid1.coords t) = ![0, 0] := (map_all (t.cast (N_T tb))).2.2.2.2
  have e0 : ((cfgT (F := Ideal) tb).win 4).index t (0 : Fin 2) = 0 := congrFun e 0
  have e1 : ((cfgT (F := Ideal) tb).win 4).index t (1 : Fin 2) = 0 := congrFun e 1
  match a with
  | ⟨0, _⟩ => show 0 = ((cfgT (F := Ideal) tb).win 4).index t (0 : Fin 2) * 1 + 0; rw [e0]
  | ⟨1, _⟩ => show g.val = ((cfgT (F := Ideal) tb).win 4).index t (1 : Fin 2) * 512 + g.val; rw [e1]; omega

theorem word_at (q : Fin 57) (hq : q.val = t.val % 57) : word (F := Ideal) (grid1.coords t) tb = tb (ix1 q) := by
  refine congrArg tb (funext fun a => Fin.ext ?_)
  match a with
  | ⟨0, _⟩ => exact (congrArg (· + 1 * 0) (off_all (t.cast (N_T tb)))).trans hq.symm

theorem first_at : condFirst (grid1.coords t) = 1#1 ↔ t.val = 0 := first_all (t.cast (N_T tb))
theorem start_at : condStart (grid1.coords t) = 1#1 ↔ t.val % 57 = 0 := start_all (t.cast (N_T tb))
theorem last_at : condLast (grid1.coords t) = 1#1 ↔ t.val % 57 = 56 := last_all (t.cast (N_T tb))

end Cert.Proof.Points

end
-- ==== Proof.Rounds.lean ====
/-
  The grid's points in order: the rows processed by each, and what the scratch buffers hold after each round.
-/
module

public import proofs.«01_k».proof.Proof.Points
public import proofs.«01_k».proof.Proof.Words

@[expose] public section

set_option maxRecDepth 65536

noncomputable section

namespace Cert.Proof.Rounds

open Cert.KernelIdeal Cert.KernelIdeal.Gen
open Idealize.ShloMosaic Idealize.ShloMosaic.TcCoe
open Cert.Proof.Tc Cert.Proof.Host Cert.Proof.Words Cert.Proof.Lay Cert.Proof.Block Cert.Proof.KStep

/-! ### The rows processed -/

/-- The padded rows of the segment `s` in the first `n` blocks. -/
def J (B : Fin 100000 → ℕ) (n s : ℕ) : Finset ℕ := (Finset.range (2048 * n)).filter fun j => segN B j = s

/-- The padded rows of the block `n`. -/
def rowsOf (n : ℕ) : Fin 2048 ↪ ℕ := ⟨fun k => n * 2048 + k.val, fun a b h => Fin.ext (by simpa using h)⟩

theorem rowsOf_ap (n : ℕ) (k : Fin 2048) : rowsOf n k = n * 2048 + k.val := rfl

theorem J_zero (B : Fin 100000 → ℕ) : J B 0 = fun _ => ∅ := by funext s; simp [J]

theorem J_succ (B : Fin 100000 → ℕ) (n s : ℕ) :
    J B n s ∪ (Finset.univ.filter fun k => segN B (rowsOf n k) = s).map (rowsOf n) = J B (n + 1) s := by
  ext j
  simp only [J, Finset.mem_union, Finset.mem_filter, Finset.mem_range, Finset.mem_map, Finset.mem_univ, true_and]
  constructor
  · rintro (⟨h1, h2⟩ | ⟨k, h1, rfl⟩)
    · exact ⟨by omega, h2⟩
    · exact ⟨by rw [rowsOf_ap]; have := k.isLt; omega, h1⟩
  · rintro ⟨h1, h2⟩
    rcases lt_or_ge j (2048 * n) with h | h
    · exact Or.inl ⟨h, h2⟩
    · have e : rowsOf n ⟨j - 2048 * n, by omega⟩ = j := by rw [rowsOf_ap]; show n * 2048 + (j - 2048 * n) = j; omega
      exact Or.inr ⟨⟨j - 2048 * n, by omega⟩, by rw [e]; exact h2, e⟩

theorem J_dis (B : Fin 100000 → ℕ) (n s : ℕ) (k : Fin 2048) : rowsOf n k ∉ J B n s := by
  simp only [J, Finset.mem_filter, Finset.mem_range, rowsOf_ap]; omega

/-! ### The padded rows of a segment and its rows -/

variable (P : Step.Par) (b : IVec S100000 32)

/-- The row that the padded row `j` holds. -/
def from' (j : ℕ) : Fin 100000 := ⟨(bSrc b (ix1 ⟨j % 116736, Nat.mod_lt _ (by norm_num)⟩)).toNat % 100000, Nat.mod_lt _ (by norm_num)⟩

/-- The padded rows. -/
def XP (j : ℕ) (k : Fin 128) : EReal := P.x (from' b j) k

/-- What the batch must be: sorted, below 512, with at most nine empty segments among any 72 in a row. -/
structure Sorted : Prop where
  lt : ∀ i, nat b i < 512
  mono : Monotone (nat b)
  few : ∀ a, a + 72 ≤ 512 → emp (nat b) (a + 72) ≤ emp (nat b) a + 9

variable {b}

theorem from_eq (hb : Sorted b) (s : Fin 512) (j : ℕ) (h1 : ps (nat b) s.val ≤ j) (h2 : j < ps (nat b) s.val + cnt (nat b) s.val) (h3 : j < 116736) :
    (from' b j).val = j - ps (nat b) s.val + st (nat b) s.val := by
  have e : j % 116736 = j := Nat.mod_eq_of_lt h3
  have h := src_ap b hb.lt ⟨j % 116736, Nat.mod_lt _ (by norm_num)⟩ s.val s.isLt (by show _ ≤ j % 116736; rw [e]; exact h1) (by show j % 116736 < _; rw [e]; exact h2)
  have hs := st_succ (nat b) s.val
  have hle := st_le (nat b) (s.val + 1)
  show (bSrc b _).toNat % 100000 = _
  rw [h]
  show (j % 116736 - ps (nat b) s.val + st (nat b) s.val) % 100000 = _
  rw [e, Nat.mod_eq_of_lt (by omega)]

/-- A segment's rows end before the padded rows do. -/
theorem end_le (s : Fin 512) : ps (nat b) s.val + cnt (nat b) s.val ≤ 116736 := by
  have h1 := ps_le (nat b) s.val
  have h2 := st_succ (nat b) s.val
  have h3 := st_le (nat b) (s.val + 1)
  have := s.isLt
  omega

theorem mem_J (s : Fin 512) (j : ℕ) : j ∈ J (nat b) 57 s.val ↔ ps (nat b) s.val ≤ j ∧ j < ps (nat b) s.val + cnt (nat b) s.val := by
  rw [J, Finset.mem_filter, Finset.mem_range, segN_eq _ s.isLt]
  have := end_le (b := b) s
  constructor
  · exact fun h => h.2
  · exact fun h => ⟨by omega, h⟩

/-- The padded rows of a segment hold its rows, each once. -/
theorem image_J (hb : Sorted b) (hlab : ∀ i, P.lab i = nat b i) (s : Fin 512) :
    Set.InjOn (from' b) (J (nat b) 57 s.val) ∧ (J (nat b) 57 s.val).image (from' b) = Step.rows P s := by
  have hend := end_le (b := b) s
  constructor
  · intro i hi j hj h
    have hi := (mem_J s i).mp hi
    have hj := (mem_J s j).mp hj
    have := from_eq hb s i hi.1 hi.2 (by omega)
    have := from_eq hb s j hj.1 hj.2 (by omega)
    have := congrArg Fin.val h
    omega
  · ext i
    rw [Finset.mem_image, Step.rows, Finset.mem_filter, hlab, eq_seg _ hb.mono]
    constructor
    · rintro ⟨j, hj, rfl⟩
      have hj := (mem_J s j).mp hj
      have := from_eq hb s j hj.1 hj.2 (by omega)
      exact ⟨Finset.mem_univ _, by omega, by omega⟩
    · rintro ⟨-, h1, h2⟩
      have hm : ps (nat b) s.val ≤ i.val - st (nat b) s.val + ps (nat b) s.val ∧ i.val - st (nat b) s.val + ps (nat b) s.val < ps (nat b) s.val + cnt (nat b) s.val := ⟨by omega, by omega⟩
      refine ⟨i.val - st (nat b) s.val + ps (nat b) s.val, (mem_J s _).mpr hm, Fin.ext ?_⟩
      rw [from_eq hb s _ hm.1 hm.2 (by omega)]
      omega

/-- A weighted sum over the padded rows of a segment is the one over its rows. -/
theorem sm_J (hb : Sorted b) (hlab : ∀ i, P.lab i = nat b i) (S : Step.State) (s : Fin 512) (y : (Fin 128 → EReal) → EReal) :
    Online.sm (J (nat b) 57 s.val) (score (hidN P S) (XP P b) s.val) (fun j => y (XP P b j)) =
      Online.sm (Step.rows P s) (Step.sc P (Step.hid P S s)) (fun i => y (P.x i)) := by
  obtain ⟨hinj, him⟩ := image_J P hb hlab s
  have he : ∀ j, score (hidN P S) (XP P b) s.val j = Step.sc P (Step.hid P S s) (from' b j) := fun j => by
    unfold score Step.sc
    exact Finset.sum_congr rfl fun c _ => by rw [hidN, dif_pos s.isLt]; rfl
  have hmx : Online.mx (J (nat b) 57 s.val) (score (hidN P S) (XP P b) s.val) = Online.mx (Step.rows P s) (Step.sc P (Step.hid P S s)) := by
    unfold Online.mx
    rw [← him, Finset.sup_image]
    exact Finset.sup_congr rfl fun j _ => by rw [he]; rfl
  unfold Online.sm
  rw [hmx, ← him, Finset.sum_image hinj]
  exact Finset.sum_congr rfl fun j _ => by rw [he]; rfl

/-! ### The points -/

variable {P} {tb : S57.Idx → BitVec 32} (htb : TableOK tb) {W : (c : Dev nD) → Valuation τ sig (Elt Ideal)} {c : Dev nD}

/-- What the arrays that the call reads hold. -/
structure Arrays (P : Step.Par) (b : IVec S100000 32) (tb : S57.Idx → BitVec 32) (V : Valuation τ sig (Elt Ideal)) : Prop where
  hx : ∀ (q : Fin 116736) (j : Fin 128), V (Proc.devRef .tc main_v69) (ix2 q j) = XP P b q.val j
  hseg : ∀ (q : Fin 57) (k : Fin 2048), V (Proc.devRef .tc main_v70) (ix3 q 0 k) = BitVec.ofNat 32 (segN (nat b) (q.val * 2048 + k.val))
  hwt : Weights P (V (Proc.devRef .tc main_arg2)) (V (Proc.devRef .tc main_arg3)) (V (Proc.devRef .tc main_v72))
  htab : ∀ q : Fin 57, tb (ix1 q) = BitVec.ofNat 32 (min (seg (nat b) (64 * q.val)) 511)

theorem weights_at (hA : Arrays P b tb (W c)) (t : Fin (cfgT (F := Ideal) tb).N) : Weights P (blkOf tb W c 2 t) (blkOf tb W c 3 t) (blkOf tb W c 4 t) :=
  ⟨fun g k => (Points.wih_block tb W c t g k).trans (hA.hwt.hwih g k), fun g k => (Points.whh_block tb W c t g k).trans (hA.hwt.hwhh g k),
    fun g => (Points.bias_block tb W c t g).trans (hA.hwt.hb g)⟩

/-- One block's effect within a round. -/
theorem block_within (hb : Sorted b) (hA : Arrays P b tb (W c)) (t : Fin (cfgT (F := Ideal) tb).N) {σ : St Ideal} {S : Step.State}
    (h : Within P (XP P b) (J (nat b) (t.val % 57)) σ S) :
    Within P (XP P b) (J (nat b) (t.val % 57 + 1))
      (block (blkOf tb W c 0 t) (blkOf tb W c 1 t) (word (F := Ideal) (grid1.coords t) tb) (word_ok (F := Ideal) tb htb (grid1.coords t)) σ) S := by
  have hq : t.val % 57 < 57 := Nat.mod_lt _ (by norm_num)
  have ew := (Points.word_at tb t ⟨t.val % 57, hq⟩ rfl).trans (hA.htab ⟨t.val % 57, hq⟩)
  suffices hv : ∀ (v : BitVec 32) (hk : k1_chk1 v), v = BitVec.ofNat 32 (min (seg (nat b) (64 * (t.val % 57))) 511) →
      Within P (XP P b) (J (nat b) (t.val % 57 + 1)) (block (blkOf tb W c 0 t) (blkOf tb W c 1 t) v hk σ) S from hv _ _ ew
  rintro v hk rfl
  refine block_c h ?_ rfl
  have key := block_inv ⟨min (seg (nat b) (64 * (t.val % 57))) 511, by omega⟩ hk h.inv (blkOf tb W c 0 t) (blkOf tb W c 1 t) (rowsOf (t.val % 57)) (segN (nat b))
    (fun k j => (Points.x_block tb W c t k j ⟨t.val % 57 * 2048 + k.val, by have := k.isLt; omega⟩ rfl).trans (hA.hx _ j))
    (fun k => (Points.seg_block tb W c t k ⟨t.val % 57, hq⟩ rfl).trans (hA.hseg _ k))
    (fun k => segN_le _ _)
    (fun k hlt => by
      obtain ⟨h1, h2⟩ := window (nat b) hb.few hlt (p := 64 * (t.val % 57)) (j := rowsOf (t.val % 57) k) (by rw [rowsOf_ap]; omega) (by rw [rowsOf_ap]; have := k.isLt; omega) rfl
      show min (seg (nat b) (64 * (t.val % 57))) 511 / 8 * 8 ≤ _ ∧ _ < min (seg (nat b) (64 * (t.val % 57))) 511 / 8 * 8 + 80
      omega)
    (fun s k => J_dis _ _ _ _)
  have e : (fun s => J (nat b) (t.val % 57) s ∪ (Finset.univ.filter fun k => segN (nat b) (rowsOf (t.val % 57) k) = s).map (rowsOf (t.val % 57))) = J (nat b) (t.val % 57 + 1) :=
    funext fun s => J_succ _ _ _
  rw [e] at key
  exact key

/-- Rounds from the zero state. -/
def after (P : Step.Par) : ℕ → Step.State
  | 0 => Step.zero
  | n + 1 => Step.next P (after P n)

/-- What the scratch buffers hold before the point `n`. -/
def Good (P : Step.Par) (b : IVec S100000 32) (n : ℕ) (σ : St Ideal) : Prop :=
  if n = 0 then True else if n % 57 = 0 then AtStart σ (after P (n / 57)) else Within P (XP P b) (J (nat b) (n % 57)) σ (after P (n / 57))

theorem opened (hA : Arrays P b tb (W c)) (t : Fin (cfgT (F := Ideal) tb).N) {σ : St Ideal} (h : Good P b t.val σ) :
    Within P (XP P b) (J (nat b) (t.val % 57)) (opening (grid1.coords t) (blkOf tb W c 2 t) (blkOf tb W c 3 t) (blkOf tb W c 4 t) σ) (after P (t.val / 57)) := by
  unfold opening
  by_cases h0 : t.val = 0
  · rw [if_pos ((Points.start_at tb t).mpr (by rw [h0])), if_pos ((Points.first_at tb t).mpr h0), h0]
    show Within P (XP P b) (J (nat b) 0) _ Step.zero
    rw [J_zero]
    exact start_within (weights_at hA t) (init_start σ) _
  · rw [Good, if_neg h0] at h
    rw [if_neg (fun e => h0 ((Points.first_at tb t).mp e))]
    by_cases h1 : t.val % 57 = 0
    · rw [if_pos h1] at h
      rw [if_pos ((Points.start_at tb t).mpr h1), h1, J_zero]
      exact start_within (weights_at hA t) h _
    · rw [if_neg h1] at h
      rw [if_neg (fun e => h1 ((Points.start_at tb t).mp e))]
      exact h

theorem good_step (hbits : Ideal.ofBits .f32 0x24E69595#32 = (P.eps : EReal)) (hb : Sorted b) (hlab : ∀ i, P.lab i = nat b i)
    (hA : Arrays P b tb (W c)) (t : Fin (cfgT (F := Ideal) tb).N) {σ : St Ideal} (h : Good P b t.val σ) : Good P b (t.val + 1) (point tb htb W c t σ) := by
  have hw := block_within htb hb hA t (opened hA t h)
  rw [Good, if_neg (Nat.succ_ne_zero _)]
  unfold point closing
  by_cases h1 : t.val % 57 = 56
  · rw [if_pos (by omega), if_pos ((Points.last_at tb t).mpr h1), show (t.val + 1) / 57 = t.val / 57 + 1 by omega]
    rw [h1] at hw
    exact finish_start hbits hw fun s y => sm_J P hb hlab _ s y
  · rw [if_neg (by omega), if_neg (fun e => h1 ((Points.last_at tb t).mp e)), show (t.val + 1) / 57 = t.val / 57 by omega, show (t.val + 1) % 57 = t.val % 57 + 1 by omega]
    exact hw

theorem good_all (hbits : Ideal.ofBits .f32 0x24E69595#32 = (P.eps : EReal)) (hb : Sorted b) (hlab : ∀ i, P.lab i = nat b i)
    (hA : Arrays P b tb (W c)) (n : ℕ) (hn : n ≤ 228) : Good P b n (traj tb htb W c n) := by
  induction n with
  | zero => rw [Good, if_pos rfl]; trivial
  | succ n ih =>
    have hN := Points.N_T tb
    have h := good_step htb hbits hb hlab hA ⟨n, by omega⟩ (ih (by omega))
    rw [← traj_succ] at h
    exact h

/-- After the last point the query with its readout is the fourth round's. -/
theorem result_q (hbits : Ideal.ofBits .f32 0x24E69595#32 = (P.eps : EReal)) (hb : Sorted b) (hlab : ∀ i, P.lab i = nat b i)
    (hA : Arrays P b tb (W c)) (s : Fin 512) (k : Fin 256) :
    (traj tb htb W c 228).qs (ix2 s k) = (Step.next P (Step.next P (Step.next P (Step.next P Step.zero)))).q s k := by
  have h := good_all htb hbits hb hlab hA 228 le_rfl
  rw [Good, if_neg (by norm_num), if_pos (by norm_num)] at h
  exact h.q s k

end Cert.Proof.Rounds

end
-- ==== Proof.Final.lean ====
/-
  What the TensorCore call's arrays hold when it is made, and the kernel's result.
-/
module

public import proofs.«01_k».proof.Proof.Rounds
public import proofs.«01_k».proof.Proof.Run

@[expose] public section

set_option maxRecDepth 65536

noncomputable section

namespace Cert.Proof.Final

open Cert.KernelIdeal Cert.KernelIdeal.Gen
open Idealize.ShloMosaic Idealize.ShloMosaic.TcCoe
open Cert.Proof.Host Cert.Proof.Words Cert.Proof.Lay Cert.Proof.Run Cert.Proof.Rounds

variable (m : (ℓ : Loc nD τ sig) → Buf (Elt Ideal) ℓ) (d : Dev nD)

/-- The arguments. -/
abbrev kx : S100000x128.Idx → Ideal .f32 := V0 m d (Proc.devRef .tc main_arg0)
abbrev kbat : S100000.Idx → BitVec 32 := V0 m d (Proc.devRef .tc main_arg1)
abbrev kwih : S512x256.Idx → Ideal .f32 := V0 m d (Proc.devRef .tc main_arg2)
abbrev kwhh : S512x128.Idx → Ideal .f32 := V0 m d (Proc.devRef .tc main_arg3)
abbrev kbih : S512.Idx → Ideal .f32 := V0 m d (Proc.devRef .tc main_arg4)
abbrev kbhh : S512.Idx → Ideal .f32 := V0 m d (Proc.devRef .tc main_arg5)

theorem V1_arg (r : Ref sig .tc) (hA : r ∉ Host.opsA_W) (hB : r ∉ Host.opsB_W) (hC : r ∉ Host.opsC_W) (hD : r ∉ Host.opsD_W)
    (hG : r ∉ Host.opsG_W) (hH : r ∉ Host.opsH_W) : V1 m d (Proc.devRef .tc r) = V0 m d (Proc.devRef .tc r) := Host.before_keep (V0 m d) r hA hB hC hD hG hH

theorem lists_ap (b : IVec S100000 32) (p : Fin 116736) : bLists b (Sc.slot p) = bSrc b (ix1 p) := by
  have e : Sc.slot p = ix3 ⟨p.val / 3648, by omega⟩ ⟨p.val % 3648 / 96, by omega⟩ ⟨p.val % 96, by omega⟩ := by
    funext a; match a with
    | ⟨0, _⟩ => rfl
    | ⟨1, _⟩ => rfl
    | ⟨2, _⟩ => rfl
  rw [e]
  unfold bLists
  refine (shapeCast_apply (bSrc b) shapeCasts_S116736_S32x38x96 _ (ix1 p) ?_)
  refine (Shape.rowMajor_val_one _).trans ((Shape.rowMajor_val_three _).trans ?_).symm
  show (p.val / 3648 * 38 + p.val % 3648 / 96) * 96 + p.val % 96 = p.val
  omega

theorem blocks_ap (b : IVec S100000 32) (q : Fin 57) (k : Fin 2048) : bBlocks b (ix3 q 0 k) = bSegOf b (ix1 ⟨q.val * 2048 + k.val, by omega⟩) := by
  unfold bBlocks
  pointwise

theorem bias_ap (x y : S512.Idx → Ideal .f32) (g : Fin 512) : shapeCast S1x512 (addf (s := S512) (φ := .f32) x y) shapeCasts_S512_S1x512 (ix2 0 g) = x (ix1 g) + y (ix1 g) := by
  pointwise

theorem v69 (q : Fin 116736) (j : Fin 128) : V3 m d (Proc.devRef .tc main_v69) (ix2 q j) = kx m d (ix2 (from' (kbat m d) q.val) j) := by
  unfold V3
  rw [afterZ_keep _ main_v69 (by decide), V2_out]
  unfold Sc.gathered
  have e1 : X m d = kx m d := V1_arg m d main_arg0 (by decide) (by decide) (by decide) (by decide) (by decide) (by decide)
  have e2 : Sv m d = bLists (kbat m d) := before_v68 (V0 m d)
  rw [e1, e2]
  refine congrArg (kx m d) (funext fun a => Fin.ext ?_)
  have hq : (⟨q.val % 116736, Nat.mod_lt _ (by norm_num)⟩ : Fin 116736) = q := Fin.ext (Nat.mod_eq_of_lt q.isLt)
  match a with
  | ⟨0, _⟩ =>
    show (bLists (kbat m d) (Sc.slot q)).toNat % 100000 = (bSrc (kbat m d) (ix1 ⟨q.val % 116736, _⟩)).toNat % 100000
    rw [lists_ap, hq]
  | ⟨1, _⟩ => rfl

theorem v70 (q : Fin 57) (k : Fin 2048) : V3 m d (Proc.devRef .tc main_v70) (ix3 q 0 k) = bSegOf (kbat m d) (ix1 ⟨q.val * 2048 + k.val, by omega⟩) := by
  unfold V3
  rw [afterZ_main_v70, V2_keep m d _ (by decide)]
  have e : V1 m d (Proc.devRef .tc main_v64) = bSegOf (kbat m d) := before_v64 (V0 m d)
  rw [e]
  exact blocks_ap _ q k

theorem v72 (g : Fin 512) : V3 m d (Proc.devRef .tc main_v72) (ix2 0 g) = kbih m d (ix1 g) + kbhh m d (ix1 g) := by
  unfold V3
  rw [afterZ_main_v72, V2_keep m d _ (by decide), V2_keep m d _ (by decide),
    V1_arg m d main_arg4 (by decide) (by decide) (by decide) (by decide) (by decide) (by decide),
    V1_arg m d main_arg5 (by decide) (by decide) (by decide) (by decide) (by decide) (by decide)]
  exact bias_ap _ _ g

theorem last_whole (tb : S57.Idx → BitVec 32) (h : 227 < (Tc.cfgT (F := Ideal) tb).N) : ((Tc.cfgT (F := Ideal) tb).win 5).WholeAt ⟨227, h⟩ := by
  show ((Tc.cfgT (F := Ideal) fun _ => 0#32).win 5).WholeAt ⟨227, (show 227 < (Tc.cfgT (F := Ideal) fun _ => 0#32).N by decide +kernel)⟩
  decide +kernel

theorem v73 (s : Fin 512) (k : Fin 256) : V4 m d (Proc.devRef .tc main_v73) (ix2 s k) = (Tc.traj (tb m) (tb_ok m) (V3 m) d 228).qs (ix2 s k) := by
  unfold V4 Tc.W'
  have e := Pipeline.afterRegion_arr (Tc.dat (tb m) (tb_ok m) (V3 m) d) (V3 m d) arrs_inj 5
  have h : (Tc.dat (F := Ideal) (tb m) (tb_ok m) (V3 m) d).arrAt 5 (Tc.cfgT (F := Ideal) (tb m)).N = (Tc.traj (tb m) (tb_ok m) (V3 m) d 228).qs := by
    refine (Tc.dat (F := Ideal) (tb m) (tb_ok m) (V3 m) d).arrAt_eq_of_after_last 5 ⟨227, by rw [Points.N_T]; norm_num⟩ (last_whole _ _) _ fun j => ?_
    exact rfl
  exact congrFun (e.trans h) (ix2 s k)

/-- The kernel's result is the fourth round's query with its readout. -/
theorem kernel_result {P : Step.Par} (hbits : Ideal.ofBits .f32 0x24E69595#32 = (P.eps : EReal)) (hb : Sorted (kbat m 0))
    (hlab : ∀ i, P.lab i = nat (kbat m 0) i) (hx : ∀ i c, kx m 0 (ix2 i c) = P.x i c) (hwih : ∀ g k, kwih m 0 (ix2 g k) = P.wih g k)
    (hwhh : ∀ g k, kwhh m 0 (ix2 g k) = P.whh g k) (hbias : ∀ g, kbih m 0 (ix1 g) + kbhh m 0 (ix1 g) = P.b g) (s : Fin 512) (k : Fin 256) :
    V4 m 0 (Proc.devRef .tc main_v73) (ix2 s k) = (Step.next P (Step.next P (Step.next P (Step.next P Step.zero)))).q s k := by
  rw [v73]
  refine result_q (tb_ok m) hbits hb hlab ⟨fun q j => (v69 m 0 q j).trans (hx _ _), fun q k => (v70 m 0 q k).trans (segOf_ap _ hb.lt _), ⟨?_, ?_, fun g => (v72 m 0 g).trans (hbias g)⟩,
    fun q => bases_ap _ hb.lt q⟩ s k
  · rw [V3_keep m 0 main_arg2 (by decide) (by decide), V1_arg m 0 main_arg2 (by decide) (by decide) (by decide) (by decide) (by decide) (by decide)]; exact hwih
  · rw [V3_keep m 0 main_arg3 (by decide) (by decide), V1_arg m 0 main_arg3 (by decide) (by decide) (by decide) (by decide) (by decide) (by decide)]; exact hwhh

end Cert.Proof.Final

end
-- ==== Proof.Given.lean ====
/-
  What the precondition says of the arguments: segment numbers that are sorted and below 512, few empty segments near each other.
-/
module

public import proofs.«01_k».proof.Proof.Rounds
public import proofs.«01_k».proof.Pre_sorted_segments
public import proofs.«01_k».proof.Proof.Gen.Pre_sorted_segments

@[expose] public section

set_option maxRecDepth 65536

noncomputable section

namespace Cert.Proof.Given

open Idealize.ShloMosaic
open Cert.Pre_sorted_segments Cert.Pre_sorted_segments.Gen
open Cert.Proof.Words Cert.Proof.Lay Cert.Proof.Host Cert.Proof.Rounds

attribute [local instance] Cert.Pre_sorted_segments.Gen.facts

variable {x : FVec Ideal S100000x128 .f32} {b : IVec S100000 32} {wih : FVec Ideal S512x256 .f32} {whh : FVec Ideal S512x128 .f32} {bih bhh : FVec Ideal S512 .f32}

/-- The size of a segment counts the rows that carry its number. -/
theorem cnt_card {N : ℕ} (B : Fin N → ℕ) (s : ℕ) : cnt B s = (Finset.univ.filter fun i => B i = s).card := by
  have h : (Finset.univ.filter fun i => B i < s + 1) = (Finset.univ.filter fun i => B i < s) ∪ (Finset.univ.filter fun i => B i = s) := by
    ext i; simp only [Finset.mem_filter, Finset.mem_univ, true_and, Finset.mem_union]; omega
  have h2 := Finset.card_union_of_disjoint (s := Finset.univ.filter fun i => B i < s) (t := Finset.univ.filter fun i => B i = s)
    (Finset.disjoint_left.mpr fun i => by simp only [Finset.mem_filter, Finset.mem_univ, true_and]; omega)
  unfold cnt st
  rw [h, h2]; omega

theorem cnt_small (B : Fin 100000 → ℕ) (s : ℕ) : cnt B s ≤ 100000 := by
  rw [cnt_card]; exact (Finset.card_le_univ _).trans (Fintype.card_fin _).le
theorem emp_near (B : Fin 100000 → ℕ) (a : ℕ) (ha : a + 72 ≤ 512) :
    emp B (a + 72) ≤ emp B a + (Finset.univ.filter fun u : Fin 512 => (a ≤ u.val ∧ u.val < a + 72) ∧ cnt B u.val = 0).card := by
  unfold emp
  rw [← Finset.card_map Fin.valEmbedding]
  refine (Finset.card_le_card fun u hu => ?_).trans (Finset.card_union_le _ _)
  obtain ⟨h1, h2⟩ := Finset.mem_filter.mp hu
  have h1 := Finset.mem_range.mp h1
  rw [Finset.mem_union]
  rcases Nat.lt_or_ge u a with h | h
  · exact Or.inl (Finset.mem_filter.mpr ⟨Finset.mem_range.mpr h, h2⟩)
  · exact Or.inr (Finset.mem_map.mpr ⟨⟨u, by omega⟩, Finset.mem_filter.mpr ⟨Finset.mem_univ _, ⟨h, h1⟩, h2⟩, rfl⟩)

theorem card_same {n : ℕ} (p q : Fin n → Prop) [DecidablePred p] [DecidablePred q] (h : ∀ i, p i ↔ q i) : (Finset.univ.filter p).card = (Finset.univ.filter q).card :=
  congrArg Finset.card (Finset.filter_congr fun i _ => h i)

theorem rows_red : S512x100000.Reduces [1] S512 := by decide
theorem lift_row (s : Fin 512) (k : Fin 100000) : rows_red.lift (ix1 s) k = ix2 s k := by
  funext a; match a with
  | ⟨0, _⟩ => rfl
  | ⟨1, _⟩ => rfl
theorem near_red : S512x512.Reduces [1] S512 := by decide
theorem lift_near (s u : Fin 512) : near_red.lift (ix1 s) u = ix2 s u := by
  funext a; match a with
  | ⟨0, _⟩ => rfl
  | ⟨1, _⟩ => rfl
theorem eq_word_iff {a c : ℕ} (ha : a < 2 ^ 32) (hc : c < 2 ^ 32) : IntOp.cmpi .eq (BitVec.ofNat 32 a) (BitVec.ofNat 32 c) = 1#1 ↔ a = c := by
  rw [WordCmp.cmpi_eq_eq, WordCmp.ofBool_decide_eq_one_iff, WordCmp.ofNat_eq_ofNat_iff ha hc]

/-- How many of the 72 segments from `a` on are empty. -/
theorem near_count {B : Fin 100000 → ℕ} {S : IVec S512 32} (hS : ∀ u : Fin 512, S (ix1 u) = BitVec.ofNat 32 (cnt B u.val)) (a : Fin 512) :
    Host.reduce IntOp.addi (extui 32 (andi (andi
      (cmpi .sge (broadcastInDim S512x512 ![0, 1] bcast_S1x512_S512x512_0_1 (broadcastInDim S1x512 ![1] bcast_S512_S1x512_1 (iotaInDim S512 32 0)))
        (broadcastInDim S512x512 ![0, 1] bcast_S512x1_S512x512_0_1 (broadcastInDim S512x1 ![0] bcast_S512_S512x1_0 (iotaInDim S512 32 0))))
      (cmpi .slt (broadcastInDim S512x512 ![0, 1] bcast_S1x512_S512x512_0_1 (broadcastInDim S1x512 ![1] bcast_S512_S1x512_1 (iotaInDim S512 32 0)))
        (broadcastInDim S512x512 ![0, 1] bcast_S512x1_S512x512_0_1 (addi (broadcastInDim S512x1 ![0] bcast_S512_S512x1_0 (iotaInDim S512 32 0))
          (broadcastInDim S512x1 ![] bcast_S_S512x1 (constantI S_ 32 72#32))))))
      (broadcastInDim S512x512 ![0, 1] bcast_S1x512_S512x512_0_1 (broadcastInDim S1x512 ![1] bcast_S512_S1x512_1
        (cmpi .eq S (broadcastInDim S512 ![] bcast_S_S512 (constantI S_ 32 0#32)))))) natLt_1_32)
      (constantI S_ 32 0#32) reducesTo_S512x512_S512_d1 h_S_ (ix1 a) =
    BitVec.ofNat 32 (Finset.univ.filter fun u : Fin 512 => (a.val ≤ u.val ∧ u.val < a.val + 72) ∧ cnt B u.val = 0).card := by
  rw [count_ap _ _ _ near_red h_S_ rfl]
  refine congrArg (BitVec.ofNat 32) (card_same (n := 512) _ _ fun u => ?_)
  rw [show near_red.lift (ix1 a) u = ix2 a u from lift_near a u]
  pointwise
  rw [hS u]
  have hand : ∀ v w : BitVec 1, IntOp.andi v w = 1#1 ↔ v = 1#1 ∧ w = 1#1 := by decide
  have hadd : IntOp.addi (BitVec.ofNat 32 a.val) 72#32 = BitVec.ofNat 32 (a.val + 72) := (BitVec.ofNat_add a.val 72).symm
  have hc := cnt_small B u.val
  rw [hand, hand, hadd, WordCmp.cmpi_sge_ofNat_eq_one_iff (by omega) (by omega), slt_iff (by omega) (by omega), show (0#32) = BitVec.ofNat 32 0 from rfl,
    eq_word_iff (by omega) (by norm_num)]

section
variable (h2 : (fn (F := Ideal) x b wih whh bih bhh).1 = fun _ => 1#1)
include h2
theorem below (i : Fin 100000) : nat b i < 512 := by
  have e := congrFun h2 (ix1 i)
  unfold fn fn_part1 at e
  dsimp only at e
  revert e
  pointwise
  rw [show (512#32) = BitVec.ofNat 32 512 from rfl, WordCmp.andi_sge_zero_slt_ofNat (by norm_num), WordCmp.ofBool_decide_eq_one_iff]
  exact id

variable (h3 : (fn (F := Ideal) x b wih whh bih bhh).2.1 = fun _ => 1#1)
include h3
theorem ordered (i : Fin 99999) : nat b ⟨i.val, by omega⟩ ≤ nat b ⟨i.val + 1, by omega⟩ := by
  have e := congrFun h3 (ix1 i)
  unfold fn fn_part1 at e
  dsimp only at e
  revert e
  pointwise
  rw [word b (below h2) ⟨i.val, by omega⟩, word b (below h2) ⟨1 + i.val, by omega⟩]
  have ha := below h2 ⟨i.val, by omega⟩
  have hc := below h2 ⟨1 + i.val, by omega⟩
  intro e
  have h := (sle_iff (by omega) (by omega)).mp e
  have he : (⟨1 + i.val, by omega⟩ : Fin 100000) = ⟨i.val + 1, by omega⟩ := Fin.ext (by show 1 + i.val = i.val + 1; omega)
  rwa [he] at h

/-- Segment numbers in order at each step are in order throughout. -/
theorem sorted_nat : Monotone (nat b) := by
  have key : ∀ (k : ℕ) (i : ℕ) (h : i + k < 100000), nat b ⟨i, by omega⟩ ≤ nat b ⟨i + k, h⟩ := by
    intro k i
    induction k with
    | zero => exact fun h => le_rfl
    | succ k ih => exact fun h => (ih (by omega)).trans (ordered h2 h3 ⟨i + k, by omega⟩)
  intro i j hij
  have h : i.val ≤ j.val := hij
  have := key (j.val - i.val) i.val (by omega)
  have e : (⟨i.val + (j.val - i.val), by omega⟩ : Fin 100000) = j := Fin.ext (by show i.val + (j.val - i.val) = j.val; omega)
  rwa [e] at this
end

section
variable (h2 : (fn (F := Ideal) x b wih whh bih bhh).1 = fun _ => 1#1)
variable (h3 : (fn (F := Ideal) x b wih whh bih bhh).2.1 = fun _ => 1#1)
variable (h4 : (fn (F := Ideal) x b wih whh bih bhh).2.2 = fun _ => 1#1)
include h2 h4
theorem few_empty (a : ℕ) (ha : a + 72 ≤ 512) : emp (nat b) (a + 72) ≤ emp (nat b) a + 9 := by
  have e := congrFun h4 (ix1 ⟨a, by omega⟩)
  unfold fn fn_part1 at e
  dsimp only at e
  revert e
  have hs : ∀ s : Fin 512, Host.reduce IntOp.addi (extui 32 (cmpi .eq (broadcastInDim S512x100000 ![0, 1] bcast_S1x100000_S512x100000_0_1 (broadcastInDim S1x100000 ![1] bcast_S100000_S1x100000_1 b))
      (broadcastInDim S512x100000 ![0, 1] bcast_S512x1_S512x100000_0_1 (broadcastInDim S512x1 ![0] bcast_S512_S512x1_0 (iotaInDim S512 32 0)))) natLt_1_32)
      (constantI S_ 32 0#32) reducesTo_S512x100000_S512_d1 h_S_ (ix1 s) = BitVec.ofNat 32 (cnt (nat b) s.val) := fun s => by
    rw [count_ap _ _ _ rows_red h_S_ rfl, cnt_card]
    refine congrArg (BitVec.ofNat 32) (card_same (n := 100000) _ _ fun i => ?_)
    rw [show rows_red.lift (ix1 s) i = ix2 s i from lift_row s i]
    pointwise
    rw [word b (below h2) i, eq_word_iff (by have := below h2 i; omega) (by omega)]
  refine fun e => (emp_near (nat b) a ha).trans (Nat.add_le_add_left ?_ _)
  refine (sle_iff (lt_of_le_of_lt ((Finset.card_le_univ _).trans (Fintype.card_fin _).le) (by norm_num)) (by norm_num)).mp ?_
  rw [← near_count hs ⟨a, by omega⟩]
  exact e

include h3 in
/-- The segment numbers are as the layout needs them. -/
theorem sorted_b : Sorted b := ⟨below h2, sorted_nat h2 h3, few_empty h2 h4⟩
end

end Cert.Proof.Given

end
-- ==== Proof.Ref.lean ====
/-
  One round of the reference as a function of the values it reads, and what it is at an index.
-/
module

public import proofs.«01_k».proof.Proof.Block
public import proofs.«01_k».proof.Proof.Step
public import proofs.«01_k».proof.Proof.Gen.ReferenceIdeal.Run
public import Idealize.ShloMosaic.Lib.Pointwise
public import Idealize.ShloMosaic.Lib.Routing.Ops
public import Idealize.ShloMosaic.Lib.Routing.OpsPair

@[expose] public section

set_option maxRecDepth 65536

noncomputable section

namespace Cert.Proof.Ref

open Cert.ReferenceIdeal Cert.ReferenceIdeal.Gen
open Idealize.ShloMosaic Idealize.ShloMosaic.Routing

/-! ### Adding rows into a table -/

/-- Update `(i, y)` of a row-wise scatter lands at `(r, c)` exactly when row `i`'s index word, read signed, is `r` and `y` is `c`. -/
theorem lands_row {R C N : Nat} (d : ScatterDims (shape2 R C) (shape2 N 1) (shape2 N C)) (huw : d.updateWindowDims = [1]) (hiw : d.insertedWindowDims = [0])
    (hsd : d.scatterDimsToOperandDims = [0]) (hiv : d.indexVectorDim = 1) (idx : IVec (shape2 N 1) 32) (i : Fin N) (y : Fin C) (r : Fin R) (c : Fin C) :
    d.resultIdx? (ix2 i y) idx = some (ix2 r c) ↔ (idx (ix2 i 0)).toInt = (r.val : Int) ∧ y = c := by
  obtain ⟨uw, iw, sd, iv, wf⟩ := d
  simp only at huw hiw hsd hiv
  subst huw hiw hsd hiv
  refine (Routing.resultIdx?_ix2 _ _ idx r c).trans ?_
  have s1 : ∀ dd : ScatterDims (shape2 R C) (shape2 N 1) (shape2 N C), dd.scatterDimsToOperandDims = [0] → dd.start (ix2 i y) idx 1 = 0 := fun dd h => by
    unfold ScatterDims.start
    rw [dif_neg]
    rw [h]; exact fun h => absurd (List.mem_singleton.mp h) (by decide : (1 : Fin 2) ≠ 0)
  rw [s1 _ rfl]
  have w0 : ScatterDims.window (⟨[1], [0], [0], 1, wf⟩ : ScatterDims (shape2 R C) (shape2 N 1) (shape2 N C)) (ix2 i y) 0 = 0 := by
    unfold ScatterDims.window
    rw [dif_neg]
    intro h
    exact (of_decide_eq_true (List.mem_filter.1 h).2) (List.mem_singleton.2 rfl)
  have w1 : ScatterDims.window (⟨[1], [0], [0], 1, wf⟩ : ScatterDims (shape2 R C) (shape2 N 1) (shape2 N C)) (ix2 i y) 1 = y.val := by
    unfold ScatterDims.window
    rw [dif_pos (by show (1 : Fin 2) ∈ [(1 : Fin 2)]; exact List.mem_singleton.2 rfl)]
    rfl
  have s0 : ScatterDims.start (⟨[1], [0], [0], 1, wf⟩ : ScatterDims (shape2 R C) (shape2 N 1) (shape2 N C)) (ix2 i y) idx 0 = (idx (ix2 i 0)).toInt := by
    unfold ScatterDims.start
    rw [dif_pos (by show (0 : Fin 2) ∈ [(0 : Fin 2)]; exact List.mem_singleton.2 rfl)]
    refine congrArg (fun t => (idx t).toInt) (funext fun a => ?_)
    match a with
    | ⟨0, _⟩ => rfl
    | ⟨1, _⟩ => exact Subsingleton.elim (α := Fin 1) _ _
  rw [s0, w0, w1, Fin.ext_iff]
  omega

/-- A row-wise scatter-add at `(r, c)`: the operand's entry and the entries `c` of the update's rows that the index words send to `r`. -/
theorem scatter_add_ap {R C N : Nat} (d : ScatterDims (shape2 R C) (shape2 N 1) (shape2 N C)) (huw : d.updateWindowDims = [1]) (hiw : d.insertedWindowDims = [0])
    (hsd : d.scatterDimsToOperandDims = [0]) (hiv : d.indexVectorDim = 1) (z : (shape2 R C).Idx → Ideal .f32) (idx : IVec (shape2 N 1) 32) (upd : (shape2 N C).Idx → Ideal .f32)
    (r : Fin R) (c : Fin C) : Host.scatterAdd (F := Ideal) d z idx upd (ix2 r c) =
      z (ix2 r c) + ∑ i ∈ Finset.univ.filter (fun i : Fin N => (idx (ix2 i 0)).toInt = (r.val : Int)), upd (ix2 i c) := by
  show z (ix2 r c) + ∑ j ∈ Finset.univ.filter (fun j => d.resultIdx? j idx = some (ix2 r c)), upd j = _
  refine congrArg _ ?_
  rw [Finset.sum_filter, Finset.sum_filter]
  rw [sum_idx2]
  refine Finset.sum_congr rfl fun i _ => ?_
  simp only [lands_row d huw hiw hsd hiv]
  rw [Finset.sum_eq_single c]
  · exact if_congr (and_iff_left rfl) rfl rfl
  · intro y _ hy
    rw [if_neg fun h => hy h.2]
  · intro h; exact absurd (Finset.mem_univ c) h

/-! ### A round -/

section Round

variable (x : S100000x128.Idx → Ideal .f32) (bat : S100000.Idx → BitVec 32) (wih : S512x256.Idx → Ideal .f32) (whh : S512x128.Idx → Ideal .f32) (bih bhh : S512.Idx → Ideal .f32)

abbrev one128 : S512x128.Idx → Ideal .f32 := broadcastInDim S512x128 ![] bcast_S_S512x128 (constant (F := Ideal) S_ .f32 0x3F800000#32)
abbrev zero128 : S512x128.Idx → Ideal .f32 := broadcastInDim S512x128 ![] bcast_S_S512x128 (constant (F := Ideal) S_ .f32 0x00000000#32)
abbrev zero256 : S512x256.Idx → Ideal .f32 := broadcastInDim S512x256 ![] bcast_S_S512x256 (constant (F := Ideal) S_ .f32 0x00000000#32)

/-- The gates of a query and hidden states. -/
def gates (q : S512x256.Idx → Ideal .f32) (h : S512x128.Idx → Ideal .f32) : S512x512.Idx → Ideal .f32 :=
  addf (addf (addf (Host.dotGeneral dot_S512x256_S256x512_S512x512_1_0_0_1_n_n none q (transpose S256x512 [1, 0] wih transposes_S512x256_S256x512_1_0)) (Host.dotGeneral dot_S512x128_S128x512_S512x512_1_0_0_1_n_n none h (transpose S128x512 [1, 0] whh transposes_S512x128_S128x512_1_0))) (broadcastInDim S512x512 ![0, 1] bcast_S1x512_S512x512_0_1 (broadcastInDim S1x512 ![1] bcast_S512_S1x512_1 bih))) (broadcastInDim S512x512 ![0, 1] bcast_S1x512_S512x512_0_1 (broadcastInDim S1x512 ![1] bcast_S512_S1x512_1 bhh))

/-- The cells after the gates `g`. -/
def cells (g : S512x512.Idx → Ideal .f32) (c : S512x128.Idx → Ideal .f32) : S512x128.Idx → Ideal .f32 :=
  addf (mulf (Host.divf one128 (addf one128 (Host.exp (Host.negf (extractStridedSlice S512x128 ![0, 128] g slices_S512x512_S512x128_0_128))))) c) (mulf (Host.divf one128 (addf one128 (Host.exp (Host.negf (extractStridedSlice S512x128 ![0, 0] g slices_S512x512_S512x128_0_0))))) (Host.tanh (extractStridedSlice S512x128 ![0, 256] g slices_S512x512_S512x128_0_256)))

/-- The hidden states after the gates `g` and the new cells `c`. -/
def hiddens (g : S512x512.Idx → Ideal .f32) (c : S512x128.Idx → Ideal .f32) : S512x128.Idx → Ideal .f32 :=
  mulf (Host.divf one128 (addf one128 (Host.exp (Host.negf (extractStridedSlice S512x128 ![0, 384] g slices_S512x512_S512x128_0_384))))) (Host.tanh c)

/-- The labels as the gathers' row indices. -/
def ids : S100000x1.Idx → BitVec 32 :=
  broadcastInDim S100000x1 ![0] bcast_S100000_S100000x1_0 (select (cmpi .slt bat (broadcastInDim S100000 ![] bcast_S_S100000 (constantI S_ 32 0#32))) (addi bat (broadcastInDim S100000 ![] bcast_S_S100000 (constantI S_ 32 512#32))) bat)

/-- The score of every row. -/
def scores (h : S512x128.Idx → Ideal .f32) : S100000x1.Idx → Ideal .f32 :=
  broadcastInDim S100000x1 ![0] bcast_S100000_S100000x1_0 (Host.reduceAdd (mulf x (Host.gather gather_S512x128_S100000x1_S100000x128_1_0_n_n_0_1_1128 h (ids bat))) (constant S_ .f32 0x00000000#32) reducesTo_S100000x128_S100000_d1 h_S_)

/-- Which rows a segment has. -/
def member : S512x100000.Idx → BitVec 1 :=
  cmpi .eq (broadcastInDim S512x100000 ![0, 1] bcast_S1x100000_S512x100000_0_1 (broadcastInDim S1x100000 ![1] bcast_S100000_S1x100000_1 bat)) (broadcastInDim S512x100000 ![0, 1] bcast_S512x1_S512x100000_0_1 (broadcastInDim S512x1 ![0] bcast_S512_S512x1_0 (iotaInDim S512 32 0)))

/-- The greatest score of every segment. -/
def greatest (e : S100000x1.Idx → Ideal .f32) : S512x1.Idx → Ideal .f32 :=
  broadcastInDim S512x1 ![0] bcast_S512_S512x1_0 (Host.reduce FloatOps.maximumf (select (member bat) (broadcastInDim S512x100000 ![0, 1] bcast_S1x100000_S512x100000_0_1 (broadcastInDim S1x100000 ![1] bcast_S100000_S1x100000_1 (shapeCast S100000 e shapeCasts_S100000x1_S100000))) (broadcastInDim S512x100000 ![] bcast_S_S512x100000 (id (constant (F := Ideal) S_ .f32 0xFF800000#32)))) (constant (F := Ideal) S_ .f32 0xFF800000#32) reducesTo_S512x100000_S512_d1 h_S_)

/-- The greatest scores, zero where a segment has no row. -/
def masked (m : S512x1.Idx → Ideal .f32) : S512x1.Idx → Ideal .f32 :=
  select (cmpf .olt (Host.absf m) (broadcastInDim S512x1 ![] bcast_S_S512x1 (constant (F := Ideal) S_ .f32 0x7F800000#32))) m (broadcastInDim S512x1 ![] bcast_S_S512x1 (id (constant (F := Ideal) S_ .f32 0x00000000#32)))

/-- The exponential of every row's score relative to its segment's greatest. -/
def nums (e : S100000x1.Idx → Ideal .f32) (m : S512x1.Idx → Ideal .f32) : S100000x1.Idx → Ideal .f32 :=
  Host.exp (subf e (Host.gather gather_S512x1_S100000x1_S100000x1_1_0_n_n_0_1_11 (masked m) (ids bat)))

/-- The denominator of every segment. -/
def dens (a : S100000x1.Idx → Ideal .f32) : S512x1.Idx → Ideal .f32 :=
  addf (Host.scatterAdd scatter_S512x1_S100000x1_S100000x1_1_0_0_1 (broadcastInDim S512x1 ![] bcast_S_S512x1 (constant S_ .f32 0x00000000#32)) (broadcastInDim S100000x1 ![0] bcast_S100000_S100000x1_0 bat) a) (broadcastInDim S512x1 ![] bcast_S_S512x1 (constant S_ .f32 0x24E69595#32))

/-- The readout of every segment. -/
def reads (a : S100000x1.Idx → Ideal .f32) : S512x128.Idx → Ideal .f32 :=
  Host.scatterAdd scatter_S512x128_S100000x1_S100000x128_1_0_0_1 zero128 (broadcastInDim S100000x1 ![0] bcast_S100000_S100000x1_0 bat) (mulf (broadcastInDim S100000x128 ![0, 1] bcast_S100000x1_S100000x128_0_1 (Host.divf a (Host.gather gather_S512x1_S100000x1_S100000x1_1_0_n_n_0_1_11 (dens bat a) (ids bat)))) x)

/-- The next query: the hidden states and their readout side by side. -/
def query (h : S512x128.Idx → Ideal .f32) (a : S100000x1.Idx → Ideal .f32) : S512x256.Idx → Ideal .f32 :=
  concatenate S512x256 1 [⟨S512x128, h⟩, ⟨S512x128, reads x bat a⟩] concatenates_S512x128_S512x128_S512x256_d1

/-- The whole of a round's query from its hidden states. -/
def attend (h : S512x128.Idx → Ideal .f32) : S512x256.Idx → Ideal .f32 :=
  query x bat h (nums bat (scores x bat h) (greatest bat (scores x bat h)))

/-! ### A round at an index -/

theorem gates_ap (q : S512x256.Idx → Ideal .f32) (h : S512x128.Idx → Ideal .f32) (s g : Fin 512) : gates wih whh bih bhh q h (ix2 s g) =
    ∑ k : Fin 256, q (ix2 s k) * wih (ix2 g k) + ∑ k : Fin 128, h (ix2 s k) * whh (ix2 g k) + (bih (ix1 g) + bhh (ix1 g)) := by
  rw [← add_assoc]
  unfold gates
  pointwise

theorem cells_ap (g : S512x512.Idx → Ideal .f32) (c : S512x128.Idx → Ideal .f32) (s : Fin 512) (k : Fin 128) : cells g c (ix2 s k) =
    Ideal.logistic (g (ix2 s ⟨128 + k.val, by omega⟩)) * c (ix2 s k) + Ideal.logistic (g (ix2 s ⟨k.val, by omega⟩)) * Ideal.tanh (g (ix2 s ⟨256 + k.val, by omega⟩)) := by
  unfold cells Ideal.logistic
  pointwise

theorem hiddens_ap (g : S512x512.Idx → Ideal .f32) (c : S512x128.Idx → Ideal .f32) (s : Fin 512) (k : Fin 128) : hiddens g c (ix2 s k) =
    Ideal.logistic (g (ix2 s ⟨384 + k.val, by omega⟩)) * Ideal.tanh (c (ix2 s k)) := by
  unfold hiddens Ideal.logistic
  pointwise

theorem ids_ap (hb : ∀ i, Words.nat bat i < 512) (i : Fin 100000) : ids bat (ix2 i 0) = bat (ix1 i) := by
  have e : ids bat (ix2 i 0) = Scalar.select (IntOp.cmpi .slt (bat (ix1 i)) 0#32) (IntOp.addi (bat (ix1 i)) 512#32) (bat (ix1 i)) := by
    unfold ids
    pointwise
  rw [e]
  exact Routing.wrap_of_lt _ _ (lt_of_lt_of_le (hb i) (by norm_num))

theorem scores_ap0 (h : S512x128.Idx → Ideal .f32) (i : Fin 100000) : scores x bat h (ix2 i 0) =
    ∑ c : Fin 128, x (ix2 i c) * (Host.gather gather_S512x128_S100000x1_S100000x128_1_0_n_n_0_1_1128 h (ids bat)) (ix2 i c) := by
  unfold scores
  pointwise

theorem greatest_ap (e : S100000x1.Idx → Ideal .f32) (s : Fin 512) : greatest bat e (ix2 s 0) =
    Finset.fold max (⊥ : EReal) (fun i : Fin 100000 => if bat (ix1 i) = BitVec.ofNat 32 s.val then e (ix2 i 0) else (⊥ : EReal)) Finset.univ := by
  have h : greatest bat e (ix2 s 0) = Finset.fold max (Ideal.ofBits .f32 4286578688#32) (fun i : Fin 100000 =>
      Scalar.select (IntOp.cmpi .eq (bat (ix1 i)) (BitVec.ofNat 32 s.val)) (e (ix2 i 0)) (Ideal.ofBits .f32 4286578688#32)) Finset.univ := by
    unfold greatest member
    pointwise
    rfl
  rw [h, Block.bits_bot]
  simp only [Block.sel_eq]

theorem masked_ap (m : S512x1.Idx → Ideal .f32) (s : Fin 512) : masked m (ix2 s 0) = if max (m (ix2 s 0)) (-(m (ix2 s 0))) < (⊤ : EReal) then m (ix2 s 0) else 0 := by
  have h : masked m (ix2 s 0) = if max (m (ix2 s 0)) (-(m (ix2 s 0))) < Ideal.ofBits .f32 2139095040#32 then m (ix2 s 0) else Ideal.ofBits .f32 0#32 := by
    unfold masked
    pointwise
    exact if_congr Iff.rfl rfl Ideal.ofBits_zero_f32
  rw [h, Block.bits_top, Ideal.ofBits_zero_f32]

theorem nums_ap0 (e : S100000x1.Idx → Ideal .f32) (m : S512x1.Idx → Ideal .f32) (i : Fin 100000) : nums bat e m (ix2 i 0) =
    Ideal.exp (e (ix2 i 0) - (Host.gather gather_S512x1_S100000x1_S100000x1_1_0_n_n_0_1_11 (masked m) (ids bat)) (ix2 i 0)) := by
  unfold nums
  pointwise

theorem query_ap (h : S512x128.Idx → Ideal .f32) (a : S100000x1.Idx → Ideal .f32) (s : Fin 512) (k : Fin 256) : query x bat h a (ix2 s k) =
    if hk : k.val < 128 then h (ix2 s ⟨k.val, hk⟩) else reads x bat a (ix2 s ⟨k.val - 128, by omega⟩) := by
  unfold query
  pointwise

theorem dens_ap (a : S100000x1.Idx → Ideal .f32) (s : Fin 512) : dens bat a (ix2 s 0) =
    ∑ i ∈ Finset.univ.filter (fun i : Fin 100000 => (bat (ix1 i)).toInt = (s.val : Int)), a (ix2 i 0) + Ideal.ofBits .f32 0x24E69595#32 := by
  have e1 : ∀ i : Fin 100000, broadcastInDim S100000x1 ![0] bcast_S100000_S100000x1_0 bat (ix2 i 0) = bat (ix1 i) := fun i => by pointwise
  have e2 : broadcastInDim S512x1 ![] bcast_S_S512x1 (constant (F := Ideal) S_ .f32 0x00000000#32) (ix2 s 0) = 0 := by pointwise
  have e3 := scatter_add_ap scatter_S512x1_S100000x1_S100000x1_1_0_0_1 rfl rfl rfl rfl (broadcastInDim S512x1 ![] bcast_S_S512x1 (constant S_ .f32 0x00000000#32)) (broadcastInDim S100000x1 ![0] bcast_S100000_S100000x1_0 bat) a s 0
  simp only [e1, e2, zero_add] at e3
  rw [← e3]
  unfold dens
  pointwise

theorem reads_ap (a : S100000x1.Idx → Ideal .f32) (s : Fin 512) (c : Fin 128) : reads x bat a (ix2 s c) =
    ∑ i ∈ Finset.univ.filter (fun i : Fin 100000 => (bat (ix1 i)).toInt = (s.val : Int)),
      Ideal.div (a (ix2 i 0)) (Host.gather gather_S512x1_S100000x1_S100000x1_1_0_n_n_0_1_11 (dens bat a) (ids bat) (ix2 i 0)) * x (ix2 i c) := by
  have e1 : ∀ i : Fin 100000, broadcastInDim S100000x1 ![0] bcast_S100000_S100000x1_0 bat (ix2 i 0) = bat (ix1 i) := fun i => by pointwise
  have e2 : zero128 (ix2 s c) = 0 := by pointwise [zero128]
  have e3 := scatter_add_ap scatter_S512x128_S100000x1_S100000x128_1_0_0_1 rfl rfl rfl rfl zero128 (broadcastInDim S100000x1 ![0] bcast_S100000_S100000x1_0 bat)
    (mulf (broadcastInDim S100000x128 ![0, 1] bcast_S100000x1_S100000x128_0_1 (Host.divf a (Host.gather gather_S512x1_S100000x1_S100000x1_1_0_n_n_0_1_11 (dens bat a) (ids bat)))) x) s c
  simp only [e1, e2, zero_add] at e3
  refine Eq.trans e3 (Finset.sum_congr rfl fun i _ => ?_)
  pointwise

end Round

/-! ### A round against the step -/

section Agree

variable {x : S100000x128.Idx → Ideal .f32} {bat : S100000.Idx → BitVec 32} {P : Step.Par} (hb : ∀ i, Words.nat bat i < 512)
  (hl : ∀ i, P.lab i = Words.nat bat i) (hx : ∀ i c, x (ix2 i c) = P.x i c) (hε : 0 < P.eps) (hbits : Ideal.ofBits .f32 0x24E69595#32 = (P.eps : EReal))
  {h : S512x128.Idx → Ideal .f32} {H : Fin 512 → Fin 128 → EReal} (hh : ∀ s c, h (ix2 s c) = H s c)

include hb hl

/-- The label of a row as a segment. -/
def seg (i : Fin 100000) : Fin 512 := ⟨P.lab i, by rw [hl]; exact hb i⟩

theorem ids_seg (i : Fin 100000) : ids bat (ix2 i 0) = BitVec.ofNat 32 (seg hb hl i).val := by
  rw [ids_ap bat hb]
  show bat (ix1 i) = BitVec.ofNat 32 (P.lab i)
  rw [hl, Words.nat, BitVec.ofNat_toNat, BitVec.setWidth_eq]

theorem eq_word (i : Fin 100000) (s : Fin 512) : bat (ix1 i) = BitVec.ofNat 32 s.val ↔ P.lab i = s.val := by
  have h1 := hb i
  have h2 := s.isLt
  rw [hl, Words.nat, ← BitVec.toNat_inj, BitVec.toNat_ofNat, Nat.mod_eq_of_lt (by omega)]

theorem int_word (i : Fin 100000) (s : Fin 512) : (bat (ix1 i)).toInt = (s.val : Int) ↔ P.lab i = s.val := by
  have h1 : (bat (ix1 i)).toNat < 512 := hb i
  rw [hl, Words.nat, BitVec.toInt_eq_toNat_of_lt (by omega)]
  omega

theorem rows_word (s : Fin 512) : Finset.univ.filter (fun i : Fin 100000 => (bat (ix1 i)).toInt = (s.val : Int)) = Step.rows P s :=
  Finset.filter_congr fun i _ => int_word hb hl i s

theorem mem_rows (i : Fin 100000) : i ∈ Step.rows P (seg hb hl i) := Finset.mem_filter.mpr ⟨Finset.mem_univ i, rfl⟩

theorem of_rows {i : Fin 100000} {s : Fin 512} (hi : i ∈ Step.rows P s) : seg hb hl i = s := Fin.ext (Finset.mem_filter.mp hi).2

theorem gather1 (t : S512x1.Idx → Ideal .f32) (i : Fin 100000) :
    Host.gather gather_S512x1_S100000x1_S100000x1_1_0_n_n_0_1_11 t (ids bat) (ix2 i 0) = t (ix2 (seg hb hl i) 0) :=
  Routing.gather_row gather_S512x1_S100000x1_S100000x1_1_0_n_n_0_1_11 rfl rfl rfl rfl rfl t (ids bat) i 0 (seg hb hl i) (ids_seg hb hl i) (by norm_num)

theorem gather128 (t : S512x128.Idx → Ideal .f32) (i : Fin 100000) (c : Fin 128) :
    Host.gather gather_S512x128_S100000x1_S100000x128_1_0_n_n_0_1_1128 t (ids bat) (ix2 i c) = t (ix2 (seg hb hl i) c) :=
  Routing.gather_row gather_S512x128_S100000x1_S100000x128_1_0_n_n_0_1_1128 rfl rfl rfl rfl rfl t (ids bat) i c (seg hb hl i) (ids_seg hb hl i) (by norm_num)

include hx hh

theorem scores_ap (i : Fin 100000) : scores x bat h (ix2 i 0) = Step.sc P (H (seg hb hl i)) i := by
  rw [scores_ap0, Step.sc]
  refine Finset.sum_congr rfl fun c _ => ?_
  rw [gather128 hb hl, hx, hh, mul_comm]

theorem greatest_seg (s : Fin 512) : greatest bat (scores x bat h) (ix2 s 0) = Online.mx (Step.rows P s) (Step.sc P (H s)) := by
  rw [greatest_ap]
  have e : Online.mx (Step.rows P s) (Step.sc P (H s)) = (Step.rows P s).sup fun i => scores x bat h (ix2 i 0) :=
    Finset.sup_congr rfl fun i hi => by rw [scores_ap hb hl hx hh, of_rows hb hl hi]
  rw [e, Step.rows, Online.sup_filter]
  refine Finset.fold_congr fun i _ => ?_
  exact if_congr (eq_word hb hl i s) rfl rfl

theorem nums_ap (i : Fin 100000) : nums bat (scores x bat h) (greatest bat (scores x bat h)) (ix2 i 0) =
    Ideal.exp (Step.sc P (H (seg hb hl i)) i - Online.low (Online.mx (Step.rows P (seg hb hl i)) (Step.sc P (H (seg hb hl i))))) := by
  rw [nums_ap0, scores_ap hb hl hx hh, gather1 hb hl, masked_ap, greatest_seg hb hl hx hh]
  rfl

include hε hbits

theorem reads_seg (s : Fin 512) (c : Fin 128) :
    reads x bat (nums bat (scores x bat h) (greatest bat (scores x bat h))) (ix2 s c) = Step.readout P H s c := by
  rw [reads_ap, rows_word hb hl, Step.readout, ← Online.div_sum _ _ _ hε]
  have hd : ∑ j ∈ Step.rows P s, nums bat (scores x bat h) (greatest bat (scores x bat h)) (ix2 j 0) =
      ∑ j ∈ Step.rows P s, Ideal.exp (Step.sc P (H s) j - Online.low (Online.mx (Step.rows P s) (Step.sc P (H s)))) :=
    Finset.sum_congr rfl fun j hj => by rw [nums_ap hb hl hx hh, of_rows hb hl hj]
  refine Finset.sum_congr rfl fun i hi => ?_
  have hs := of_rows hb hl hi
  rw [gather1 hb hl, dens_ap, rows_word hb hl, hbits, nums_ap hb hl hx hh, hs, hx, hd]

theorem attend_ap (s : Fin 512) (k : Fin 256) : attend x bat h (ix2 s k) =
    if hk : k.val < 128 then h (ix2 s ⟨k.val, hk⟩) else Step.readout P H s ⟨k.val - 128, by omega⟩ := by
  rw [attend, query_ap]
  split
  · rfl
  · exact reads_seg hb hl hx hε hbits hh s _

end Agree

end Cert.Proof.Ref

end
-- ==== Proof.RefRounds.lean ====
/-
  The reference's result is four rounds from zeros.
-/
module

public import proofs.«01_k».proof.Proof.Ref

@[expose] public section

set_option maxRecDepth 65536

noncomputable section

namespace Cert.Proof.Ref

open Cert.ReferenceIdeal Cert.ReferenceIdeal.Gen
open Idealize.ShloMosaic

section

variable (x : S100000x128.Idx → Ideal .f32) (bat : S100000.Idx → BitVec 32) (wih : S512x256.Idx → Ideal .f32) (whh : S512x128.Idx → Ideal .f32) (bih bhh : S512.Idx → Ideal .f32)

/-- What a round of the reference carries to the next. -/
structure Carry where
  q : S512x256.Idx → Ideal .f32
  h : S512x128.Idx → Ideal .f32
  c : S512x128.Idx → Ideal .f32

/-- A round of the reference. -/
def step (r : Carry) : Carry where
  q := attend x bat (hiddens (gates wih whh bih bhh r.q r.h) (cells (gates wih whh bih bhh r.q r.h) r.c))
  h := hiddens (gates wih whh bih bhh r.q r.h) (cells (gates wih whh bih bhh r.q r.h) r.c)
  c := cells (gates wih whh bih bhh r.q r.h) r.c

def carry0 : Carry := ⟨zero256, zero128, zero128⟩

/-- A carry's entries are those of a state. -/
structure Reads (r : Carry) (σ : Step.State) : Prop where
  q : ∀ s k, r.q (ix2 s k) = σ.q s k
  h : ∀ s k, r.h (ix2 s k) = σ.h s k
  c : ∀ s k, r.c (ix2 s k) = σ.c s k

theorem reads_zero : Reads carry0 Step.zero where
  q s k := by show zero256 (ix2 s k) = 0; pointwise [zero256]
  h s k := by show zero128 (ix2 s k) = 0; pointwise [zero128]
  c s k := by show zero128 (ix2 s k) = 0; pointwise [zero128]

end

section

variable {x : S100000x128.Idx → Ideal .f32} {bat : S100000.Idx → BitVec 32} {wih : S512x256.Idx → Ideal .f32} {whh : S512x128.Idx → Ideal .f32} {bih bhh : S512.Idx → Ideal .f32}
  {P : Step.Par}

/-- The arrays are those that the rounds `P` read. -/
structure Holds (P : Step.Par) (x : S100000x128.Idx → Ideal .f32) (bat : S100000.Idx → BitVec 32) (wih : S512x256.Idx → Ideal .f32) (whh : S512x128.Idx → Ideal .f32)
    (bih bhh : S512.Idx → Ideal .f32) : Prop where
  hwih : ∀ g k, wih (ix2 g k) = P.wih g k
  hwhh : ∀ g k, whh (ix2 g k) = P.whh g k
  hb : ∀ g, bih (ix1 g) + bhh (ix1 g) = P.b g
  hx : ∀ i c, x (ix2 i c) = P.x i c
  hbat : ∀ i, Words.nat bat i < 512
  lab : ∀ i, P.lab i = Words.nat bat i
  pos : 0 < P.eps
  eps : Ideal.ofBits .f32 0x24E69595#32 = (P.eps : EReal)

theorem reads_step (hP : Holds P x bat wih whh bih bhh) {r : Carry} {σ : Step.State} (hr : Reads r σ) :
    Reads (step x bat wih whh bih bhh r) (Step.next P σ) := by
  have hg : ∀ s g, gates wih whh bih bhh r.q r.h (ix2 s g) = Step.gate P σ s g := fun s g => by
    rw [gates_ap, Step.gate]
    simp only [hr.q, hr.h, hP.hwih, hP.hwhh, hP.hb]
  have hc : ∀ s k, cells (gates wih whh bih bhh r.q r.h) r.c (ix2 s k) = Step.cell P σ s k := fun s k => by
    rw [cells_ap, Step.cell]
    simp only [hg, hr.c]
  have hh : ∀ s k, hiddens (gates wih whh bih bhh r.q r.h) (cells (gates wih whh bih bhh r.q r.h) r.c) (ix2 s k) = Step.hid P σ s k := fun s k => by
    rw [hiddens_ap, Step.hid]
    simp only [hg, hc]
  refine ⟨fun s k => ?_, hh, hc⟩
  refine (attend_ap hP.hbat hP.lab hP.hx hP.pos hP.eps (H := Step.hid P σ) hh s k).trans ?_
  show _ = if h : k.val < 128 then Step.hid P σ s ⟨k.val, h⟩ else Step.readout P (Step.hid P σ) s ⟨k.val - 128, by omega⟩
  split
  · exact hh s _
  · rfl

end

/-! ### The printed terms -/

open Cert.ReferenceIdeal.Value

variable (V0 : Valuation τ sig (Elt Ideal))

abbrev ax : S100000x128.Idx → Ideal .f32 := V0 (Proc.devRef .tc main_arg0)
abbrev abat : S100000.Idx → BitVec 32 := V0 (Proc.devRef .tc main_arg1)
abbrev awih : S512x256.Idx → Ideal .f32 := V0 (Proc.devRef .tc main_arg2)
abbrev awhh : S512x128.Idx → Ideal .f32 := V0 (Proc.devRef .tc main_arg3)
abbrev abih : S512.Idx → Ideal .f32 := V0 (Proc.devRef .tc main_arg4)
abbrev abhh : S512.Idx → Ideal .f32 := V0 (Proc.devRef .tc main_arg5)

abbrev stepV : Carry → Carry := step (ax V0) (abat V0) (awih V0) (awhh V0) (abih V0) (abhh V0)
abbrev gatesV : (S512x256.Idx → Ideal .f32) → (S512x128.Idx → Ideal .f32) → S512x512.Idx → Ideal .f32 := gates (awih V0) (awhh V0) (abih V0) (abhh V0)

/-- The carries after each round. -/
def r1 : Carry := stepV V0 carry0
def r2 : Carry := stepV V0 (r1 V0)
def r3 : Carry := stepV V0 (r2 V0)
def r4 : Carry := stepV V0 (r3 V0)

theorem g1 : res_main_v19 V0 = gatesV V0 zero256 zero128 := rfl
theorem c1 : res_main_v45 V0 = (r1 V0).c := by
  unfold res_main_v45
  rw [g1]
  rfl
theorem h1 : res_main_v47 V0 = (r1 V0).h := by
  unfold res_main_v47
  rw [c1, g1]
  rfl
theorem e1 : res_main_v57 V0 = scores (ax V0) (abat V0) (r1 V0).h := by
  unfold res_main_v57
  rw [h1]
  rfl
theorem m1 : res_main_v62 V0 = greatest (abat V0) (scores (ax V0) (abat V0) (r1 V0).h) := by
  unfold res_main_v62
  rw [e1]
  rfl
theorem a1 : res_main_v75 V0 = nums (abat V0) (scores (ax V0) (abat V0) (r1 V0).h) (greatest (abat V0) (scores (ax V0) (abat V0) (r1 V0).h)) := by
  unfold res_main_v75
  rw [e1, m1]
  rfl
theorem g2 : res_main_v105 V0 = gatesV V0 (r1 V0).q (r1 V0).h := by
  unfold res_main_v105
  rw [h1, a1]
  rfl
theorem c2 : res_main_v131 V0 = (r2 V0).c := by
  unfold res_main_v131
  rw [c1, g2]
  rfl
theorem h2 : res_main_v133 V0 = (r2 V0).h := by
  unfold res_main_v133
  rw [c2, g2]
  rfl
theorem e2 : res_main_v143 V0 = scores (ax V0) (abat V0) (r2 V0).h := by
  unfold res_main_v143
  rw [h2]
  rfl
theorem m2 : res_main_v148 V0 = greatest (abat V0) (scores (ax V0) (abat V0) (r2 V0).h) := by
  unfold res_main_v148
  rw [e2]
  rfl
theorem a2 : res_main_v161 V0 = nums (abat V0) (scores (ax V0) (abat V0) (r2 V0).h) (greatest (abat V0) (scores (ax V0) (abat V0) (r2 V0).h)) := by
  unfold res_main_v161
  rw [e2, m2]
  rfl
theorem g3 : res_main_v191 V0 = gatesV V0 (r2 V0).q (r2 V0).h := by
  unfold res_main_v191
  rw [h2, a2]
  rfl
theorem c3 : res_main_v217 V0 = (r3 V0).c := by
  unfold res_main_v217
  rw [c2, g3]
  rfl
theorem h3 : res_main_v219 V0 = (r3 V0).h := by
  unfold res_main_v219
  rw [c3, g3]
  rfl
theorem e3 : res_main_v229 V0 = scores (ax V0) (abat V0) (r3 V0).h := by
  unfold res_main_v229
  rw [h3]
  rfl
theorem m3 : res_main_v234 V0 = greatest (abat V0) (scores (ax V0) (abat V0) (r3 V0).h) := by
  unfold res_main_v234
  rw [e3]
  rfl
theorem a3 : res_main_v247 V0 = nums (abat V0) (scores (ax V0) (abat V0) (r3 V0).h) (greatest (abat V0) (scores (ax V0) (abat V0) (r3 V0).h)) := by
  unfold res_main_v247
  rw [e3, m3]
  rfl
theorem g4 : res_main_v277 V0 = gatesV V0 (r3 V0).q (r3 V0).h := by
  unfold res_main_v277
  rw [h3, a3]
  rfl
theorem h4 : res_main_v305 V0 = (r4 V0).h := by
  unfold res_main_v305
  rw [c3, g4]
  rfl
theorem e4 : res_main_v315 V0 = scores (ax V0) (abat V0) (r4 V0).h := by
  unfold res_main_v315
  rw [h4]
  rfl
theorem m4 : res_main_v320 V0 = greatest (abat V0) (scores (ax V0) (abat V0) (r4 V0).h) := by
  unfold res_main_v320
  rw [e4]
  rfl
theorem a4 : res_main_v333 V0 = nums (abat V0) (scores (ax V0) (abat V0) (r4 V0).h) (greatest (abat V0) (scores (ax V0) (abat V0) (r4 V0).h)) := by
  unfold res_main_v333
  rw [e4, m4]
  rfl

/-- The result is the last round's query. -/
theorem result : concatenate S512x256 1 [⟨S512x128, (res_main_v305 V0)⟩, ⟨S512x128, (Host.scatterAdd scatter_S512x128_S100000x1_S100000x128_1_0_0_1 (broadcastInDim S512x128 ![] bcast_S_S512x128 (constant S_ .f32 0x00000000#32)) (broadcastInDim S100000x1 ![0] bcast_S100000_S100000x1_0 (V0 (Proc.devRef .tc main_arg1))) (mulf (broadcastInDim S100000x128 ![0, 1] bcast_S100000x1_S100000x128_0_1 (Host.divf (res_main_v333 V0) (Host.gather gather_S512x1_S100000x1_S100000x1_1_0_n_n_0_1_11 (addf (Host.scatterAdd scatter_S512x1_S100000x1_S100000x1_1_0_0_1 (broadcastInDim S512x1 ![] bcast_S_S512x1 (constant S_ .f32 0x00000000#32)) (broadcastInDim S100000x1 ![0] bcast_S100000_S100000x1_0 (V0 (Proc.devRef .tc main_arg1))) (res_main_v333 V0)) (broadcastInDim S512x1 ![] bcast_S_S512x1 (constant S_ .f32 0x24E69595#32))) (broadcastInDim S100000x1 ![0] bcast_S100000_S100000x1_0 (select (cmpi .slt (V0 (Proc.devRef .tc main_arg1)) (broadcastInDim S100000 ![] bcast_S_S100000 (constantI S_ 32 0#32))) (addi (V0 (Proc.devRef .tc main_arg1)) (broadcastInDim S100000 ![] bcast_S_S100000 (constantI S_ 32 512#32))) (V0 (Proc.devRef .tc main_arg1))))))) (V0 (Proc.devRef .tc main_arg0))))⟩] concatenates_S512x128_S512x128_S512x256_d1 = (r4 V0).q := by
  rw [h4, a4]
  rfl

/-- Four rounds. -/
theorem result_ap {P : Step.Par} (hP : Holds P (ax V0) (abat V0) (awih V0) (awhh V0) (abih V0) (abhh V0)) (s : Fin 512) (k : Fin 256) :
    (r4 V0).q (ix2 s k) = (Step.next P (Step.next P (Step.next P (Step.next P Step.zero)))).q s k :=
  (reads_step hP (reads_step hP (reads_step hP (reads_step hP reads_zero)))).q s k

end Cert.Proof.Ref

end
-- ==== Proof.Equal.lean ====
/-
  The kernel's result at the ideal reading is the reference's.
-/
module

public import proofs.«01_k».proof.Proof.Frames
public import proofs.«01_k».proof.Proof.Final
public import proofs.«01_k».proof.Proof.Given
public import proofs.«01_k».proof.Proof.RefRounds

@[expose] public section

set_option Elab.async false
set_option maxRecDepth 65536

noncomputable section

namespace Cert.Proof.Equal

open Idealize.ShloMosaic Idealize.SL.Sem Idealize.ShloMosaic.TcCoe
open Cert.Proof.Final

/-- What the rounds read of the arguments. -/
def par (m : (ℓ : Loc Cert.KernelIdeal.nD Cert.KernelIdeal.τ Cert.KernelIdeal.sig) → Buf (Elt Ideal) ℓ) (ε : ℝ) : Step.Par where
  wih g k := kwih m 0 (ix2 g k)
  whh g k := kwhh m 0 (ix2 g k)
  b g := kbih m 0 (ix1 g) + kbhh m 0 (ix1 g)
  x i c := kx m 0 (ix2 i c)
  lab i := Words.nat (kbat m 0) i
  eps := ε

/-- The two programs give the same array. -/
theorem same : Cert.algebraic_KernelIdeal_ReferenceIdeal_pre_sorted_segments := fun m g m' g' hpre hargs => by
  obtain ⟨ε, hε, hbits⟩ := Block.bits_eps
  obtain ⟨p2, p3, p4⟩ := hpre 0
  obtain ⟨a0, a1, a2, a3, a4, a5⟩ := hargs 0
  have hb : Rounds.Sorted (kbat m 0) := Given.sorted_b p2 p3 p4
  have hk : ∀ s k, Run.V4 m 0 (Proc.devRef .tc Cert.KernelIdeal.main_v73) (ix2 s k) =
      (Step.next (par m ε) (Step.next (par m ε) (Step.next (par m ε) (Step.next (par m ε) Step.zero)))).q s k :=
    kernel_result m (P := par m ε) hbits hb (fun _ => rfl) (fun _ _ => rfl) (fun _ _ => rfl) (fun _ _ => rfl) (fun _ => rfl)
  refine ⟨fun c => Run.V4 m c (Proc.devRef .tc Cert.KernelIdeal.main_v73), ?_, ?_⟩
  · exact (θ_run Cert.KernelIdeal.defs _ _).mono (fun r h c => ⟨h.1 c (Proc.devRef .tc Cert.KernelIdeal.main_v73) (by decide), Run.args_kept m h c⟩) (Run.run_main m g)
  · refine (θ_run Cert.ReferenceIdeal.defs _ _).mono (fun r h c => ⟨(h c).1.trans ?_, (h c).2⟩) (Cert.ReferenceIdeal.Value.run (F := Ideal) m' g')
    obtain rfl : c = 0 := Subsingleton.elim _ _
    refine (Ref.result _).trans (funext fun j => ?_)
    obtain ⟨s, k, rfl⟩ : ∃ (s : Fin 512) (k : Fin 256), j = ix2 s k := ⟨j 0, j 1, by
      funext a; match a with
      | ⟨0, _⟩ => rfl
      | ⟨1, _⟩ => rfl⟩
    refine (Ref.result_ap _ (P := par m ε) ?_ s k).trans (hk s k).symm
    exact
      { hwih := fun g k => congrFun a2 (ix2 g k)
        hwhh := fun g k => congrFun a3 (ix2 g k)
        hb := fun g => congrArg₂ (fun u v : EReal => u + v) (congrFun a4 (ix1 g)) (congrFun a5 (ix1 g))
        hx := fun i c => congrFun a0 (ix2 i c)
        hbat := fun i => (congrArg BitVec.toNat (congrFun a1 (ix1 i))).trans_lt (hb.lt i)
        lab := fun i => (congrArg BitVec.toNat (congrFun a1 (ix1 i))).symm
        pos := hε
        eps := hbits }

end Cert.Proof.Equal

end
-- ==== Proof.lean ====
/-
  The claim: the frames of the three programs, that the ideal reading preserves the kernel, and that the kernel's result at the
  ideal reading is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_sorted_segments
public import proofs.«01_k».proof.Proof.Gen.ReferenceIdeal.Run
public import Idealize.ShloMosaic.Adequacy
public import Idealize.ShloMosaic.Init
public import proofs.«01_k».proof.Proof.Equal

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_sorted_segments.Gen.facts,
  Run.frame_k, Run.frame_i, Run.frame_i_pre, Run.frame_r, Run.frame_r_pre, trivial, Equal.same⟩

end Cert.Proof

end
